-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GuardedIdeal (m : (ℓ : Loc Cert.GuardedIdeal.nD Cert.GuardedIdeal.τ Cert.GuardedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_GuardedIdeal_on_unguarded [hKernelIdeal : Cert.KernelIdeal.Facts] [hGuardedIdeal : Cert.GuardedIdeal.Facts] [hOn_unguarded : Cert.On_unguarded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GuardedIdeal.nD Cert.GuardedIdeal.τ Cert.GuardedIdeal.sig) → Buf (Elt Ideal) ℓ) (g' : Dev Cert.GuardedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.GuardedIdeal.nD).tc : Thread Cert.GuardedIdeal.nD Cert.GuardedIdeal.τ).loc Cert.GuardedIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.GuardedIdeal.nD).tc : Thread Cert.GuardedIdeal.nD Cert.GuardedIdeal.τ).loc Cert.GuardedIdeal.main_arg1))) →
    ∃ (v0 : Buf (Elt Ideal) (((0 : Dev Cert.GuardedIdeal.nD).tc : Thread Cert.GuardedIdeal.nD Cert.GuardedIdeal.τ).loc Cert.GuardedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 2048]⟩ 1 8 c ((Cert.On_unguarded.fn (F := Ideal) (m' (((0 : Dev Cert.GuardedIdeal.nD).tc : Thread Cert.GuardedIdeal.nD Cert.GuardedIdeal.τ).loc Cert.GuardedIdeal.main_arg0)) (m' (((0 : Dev Cert.GuardedIdeal.nD).tc : Thread Cert.GuardedIdeal.nD Cert.GuardedIdeal.τ).loc Cert.GuardedIdeal.main_arg1)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 2048]⟩ 1 8 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.GuardedIdeal.defs (F := Ideal)) (onTc (τ := Cert.GuardedIdeal.τ) (Cert.GuardedIdeal.main (F := Ideal))) ⟨m', fun _ => 0, g'⟩ (fun r =>
          (∀ i : (⟨2, ![4096, 2048]⟩ : Shape).Idx, (Cert.On_unguarded.fn (F := Ideal) (m' (((0 : Dev Cert.GuardedIdeal.nD).tc : Thread Cert.GuardedIdeal.nD Cert.GuardedIdeal.τ).loc Cert.GuardedIdeal.main_arg0)) (m' (((0 : Dev Cert.GuardedIdeal.nD).tc : Thread Cert.GuardedIdeal.nD Cert.GuardedIdeal.τ).loc Cert.GuardedIdeal.main_arg1))) i = 1#1 → r.2.mem (((0 : Dev Cert.GuardedIdeal.nD).tc : Thread Cert.GuardedIdeal.nD Cert.GuardedIdeal.τ).loc Cert.GuardedIdeal.main_v8) i = v0 i)
          ∧ r.2.mem (((0 : Dev Cert.GuardedIdeal.nD).tc : Thread Cert.GuardedIdeal.nD Cert.GuardedIdeal.τ).loc Cert.GuardedIdeal.main_arg0) = m' (((0 : Dev Cert.GuardedIdeal.nD).tc : Thread Cert.GuardedIdeal.nD Cert.GuardedIdeal.τ).loc Cert.GuardedIdeal.main_arg0)
          ∧ r.2.mem (((0 : Dev Cert.GuardedIdeal.nD).tc : Thread Cert.GuardedIdeal.nD Cert.GuardedIdeal.τ).loc Cert.GuardedIdeal.main_arg1) = m' (((0 : Dev Cert.GuardedIdeal.nD).tc : Thread Cert.GuardedIdeal.nD Cert.GuardedIdeal.τ).loc Cert.GuardedIdeal.main_arg1))

def Claim : Prop :=
  ∃ (hKernel : Cert.Kernel.Facts) (hKernelIdeal : Cert.KernelIdeal.Facts) (hReferenceIdeal : Cert.ReferenceIdeal.Facts) (hGuardedIdeal : Cert.GuardedIdeal.Facts) (hOn_unguarded : Cert.On_unguarded.Facts),
    quiescent_Kernel (hKernel := hKernel)
    ∧ quiescent_KernelIdeal (hKernelIdeal := hKernelIdeal)
    ∧ quiescent_ReferenceIdeal (hReferenceIdeal := hReferenceIdeal)
    ∧ quiescent_GuardedIdeal (hGuardedIdeal := hGuardedIdeal)
    ∧ preserves_Kernel_KernelIdeal
    ∧ algebraic_KernelIdeal_ReferenceIdeal (hKernelIdeal := hKernelIdeal) (hReferenceIdeal := hReferenceIdeal)
    ∧ algebraic_KernelIdeal_GuardedIdeal_on_unguarded (hKernelIdeal := hKernelIdeal) (hGuardedIdeal := hGuardedIdeal) (hOn_unguarded := hOn_unguarded)
-- ==== On_unguarded.lean ====
abbrev S4096x4096 : Shape := ⟨2, ![4096, 4096]⟩
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .bf16) (main_arg1 : FVec F S4096x2048 .bf16) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .bf16 := (truncf .bf16 · bitsLt_bf16_f32) main_v0
  let main_v2 : FVec F S4096x2048 .f32 := (extf .f32 · bitsLt_bf16_f32) main_v1
  let main_v3 : FVec F S4096x2048 .f32 := Host.absf main_v2
  let main_cst : FVec F S_ .f32 := constant S_ .f32 0x42700000#32
  let main_v4 : FVec F S4096x2048 .f32 := broadcastInDim S4096x2048 ![] bcast_S_S4096x2048 main_cst
  let main_v5 : IVec S4096x2048 1 := cmpf .ole main_v3 main_v4
  main_v5
-- ==== Kernel.lean ====
abbrev S512x4096 : Shape := ⟨2, ![512, 4096]⟩
abbrev S4096x256 : Shape := ⟨2, ![4096, 256]⟩
abbrev S8x4096x256 : Shape := ⟨3, ![8, 4096, 256]⟩
abbrev S8x512x256 : Shape := ⟨3, ![8, 512, 256]⟩
abbrev S2x7 : Shape := ⟨2, ![2, 7]⟩
abbrev S8x2 : Shape := ⟨2, ![8, 2]⟩
abbrev S_ : Shape := ⟨0, ![]⟩
abbrev S4096x128 : Shape := ⟨2, ![4096, 128]⟩
abbrev S1x4096x128 : Shape := ⟨3, ![1, 4096, 128]⟩
abbrev S1x1 : Shape := ⟨2, ![1, 1]⟩
abbrev S1x4096x256 : Shape := ⟨3, ![1, 4096, 256]⟩
abbrev S512x256 : Shape := ⟨2, ![512, 256]⟩
abbrev S512x128 : Shape := ⟨2, ![512, 128]⟩
abbrev S1x512x128 : Shape := ⟨3, ![1, 512, 128]⟩
abbrev S1x512x256 : Shape := ⟨3, ![1, 512, 256]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x256, .f32⟩
  | .local _ .vmem, ⟨0, _⟩ => ⟨S512x4096, .bf16⟩
  | .local _ .vmem, ⟨1, _⟩ => ⟨S4096x256, .bf16⟩
  | .local _ .vmem, ⟨2, _⟩ => ⟨S4096x256, .f32⟩
  | .local _ .vmem, ⟨3, _⟩ => ⟨S512x4096, .bf16⟩
  | .local _ .vmem, ⟨4, _⟩ => ⟨S8x4096x256, .bf16⟩
  | .local _ .vmem, ⟨5, _⟩ => ⟨S8x512x256, .bf16⟩
  | .local _ .vmem, ⟨6, _⟩ => ⟨S8x512x256, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v15 : Index := Scalar.indexCast v2
  let c0_11 : Index := 0#32
  let c0_12 : Index := 0#32
  ![v15.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let c0_i32_21 : BitVec 32 := 0#32
  ![v2.toNat, 0, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.xori v2 c1_i32_13
  let c1_i32_18 : BitVec 32 := 1#32
  let v20 : BitVec 32 := Scalar.muli v19 c1_i32_18
  let v21 : BitVec 32 := Scalar.addi c0_i32_19 v20
  v21.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : Index := Scalar.indexCast v2
  let c0_25 : Index := 0#32
  let c128_26 : Index := 128#32
  ![v32.toNat, 0, 128]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let c128_i32 : BitVec 32 := 128#32
  ![v2.toNat, 0, 128]
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_27 : BitVec 32 := 4#32
  let v36 : BitVec 32 := Scalar.xori v2 c4_i32_27
  let c1_i32_32 : BitVec 32 := 1#32
  let v37 : BitVec 32 := Scalar.muli v36 c1_i32_32
  let v38 : BitVec 32 := Scalar.addi c0_i32_33 v37
  v38.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_37 : BitVec 32 := 3#32
  let v47 : BitVec 32 := Scalar.xori v2 c3_i32_37
  let c1_i32_42 : BitVec 32 := 1#32
  let v48 : BitVec 32 := Scalar.muli v47 c1_i32_42
  let v49 : BitVec 32 := Scalar.addi c0_i32_43 v48
  v49.toNat
def k0_dev7 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_48 : BitVec 32 := 3#32
  let v58 : BitVec 32 := Scalar.xori v2 c3_i32_48
  let c1_i32_53 : BitVec 32 := 1#32
  let v59 : BitVec 32 := Scalar.muli v58 c1_i32_53
  let v60 : BitVec 32 := Scalar.addi c0_i32_54 v59
  v60.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_59 : BitVec 32 := 4#32
  let v69 : BitVec 32 := Scalar.xori v2 c4_i32_59
  let c1_i32_64 : BitVec 32 := 1#32
  let v70 : BitVec 32 := Scalar.muli v69 c1_i32_64
  let v71 : BitVec 32 := Scalar.addi c0_i32_65 v70
  v71.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v80 : BitVec 32 := Scalar.xori v2 c1_i32_70
  let c1_i32_75 : BitVec 32 := 1#32
  let v81 : BitVec 32 := Scalar.muli v80 c1_i32_75
  let v82 : BitVec 32 := Scalar.addi c0_i32_76 v81
  v82.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : Index := Scalar.indexCast v2
  let c0_87 : Index := 0#32
  let c0_88 : Index := 0#32
  ![v97.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v109 : BitVec 32 := Scalar.muli v2 c512_i32
  let v110 : Index := Scalar.indexCast v109
  let c0_92 : Index := 0#32
  ![v110.toNat, 0]
def k0_off7 (d0 : Dev nD) (c1_i32_93 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.xori v2 c1_i32_93
  let c0_i32_100 : BitVec 32 := 0#32
  let c0_i32_101 : BitVec 32 := 0#32
  ![v112.toNat, 0, 0]
def k0_off7_at (r : Fin 3) : BitVec 32 :=
  if r.val < 1 then
    1#32
  else
    if r.val < 2 then
      3#32
    else
      4#32
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v122 : BitVec 32 := Scalar.xori v2 c3_i32_105
  let c1_i32_109 : BitVec 32 := 1#32
  let v123 : BitVec 32 := Scalar.muli v122 c1_i32_109
  let v124 : BitVec 32 := Scalar.addi c0_i32_110 v123
  v124.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_116 : BitVec 32 := 4#32
  let v134 : BitVec 32 := Scalar.xori v2 c4_i32_116
  let c1_i32_121 : BitVec 32 := 1#32
  let v135 : BitVec 32 := Scalar.muli v134 c1_i32_121
  let v136 : BitVec 32 := Scalar.addi c0_i32_122 v135
  v136.toNat
def k0_off8 (d0 : Dev nD) (c1_i32_127 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.xori v2 c1_i32_127
  let v147 : Index := Scalar.indexCast v145
  let c0_130 : Index := 0#32
  let c0_131 : Index := 0#32
  ![v147.toNat, 0, 0]
def k0_off8_at (r : Fin 3) : BitVec 32 :=
  if r.val < 1 then
    1#32
  else
    if r.val < 2 then
      3#32
    else
      4#32
def k0_off9 (d0 : Dev nD) (c1_i32_127 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.xori v2 c1_i32_127
  let v160 : Index := Scalar.indexCast v145
  let c0_136 : Index := 0#32
  let c0_137 : Index := 0#32
  ![v160.toNat, 0, 0]
def k0_off9_at (r : Fin 3) : BitVec 32 :=
  if r.val < 1 then
    1#32
  else
    if r.val < 2 then
      3#32
    else
      4#32
def k0_off10 (d0 : Dev nD) (c1_i32_127 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.xori v2 c1_i32_127
  let c0_i32_139 : BitVec 32 := 0#32
  ![v145.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_138 : BitVec 32 := 0#32
  ![v2.toNat, 0]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_142 : BitVec 32 := 0#32
  let c0_i32_143 : BitVec 32 := 0#32
  ![v2.toNat, 0, 0]
def k0_off13 (d0 : Dev nD) (c1_i32_127 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.xori v2 c1_i32_127
  let c0_i32_144 : BitVec 32 := 0#32
  let c0_i32_145 : BitVec 32 := 0#32
  ![v145.toNat, 0, 0]
def k0_dev12 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_127 : BitVec 32 := 1#32
  let v145 : BitVec 32 := Scalar.xori v2 c1_i32_127
  let c1_i32_140 : BitVec 32 := 1#32
  let v164 : BitVec 32 := Scalar.muli v145 c1_i32_140
  let v165 : BitVec 32 := Scalar.addi c0_i32_141 v164
  v165.toNat
def k0_off14 (d0 : Dev nD) (c4_i32_146 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v174 : BitVec 32 := Scalar.xori v2 c4_i32_146
  let c0_i32_153 : BitVec 32 := 0#32
  let c128_i32_154 : BitVec 32 := 128#32
  ![v174.toNat, 0, 128]
def k0_off14_at (r : Fin 3) : BitVec 32 :=
  if r.val < 1 then
    4#32
  else
    if r.val < 2 then
      3#32
    else
      1#32
def k0_dev13 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_158 : BitVec 32 := 3#32
  let v184 : BitVec 32 := Scalar.xori v2 c3_i32_158
  let c1_i32_163 : BitVec 32 := 1#32
  let v185 : BitVec 32 := Scalar.muli v184 c1_i32_163
  let v186 : BitVec 32 := Scalar.addi c0_i32_164 v185
  v186.toNat
def k0_dev14 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v196 : BitVec 32 := Scalar.xori v2 c1_i32_170
  let c1_i32_175 : BitVec 32 := 1#32
  let v197 : BitVec 32 := Scalar.muli v196 c1_i32_175
  let v198 : BitVec 32 := Scalar.addi c0_i32_176 v197
  v198.toNat
def k0_off15 (d0 : Dev nD) (c4_i32_181 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v207 : BitVec 32 := Scalar.xori v2 c4_i32_181
  let v209 : Index := Scalar.indexCast v207
  let c0_184 : Index := 0#32
  let c128_185 : Index := 128#32
  ![v209.toNat, 0, 128]
def k0_off15_at (r : Fin 3) : BitVec 32 :=
  if r.val < 1 then
    4#32
  else
    if r.val < 2 then
      3#32
    else
      1#32
def k0_off16 (d0 : Dev nD) (c4_i32_181 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v207 : BitVec 32 := Scalar.xori v2 c4_i32_181
  let v222 : Index := Scalar.indexCast v207
  let c0_190 : Index := 0#32
  let c128_191 : Index := 128#32
  ![v222.toNat, 0, 128]
def k0_off16_at (r : Fin 3) : BitVec 32 :=
  if r.val < 1 then
    4#32
  else
    if r.val < 2 then
      3#32
    else
      1#32
def k0_off17 (d0 : Dev nD) (c4_i32_181 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v207 : BitVec 32 := Scalar.xori v2 c4_i32_181
  let c1_i32_193 : BitVec 32 := 1#32
  ![v207.toNat, 1]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_192 : BitVec 32 := 1#32
  ![v2.toNat, 1]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_196 : BitVec 32 := 0#32
  let c128_i32_197 : BitVec 32 := 128#32
  ![v2.toNat, 0, 128]
def k0_off20 (d0 : Dev nD) (c4_i32_181 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v207 : BitVec 32 := Scalar.xori v2 c4_i32_181
  let c0_i32_198 : BitVec 32 := 0#32
  let c128_i32_199 : BitVec 32 := 128#32
  ![v207.toNat, 0, 128]
def k0_dev15 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_181 : BitVec 32 := 4#32
  let v207 : BitVec 32 := Scalar.xori v2 c4_i32_181
  let c1_i32_194 : BitVec 32 := 1#32
  let v226 : BitVec 32 := Scalar.muli v207 c1_i32_194
  let v227 : BitVec 32 := Scalar.addi c0_i32_195 v226
  v227.toNat
def k0_dev16 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_212 : BitVec 32 := 4#32
  let v246 : BitVec 32 := Scalar.xori v2 c4_i32_212
  let c1_i32_216 : BitVec 32 := 1#32
  let v247 : BitVec 32 := Scalar.muli v246 c1_i32_216
  let v248 : BitVec 32 := Scalar.addi c0_i32_217 v247
  v248.toNat
def k0_off21 (d0 : Dev nD) (c3_i32_222 : BitVec 32) (c1_i32_223 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v257 : BitVec 32 := Scalar.xori v2 c3_i32_222
  let v258 : BitVec 32 := Scalar.xori v257 c1_i32_223
  let c0_i32_230 : BitVec 32 := 0#32
  let c0_i32_231 : BitVec 32 := 0#32
  ![v258.toNat, 0, 0]
def k0_off21_at (r : Fin 3) : BitVec 32 × BitVec 32 :=
  if r.val < 1 then
    (3#32, 1#32)
  else
    if r.val < 2 then
      (4#32, 1#32)
    else
      (4#32, 3#32)
def k0_dev17 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_236 : BitVec 32 := 4#32
  let v269 : BitVec 32 := Scalar.xori v2 c4_i32_236
  let c1_i32_240 : BitVec 32 := 1#32
  let v270 : BitVec 32 := Scalar.muli v269 c1_i32_240
  let v271 : BitVec 32 := Scalar.addi c0_i32_241 v270
  v271.toNat
def k0_dev18 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_246 : BitVec 32 := 3#32
  let v280 : BitVec 32 := Scalar.xori v2 c3_i32_246
  let c1_i32_259 : BitVec 32 := 1#32
  let v299 : BitVec 32 := Scalar.muli v280 c1_i32_259
  let v300 : BitVec 32 := Scalar.addi c0_i32_260 v299
  v300.toNat
def k0_off22 (d0 : Dev nD) (c3_i32_265 : BitVec 32) (c1_i32_266 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.xori v2 c3_i32_265
  let v310 : BitVec 32 := Scalar.xori v309 c1_i32_266
  let v312 : Index := Scalar.indexCast v310
  let c0_269 : Index := 0#32
  let c0_270 : Index := 0#32
  ![v312.toNat, 0, 0]
def k0_off22_at (r : Fin 3) : BitVec 32 × BitVec 32 :=
  if r.val < 1 then
    (3#32, 1#32)
  else
    if r.val < 2 then
      (4#32, 1#32)
    else
      (4#32, 3#32)
def k0_off23 (d0 : Dev nD) (c3_i32_265 : BitVec 32) (c1_i32_266 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.xori v2 c3_i32_265
  let v310 : BitVec 32 := Scalar.xori v309 c1_i32_266
  let v325 : Index := Scalar.indexCast v310
  let c0_275 : Index := 0#32
  let c0_276 : Index := 0#32
  ![v325.toNat, 0, 0]
def k0_off23_at (r : Fin 3) : BitVec 32 × BitVec 32 :=
  if r.val < 1 then
    (3#32, 1#32)
  else
    if r.val < 2 then
      (4#32, 1#32)
    else
      (4#32, 3#32)
def k0_off24 (d0 : Dev nD) (c3_i32_265 : BitVec 32) (c1_i32_266 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.xori v2 c3_i32_265
  let v310 : BitVec 32 := Scalar.xori v309 c1_i32_266
  let c0_i32_278 : BitVec 32 := 0#32
  ![v310.toNat, 0]
def k0_off24_at (r : Fin 3) : BitVec 32 × BitVec 32 :=
  if r.val < 1 then
    (3#32, 1#32)
  else
    if r.val < 2 then
      (4#32, 1#32)
    else
      (4#32, 3#32)
def k0_off25 (d0 : Dev nD) (c3_i32_265 : BitVec 32) (c1_i32_266 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.xori v2 c3_i32_265
  let v310 : BitVec 32 := Scalar.xori v309 c1_i32_266
  let c0_i32_283 : BitVec 32 := 0#32
  let c0_i32_284 : BitVec 32 := 0#32
  ![v310.toNat, 0, 0]
def k0_off25_at (r : Fin 3) : BitVec 32 × BitVec 32 :=
  if r.val < 1 then
    (3#32, 1#32)
  else
    if r.val < 2 then
      (4#32, 1#32)
    else
      (4#32, 3#32)
def k0_dev19 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_265 : BitVec 32 := 3#32
  let v309 : BitVec 32 := Scalar.xori v2 c3_i32_265
  let c1_i32_266 : BitVec 32 := 1#32
  let v310 : BitVec 32 := Scalar.xori v309 c1_i32_266
  let c1_i32_279 : BitVec 32 := 1#32
  let v329 : BitVec 32 := Scalar.muli v310 c1_i32_279
  let v330 : BitVec 32 := Scalar.addi c0_i32_280 v329
  v330.toNat
def k0_dev20 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_297 : BitVec 32 := 1#32
  let v349 : BitVec 32 := Scalar.xori v2 c1_i32_297
  let c1_i32_302 : BitVec 32 := 1#32
  let v350 : BitVec 32 := Scalar.muli v349 c1_i32_302
  let v351 : BitVec 32 := Scalar.addi c0_i32_303 v350
  v351.toNat
def k0_off26 (d0 : Dev nD) (c3_i32_308 : BitVec 32) (c4_i32_309 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v360 : BitVec 32 := Scalar.xori v2 c3_i32_308
  let v361 : BitVec 32 := Scalar.xori v360 c4_i32_309
  let c0_i32_316 : BitVec 32 := 0#32
  let c128_i32_317 : BitVec 32 := 128#32
  ![v361.toNat, 0, 128]
def k0_off26_at (r : Fin 3) : BitVec 32 × BitVec 32 :=
  if r.val < 1 then
    (3#32, 4#32)
  else
    if r.val < 2 then
      (1#32, 4#32)
    else
      (1#32, 3#32)
def k0_dev21 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_322 : BitVec 32 := 1#32
  let v372 : BitVec 32 := Scalar.xori v2 c1_i32_322
  let c1_i32_327 : BitVec 32 := 1#32
  let v373 : BitVec 32 := Scalar.muli v372 c1_i32_327
  let v374 : BitVec 32 := Scalar.addi c0_i32_328 v373
  v374.toNat
def k0_dev22 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_333 : BitVec 32 := 3#32
  let v383 : BitVec 32 := Scalar.xori v2 c3_i32_333
  let c1_i32_346 : BitVec 32 := 1#32
  let v402 : BitVec 32 := Scalar.muli v383 c1_i32_346
  let v403 : BitVec 32 := Scalar.addi c0_i32_347 v402
  v403.toNat
def k0_off27 (d0 : Dev nD) (c3_i32_352 : BitVec 32) (c4_i32_353 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v412 : BitVec 32 := Scalar.xori v2 c3_i32_352
  let v413 : BitVec 32 := Scalar.xori v412 c4_i32_353
  let v415 : Index := Scalar.indexCast v413
  let c0_356 : Index := 0#32
  let c128_357 : Index := 128#32
  ![v415.toNat, 0, 128]
def k0_off27_at (r : Fin 3) : BitVec 32 × BitVec 32 :=
  if r.val < 1 then
    (3#32, 4#32)
  else
    if r.val < 2 then
      (1#32, 4#32)
    else
      (1#32, 3#32)
def k0_off28 (d0 : Dev nD) (c3_i32_352 : BitVec 32) (c4_i32_353 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v412 : BitVec 32 := Scalar.xori v2 c3_i32_352
  let v413 : BitVec 32 := Scalar.xori v412 c4_i32_353
  let v428 : Index := Scalar.indexCast v413
  let c0_362 : Index := 0#32
  let c128_363 : Index := 128#32
  ![v428.toNat, 0, 128]
def k0_off28_at (r : Fin 3) : BitVec 32 × BitVec 32 :=
  if r.val < 1 then
    (3#32, 4#32)
  else
    if r.val < 2 then
      (1#32, 4#32)
    else
      (1#32, 3#32)
def k0_off29 (d0 : Dev nD) (c3_i32_352 : BitVec 32) (c4_i32_353 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v412 : BitVec 32 := Scalar.xori v2 c3_i32_352
  let v413 : BitVec 32 := Scalar.xori v412 c4_i32_353
  let c1_i32_365 : BitVec 32 := 1#32
  ![v413.toNat, 1]
def k0_off29_at (r : Fin 3) : BitVec 32 × BitVec 32 :=
  if r.val < 1 then
    (3#32, 4#32)
  else
    if r.val < 2 then
      (1#32, 4#32)
    else
      (1#32, 3#32)
def k0_off30 (d0 : Dev nD) (c3_i32_352 : BitVec 32) (c4_i32_353 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v412 : BitVec 32 := Scalar.xori v2 c3_i32_352
  let v413 : BitVec 32 := Scalar.xori v412 c4_i32_353
  let c0_i32_370 : BitVec 32 := 0#32
  let c128_i32_371 : BitVec 32 := 128#32
  ![v413.toNat, 0, 128]
def k0_off30_at (r : Fin 3) : BitVec 32 × BitVec 32 :=
  if r.val < 1 then
    (3#32, 4#32)
  else
    if r.val < 2 then
      (1#32, 4#32)
    else
      (1#32, 3#32)
def k0_dev23 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v412 : BitVec 32 := Scalar.xori v2 c3_i32_352
  let c4_i32_353 : BitVec 32 := 4#32
  let v413 : BitVec 32 := Scalar.xori v412 c4_i32_353
  let c1_i32_366 : BitVec 32 := 1#32
  let v432 : BitVec 32 := Scalar.muli v413 c1_i32_366
  let v433 : BitVec 32 := Scalar.addi c0_i32_367 v432
  v433.toNat
def k0_dev24 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_383 : BitVec 32 := 4#32
  let v451 : BitVec 32 := Scalar.xori v2 c4_i32_383
  let c1_i32_396 : BitVec 32 := 1#32
  let v470 : BitVec 32 := Scalar.muli v451 c1_i32_396
  let v471 : BitVec 32 := Scalar.addi c0_i32_397 v470
  v471.toNat
def k0_dev25 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_413 : BitVec 32 := 1#32
  let v489 : BitVec 32 := Scalar.xori v2 c1_i32_413
  let c1_i32_426 : BitVec 32 := 1#32
  let v508 : BitVec 32 := Scalar.muli v489 c1_i32_426
  let v509 : BitVec 32 := Scalar.addi c0_i32_427 v508
  v509.toNat
def k0_dev26 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_444 : BitVec 32 := 4#32
  let v528 : BitVec 32 := Scalar.xori v2 c4_i32_444
  let c1_i32_445 : BitVec 32 := 1#32
  let v529 : BitVec 32 := Scalar.xori v528 c1_i32_445
  let c1_i32_458 : BitVec 32 := 1#32
  let v548 : BitVec 32 := Scalar.muli v529 c1_i32_458
  let v549 : BitVec 32 := Scalar.addi c0_i32_459 v548
  v549.toNat
def k0_dev27 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_476 : BitVec 32 := 1#32
  let v568 : BitVec 32 := Scalar.xori v2 c1_i32_476
  let c4_i32_477 : BitVec 32 := 4#32
  let v569 : BitVec 32 := Scalar.xori v568 c4_i32_477
  let c1_i32_490 : BitVec 32 := 1#32
  let v588 : BitVec 32 := Scalar.muli v569 c1_i32_490
  let v589 : BitVec 32 := Scalar.addi c0_i32_491 v588
  v589.toNat
def k0_dev28 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_508 : BitVec 32 := 4#32
  let v608 : BitVec 32 := Scalar.xori v2 c4_i32_508
  let c3_i32_509 : BitVec 32 := 3#32
  let v609 : BitVec 32 := Scalar.xori v608 c3_i32_509
  let c1_i32_522 : BitVec 32 := 1#32
  let v628 : BitVec 32 := Scalar.muli v609 c1_i32_522
  let v629 : BitVec 32 := Scalar.addi c0_i32_523 v628
  v629.toNat
def k0_dev29 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_540 : BitVec 32 := 1#32
  let v648 : BitVec 32 := Scalar.xori v2 c1_i32_540
  let c3_i32_541 : BitVec 32 := 3#32
  let v649 : BitVec 32 := Scalar.xori v648 c3_i32_541
  let c1_i32_554 : BitVec 32 := 1#32
  let v668 : BitVec 32 := Scalar.muli v649 c1_i32_554
  let v669 : BitVec 32 := Scalar.addi c0_i32_555 v668
  v669.toNat
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_560 : BitVec 32 := 4#32
  let v678 : BitVec 32 := Scalar.xori v2 c4_i32_560
  let c3_i32_561 : BitVec 32 := 3#32
  let v679 : BitVec 32 := Scalar.xori v678 c3_i32_561
  let c1_i32_562 : BitVec 32 := 1#32
  let v680 : BitVec 32 := Scalar.xori v679 c1_i32_562
  let c0_i32_569 : BitVec 32 := 0#32
  let c0_i32_570 : BitVec 32 := 0#32
  ![v680.toNat, 0, 0]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_573 : BitVec 32 := 4#32
  let v689 : BitVec 32 := Scalar.xori v2 c4_i32_573
  let c3_i32_574 : BitVec 32 := 3#32
  let v690 : BitVec 32 := Scalar.xori v689 c3_i32_574
  let c1_i32_575 : BitVec 32 := 1#32
  let v691 : BitVec 32 := Scalar.xori v690 c1_i32_575
  let v693 : Index := Scalar.indexCast v691
  let c0_578 : Index := 0#32
  let c0_579 : Index := 0#32
  ![v693.toNat, 0, 0]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_573 : BitVec 32 := 4#32
  let v689 : BitVec 32 := Scalar.xori v2 c4_i32_573
  let c3_i32_574 : BitVec 32 := 3#32
  let v690 : BitVec 32 := Scalar.xori v689 c3_i32_574
  let c1_i32_575 : BitVec 32 := 1#32
  let v691 : BitVec 32 := Scalar.xori v690 c1_i32_575
  let v706 : Index := Scalar.indexCast v691
  let c0_584 : Index := 0#32
  let c0_585 : Index := 0#32
  ![v706.toNat, 0, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_573 : BitVec 32 := 4#32
  let v689 : BitVec 32 := Scalar.xori v2 c4_i32_573
  let c3_i32_574 : BitVec 32 := 3#32
  let v690 : BitVec 32 := Scalar.xori v689 c3_i32_574
  let c1_i32_575 : BitVec 32 := 1#32
  let v691 : BitVec 32 := Scalar.xori v690 c1_i32_575
  let c0_i32_587 : BitVec 32 := 0#32
  ![v691.toNat, 0]
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_573 : BitVec 32 := 4#32
  let v689 : BitVec 32 := Scalar.xori v2 c4_i32_573
  let c3_i32_574 : BitVec 32 := 3#32
  let v690 : BitVec 32 := Scalar.xori v689 c3_i32_574
  let c1_i32_575 : BitVec 32 := 1#32
  let v691 : BitVec 32 := Scalar.xori v690 c1_i32_575
  let c0_i32_592 : BitVec 32 := 0#32
  let c0_i32_593 : BitVec 32 := 0#32
  ![v691.toNat, 0, 0]
def k0_dev30 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_573 : BitVec 32 := 4#32
  let v689 : BitVec 32 := Scalar.xori v2 c4_i32_573
  let c3_i32_574 : BitVec 32 := 3#32
  let v690 : BitVec 32 := Scalar.xori v689 c3_i32_574
  let c1_i32_575 : BitVec 32 := 1#32
  let v691 : BitVec 32 := Scalar.xori v690 c1_i32_575
  let c1_i32_588 : BitVec 32 := 1#32
  let v710 : BitVec 32 := Scalar.muli v691 c1_i32_588
  let v711 : BitVec 32 := Scalar.addi c0_i32_589 v710
  v711.toNat
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_594 : BitVec 32 := 1#32
  let v720 : BitVec 32 := Scalar.xori v2 c1_i32_594
  let c3_i32_595 : BitVec 32 := 3#32
  let v721 : BitVec 32 := Scalar.xori v720 c3_i32_595
  let c4_i32_596 : BitVec 32 := 4#32
  let v722 : BitVec 32 := Scalar.xori v721 c4_i32_596
  let c0_i32_603 : BitVec 32 := 0#32
  let c128_i32_604 : BitVec 32 := 128#32
  ![v722.toNat, 0, 128]
def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_607 : BitVec 32 := 1#32
  let v731 : BitVec 32 := Scalar.xori v2 c1_i32_607
  let c3_i32_608 : BitVec 32 := 3#32
  let v732 : BitVec 32 := Scalar.xori v731 c3_i32_608
  let c4_i32_609 : BitVec 32 := 4#32
  let v733 : BitVec 32 := Scalar.xori v732 c4_i32_609
  let v735 : Index := Scalar.indexCast v733
  let c0_612 : Index := 0#32
  let c128_613 : Index := 128#32
  ![v735.toNat, 0, 128]
def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_607 : BitVec 32 := 1#32
  let v731 : BitVec 32 := Scalar.xori v2 c1_i32_607
  let c3_i32_608 : BitVec 32 := 3#32
  let v732 : BitVec 32 := Scalar.xori v731 c3_i32_608
  let c4_i32_609 : BitVec 32 := 4#32
  let v733 : BitVec 32 := Scalar.xori v732 c4_i32_609
  let v748 : Index := Scalar.indexCast v733
  let c0_618 : Index := 0#32
  let c128_619 : Index := 128#32
  ![v748.toNat, 0, 128]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_607 : BitVec 32 := 1#32
  let v731 : BitVec 32 := Scalar.xori v2 c1_i32_607
  let c3_i32_608 : BitVec 32 := 3#32
  let v732 : BitVec 32 := Scalar.xori v731 c3_i32_608
  let c4_i32_609 : BitVec 32 := 4#32
  let v733 : BitVec 32 := Scalar.xori v732 c4_i32_609
  let c1_i32_621 : BitVec 32 := 1#32
  ![v733.toNat, 1]
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_607 : BitVec 32 := 1#32
  let v731 : BitVec 32 := Scalar.xori v2 c1_i32_607
  let c3_i32_608 : BitVec 32 := 3#32
  let v732 : BitVec 32 := Scalar.xori v731 c3_i32_608
  let c4_i32_609 : BitVec 32 := 4#32
  let v733 : BitVec 32 := Scalar.xori v732 c4_i32_609
  let c0_i32_626 : BitVec 32 := 0#32
  let c128_i32_627 : BitVec 32 := 128#32
  ![v733.toNat, 0, 128]
def k0_dev31 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_607 : BitVec 32 := 1#32
  let v731 : BitVec 32 := Scalar.xori v2 c1_i32_607
  let c3_i32_608 : BitVec 32 := 3#32
  let v732 : BitVec 32 := Scalar.xori v731 c3_i32_608
  let c4_i32_609 : BitVec 32 := 4#32
  let v733 : BitVec 32 := Scalar.xori v732 c4_i32_609
  let c1_i32_622 : BitVec 32 := 1#32
  let v752 : BitVec 32 := Scalar.muli v733 c1_i32_622
  let v753 : BitVec 32 := Scalar.addi c0_i32_623 v752
  v753.toNat
def k0_off41 (d0 : Dev nD) (c1_i32_628 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v762 : BitVec 32 := Scalar.xori v2 c1_i32_628
  let v779 : Index := Scalar.indexCast v762
  let c0_645 : Index := 0#32
  let c0_646 : Index := 0#32
  ![v779.toNat, 0, 0]
def k0_off42 (d0 : Dev nD) (c1_i32_628 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v762 : BitVec 32 := Scalar.xori v2 c1_i32_628
  let c512_i32_647 : BitVec 32 := 512#32
  let v783 : BitVec 32 := Scalar.muli v762 c512_i32_647
  let v784 : Index := Scalar.indexCast v783
  let c0_648 : Index := 0#32
  ![v784.toNat, 0]
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GuardedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Proto.lean ====
/-
# The all-gather matmul on eight devices: cells, contents, items

Devices are addressed relative to the running one by an exclusive or with a mask (`dx c m`). Each
device owns sixty-one semaphores the kernel uses: its barrier, and the four families of transfer
semaphores. Every buffer of the kernel has ONE final content function, so that a piece of a buffer is
either "at any contents" or "at that function"; the pieces are named by the inductive type `Pt`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.ValueKit.Geometry
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices by mask -/

set_option backward.proofsInPublic true in
/-- The device whose number differs from `c`'s in the bits of `k`. -/
def dx (c : Dev nD) (k : Fin 8) : Dev nD := ⟨(c.val ^^^ k.val) % 8, Nat.mod_lt _ (by decide)⟩
/-- Masks composed. -/
def mx (a b : Fin 8) : Fin 8 := ⟨(a.val ^^^ b.val) % 8, Nat.mod_lt _ (by decide)⟩

theorem dx_dx : ∀ (c : Dev nD) (a b : Fin 8), dx (dx c a) b = dx c (mx a b) := by decide +kernel
theorem dx_zero : ∀ c : Dev nD, dx c 0 = c := by decide +kernel
theorem mx_cancel : ∀ a b : Fin 8, mx a (mx b a) = b := by decide +kernel
theorem mx_self : ∀ a : Fin 8, mx a a = 0 := by decide +kernel
theorem dx_shift : ∀ (c : Dev nD) (t a : Fin 8), dx (dx c t) (mx a t) = dx c a := by decide +kernel
theorem dx_self : ∀ (c : Dev nD) (t : Fin 8), dx (dx c t) t = c := by decide +kernel
theorem dx_ne : ∀ (c : Dev nD) (t : Fin 8), t ≠ 0 → dx c t ≠ c := by decide +kernel
theorem dx_inj : ∀ (c : Dev nD) (a b : Fin 8), dx c a = dx c b → a = b := by decide +kernel
theorem dx_swap : ∀ (c : Dev nD) (a : Fin 8), (dx c a) = dx c a := fun _ _ => rfl

/-- Exclusive or with one mask, as a permutation of the devices. -/
def dxEquiv (k : Fin 8) : Dev nD ≃ Dev nD := ⟨fun c => dx c k, fun c => dx c k, fun c => dx_self c k, fun c => dx_self c k⟩

/-! ## The transfers: whom a copy of the weights goes to, whose block it carries -/

/-- The receiver of weight copy `(s, i)`, as a mask. -/
def tg : Fin 2 → Fin 7 → Fin 8
  | 0, i => (![1, 3, 3, 4, 4, 4, 4] : Fin 7 → Fin 8) i
  | 1, i => (![4, 3, 3, 1, 1, 1, 1] : Fin 7 → Fin 8) i
/-- Whose block the sender puts into weight copy `(s, i)`, as a mask of the sender. -/
def so : Fin 2 → Fin 7 → Fin 8
  | 0, i => (![0, 0, 1, 0, 1, 3, 2] : Fin 7 → Fin 8) i
  | 1, i => (![0, 0, 4, 0, 4, 3, 7] : Fin 7 → Fin 8) i
/-- The same block, as a mask of the receiver. -/
def rc (s : Fin 2) (i : Fin 7) : Fin 8 := mx (so s i) (tg s i)
/-- How many copies of that block the sender has issued before. -/
def dep : Fin 7 → ℕ := ![0, 1, 0, 2, 1, 0, 0]

theorem dx_tg_rc : ∀ (c : Dev nD) (s : Fin 2) (i : Fin 7), dx (dx c (tg s i)) (rc s i) = dx c (so s i) := by decide +kernel

/-- The landing slots, as masks of the receiver of copy `(s, i)`, whose permission rides on that copy:
    the slots in the origin's landing buffer of the devices the block is passed on to, and of the receiver. -/
def fwd : Fin 2 → Fin 7 → List (Fin 8)
  | 0, 0 => [0, 3, 4, 7] | 0, 1 => [0, 4] | 0, 2 => [0, 4] | 0, _ => [0]
  | 1, 0 => [0, 3, 1, 2] | 1, 1 => [0, 1] | 1, 2 => [0, 1] | 1, _ => [0]

/-! ## Semaphores -/

inductive Cell where
  | bar
  | ws (s : Fin 2) (i : Fin 7)
  | wr (s : Fin 2) (i : Fin 7)
  | ys (k : Fin 8) (s : Fin 2)
  | yr (k : Fin 8) (s : Fin 2)
deriving DecidableEq

/-- Every cell once. -/
def allCells : List Cell :=
  .bar :: ((List.finRange 2).flatMap fun s => (List.finRange 7).map (Cell.ws s)) ++ ((List.finRange 2).flatMap fun s => (List.finRange 7).map (Cell.wr s))
    ++ ((List.finRange 8).flatMap fun k => (List.finRange 2).map (Cell.ys k)) ++ ((List.finRange 8).flatMap fun k => (List.finRange 2).map (Cell.yr k))

/-- The kernel's barrier semaphore. -/
abbrev barS : Sem sig := (SemArray.scalar (sig.barrier 0 rfl) : Sems sig S_).sem

set_option backward.proofsInPublic true in
/-- A transfer semaphore by number. -/
def dmaN (n : ℕ) : DmaSem sig := ⟨n % 63, Nat.mod_lt _ (by decide)⟩

/-- The sixty-one semaphores in a row: the barrier, then the transfer semaphores from number three on. -/
def csem (k : Fin 61) : SemLoc sig := if k.val = 0 then .reg barS else .dma (dmaN (k.val + 2))
abbrev kcell (ck : Dev nD × Fin 61) : GSem nD τ sig := ((ck.1 : Thread nD τ), csem ck.2)

set_option backward.proofsInPublic true in
/-- Where a cell of device `c` lies in that row. -/
def ki (c : Dev nD) : Cell → Fin 61
  | .bar => 0
  | .ws s i => ⟨(1 + 7 * s.val + i.val) % 61, Nat.mod_lt _ (by decide)⟩
  | .wr s i => ⟨(15 + 7 * s.val + i.val) % 61, Nat.mod_lt _ (by decide)⟩
  | .ys k s => ⟨(29 + 2 * (dx c k).val + s.val) % 61, Nat.mod_lt _ (by decide)⟩
  | .yr k s => ⟨(45 + 2 * (dx c k).val + s.val) % 61, Nat.mod_lt _ (by decide)⟩

def cloc (c : Dev nD) (cl : Cell) : SemLoc sig := csem (ki c cl)
abbrev gcell (c : Dev nD) (cl : Cell) : GSem nD τ sig := kcell (c, ki c cl)

set_option backward.proofsInPublic true in
/-- The position in the row of a semaphore, by its number. -/
def rowOf : SemLoc sig → Option (Fin 61)
  | .reg _ => some 0
  | .dma j => if 3 ≤ j.val then some ⟨(j.val - 2) % 61, Nat.mod_lt _ (by decide)⟩ else none

theorem rowOf_csem : ∀ k : Fin 61, rowOf (csem k) = some k := by decide +kernel
theorem csem_inj {k k' : Fin 61} (h : csem k = csem k') : k = k' := by
  have := congrArg rowOf h; rw [rowOf_csem, rowOf_csem] at this; exact Option.some.inj this

/-- Which cell of its device a global semaphore is. -/
def dec (g : GSem nD τ sig) : Option Cell := (rowOf g.2).bind fun k => allCells.find? fun cl => ki g.1.1 cl = k

theorem find_ki_bar : ∀ (c : Dev nD), (allCells.find? fun cl => ki c cl = ki c .bar) = some .bar := by decide +kernel
theorem find_ki_ws : ∀ (c : Dev nD) (s : Fin 2) (i : Fin 7), (allCells.find? fun cl => ki c cl = ki c (.ws s i)) = some (.ws s i) := by decide +kernel
theorem find_ki_wr : ∀ (c : Dev nD) (s : Fin 2) (i : Fin 7), (allCells.find? fun cl => ki c cl = ki c (.wr s i)) = some (.wr s i) := by decide +kernel
theorem find_ki_ys : ∀ (c : Dev nD) (k : Fin 8) (s : Fin 2), (allCells.find? fun cl => ki c cl = ki c (.ys k s)) = some (.ys k s) := by decide +kernel
theorem find_ki_yr : ∀ (c : Dev nD) (k : Fin 8) (s : Fin 2), (allCells.find? fun cl => ki c cl = ki c (.yr k s)) = some (.yr k s) := by decide +kernel

theorem dec_gcell (c : Dev nD) (cl : Cell) : dec (gcell c cl) = some cl := by
  unfold dec
  show (rowOf (csem (ki c cl))).bind _ = _
  rw [rowOf_csem]
  show (allCells.find? fun x => ki c x = ki c cl) = some cl
  cases cl with
  | bar => exact find_ki_bar c
  | ws s i => exact find_ki_ws c s i
  | wr s i => exact find_ki_wr c s i
  | ys k s => exact find_ki_ys c k s
  | yr k s => exact find_ki_yr c k s

/-! ## The buffers -/

abbrev xM : Memref sig .tc .vmem S512x4096 .bf16 := Memref.whole cc0_stg0_0
abbrev wM : Memref sig .tc .vmem S4096x256 .bf16 := Memref.whole cc0_stg1_0
abbrev oM : Memref sig .tc .vmem S4096x256 .f32 := Memref.whole cc0_stg2_0
abbrev xbM : Memref sig .tc .vmem S512x4096 .bf16 := Memref.whole cc0_scratch0
abbrev wgM : Memref sig .tc .vmem S8x4096x256 .bf16 := Memref.whole cc0_scratch1
abbrev ybM : Memref sig .tc .vmem S8x512x256 .bf16 := Memref.whole cc0_scratch2
abbrev yiM : Memref sig .tc .vmem S8x512x256 .bf16 := Memref.whole cc0_scratch3

theorem inbW (o : Dev nD) (s : Fin 2) : ∀ a, (![o.val, 0, 128 * s.val] : Fin 3 → ℕ) a + S1x4096x128.size a ≤ S8x4096x256.size a := by
  revert o s; decide +kernel
theorem inbWw (o : Dev nD) : ∀ a, (![o.val, 0, 0] : Fin 3 → ℕ) a + S1x4096x256.size a ≤ S8x4096x256.size a := by
  revert o; decide +kernel
theorem inbY (o : Dev nD) (s : Fin 2) : ∀ a, (![o.val, 0, 128 * s.val] : Fin 3 → ℕ) a + S1x512x128.size a ≤ S8x512x256.size a := by
  revert o s; decide +kernel
theorem inbYw (o : Dev nD) : ∀ a, (![o.val, 0, 0] : Fin 3 → ℕ) a + S1x512x256.size a ≤ S8x512x256.size a := by
  revert o; decide +kernel
theorem inbO (o : Dev nD) : ∀ a, (![512 * o.val, 0] : Fin 2 → ℕ) a + S512x256.size a ≤ S4096x256.size a := by
  revert o; decide +kernel
theorem inbH (s : Fin 2) : ∀ a, (![0, 128 * s.val] : Fin 2 → ℕ) a + S4096x128.size a ≤ S4096x256.size a := by
  revert s; decide +kernel

/-- Half `s` of slot `o` of the gathered weights; the whole slot; the same of a result buffer; the rows
    of device `o` in the result; half `s` of the device's own weights. -/
abbrev rW (o : Dev nD) (s : Fin 2) : Rect S8x4096x256 := Rect.unit (s := S8x4096x256) ![o.val, 0, 128 * s.val] S1x4096x128.size (inbW o s)
abbrev rWw (o : Dev nD) : Rect S8x4096x256 := Rect.unit (s := S8x4096x256) ![o.val, 0, 0] S1x4096x256.size (inbWw o)
abbrev rY (o : Dev nD) (s : Fin 2) : Rect S8x512x256 := Rect.unit (s := S8x512x256) ![o.val, 0, 128 * s.val] S1x512x128.size (inbY o s)
abbrev rYw (o : Dev nD) : Rect S8x512x256 := Rect.unit (s := S8x512x256) ![o.val, 0, 0] S1x512x256.size (inbYw o)
abbrev rO (o : Dev nD) : Rect S4096x256 := Rect.unit (s := S4096x256) ![512 * o.val, 0] S512x256.size (inbO o)
abbrev rH (s : Fin 2) : Rect S4096x256 := Rect.unit (s := S4096x256) ![0, 128 * s.val] S4096x128.size (inbH s)

/-! ## The contents -/

/-- Device `c`'s block of `x`, and of the weights, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

set_option backward.proofsInPublic true in
def dvOf (n : ℕ) : Dev nD := ⟨n % 8, Nat.mod_lt _ (by decide)⟩
def hfOf (n : ℕ) : Fin 2 := ⟨n / 128 % 2, Nat.mod_lt _ (by decide)⟩

/-- A position of a gathered buffer, within its half slot; a position of the result, within its rows. -/
def inW (i : S8x4096x256.Idx) : S1x4096x128.Idx
  | 0 => ⟨0, by decide⟩ | 1 => i 1 | 2 => ⟨(i 2).val % 128, Nat.mod_lt _ (by decide)⟩
def inY (i : S8x512x256.Idx) : S1x512x128.Idx
  | 0 => ⟨0, by decide⟩ | 1 => i 1 | 2 => ⟨(i 2).val % 128, Nat.mod_lt _ (by decide)⟩
def inO (i : S4096x256.Idx) : S512x256.Idx
  | 0 => ⟨(i 0).val % 512, Nat.mod_lt _ (by decide)⟩ | 1 => i 1

/-- The kept copy of `x`. -/
def xF (c : Dev nD) : Vec F S512x4096 .bf16 := k0_pay3 (xstg m ρ c)
/-- Half `s` of device `o`'s weights, as stored in its slot. -/
def wh (o : Dev nD) (s : Fin 2) : Vec F S1x4096x128 .bf16 := k0_pay1 fun j => wstg m ρ o ((rH s).emb j)
/-- The gathered weights: the same on every device. -/
def wgF : Vec F S8x4096x256 .bf16 := fun i => wh m ρ (dvOf (i 0)) (hfOf (i 2)) (inW i)
/-- Half `s` of device `c`'s block of the result for device `o`. -/
def yv (c o : Dev nD) (s : Fin 2) : Vec F S1x512x128 .bf16 := k0_pay5 (xF m ρ c) fun j => wgF m ρ ((rW o s).emb j)
/-- The blocks a device sends; the blocks it gets. -/
def ybF (c : Dev nD) : Vec F S8x512x256 .bf16 := fun i => yv m ρ c (dvOf (i 0)) (hfOf (i 2)) (inY i)
def yiF (c : Dev nD) : Vec F S8x512x256 .bf16 := fun i => yv m ρ (dvOf (i 0)) c (hfOf (i 2)) (inY i)
/-- The result. -/
def outF (c : Dev nD) : Vec F S4096x256 .f32 := fun i =>
  if dvOf ((i 0).val / 512) = c then k0_pay4 (xF m ρ c) (fun j => wgF m ρ ((rWw c).emb j)) (inO i)
  else k0_pay30 (fun j => yiF m ρ c ((rYw (dvOf ((i 0).val / 512))).emb j)) (inO i)

/-! ## Pieces of buffers -/

/-- The pieces: of the gathered weights (`k`, half `s`, a share), on this device at the final contents, on the
    device `t` at any; of the blocks to send, at any contents and at the final; of the landing buffer, on device
    `t` at any contents, here at the final; the two staged inputs; the kept copy of `x`; the result's rows. -/
inductive Pt where
  | wg (k : Fin 8) (s : Fin 2) (kept : Bool) (n : ℕ)
  | wge (t k : Fin 8) (s : Fin 2)
  | ybe (k : Fin 8) (s : Fin 2)
  | yb (k : Fin 8) (s : Fin 2)
  | yie (t k : Fin 8) (s : Fin 2)
  | yi (k : Fin 8) (s : Fin 2)
  | x | w | xe | xb
  | oe (k : Fin 8)
  | of (k : Fin 8)
deriving DecidableEq

/-- What is kept of a slot after `n` copies of it were issued. -/
def keep : ℕ → PosShare TreeShare
  | 0 => fullShare
  | n + 1 => (keep n).right
/-- The share a slot piece is held at: what is kept after `n` copies, or what copy `n` took. -/
def shr (kept : Bool) (n : ℕ) : PosShare TreeShare := if kept then keep n else (keep n).left

theorem shr_split (n : ℕ) : shr true n ∈ shr false n ·? shr true (n + 1) := PosShare.mem_left_op_right (keep n)

/-- What a piece says on device `c`. -/
def ptAt (c : Dev nD) : Pt → sProp 𝕄
  | .wg k s b n => wgM.view.loc (c : Thread nD τ) ↦[(rW (dx c k) s).set]{shr b n} wgF m ρ
  | .wge t k s => iprop(∃ f : Buf (Elt F) (wgM.view.loc (dx c t : Thread nD τ)), wgM.view.loc (dx c t : Thread nD τ) ↦[(rW (dx c k) s).set]{fullShare} f)
  | .ybe k s => iprop(∃ f : Buf (Elt F) (ybM.view.loc (c : Thread nD τ)), ybM.view.loc (c : Thread nD τ) ↦[(rY (dx c k) s).set]{fullShare} f)
  | .yb k s => ybM.view.loc (c : Thread nD τ) ↦[(rY (dx c k) s).set]{fullShare} ybF m ρ c
  | .yie t k s => iprop(∃ f : Buf (Elt F) (yiM.view.loc (dx c t : Thread nD τ)), yiM.view.loc (dx c t : Thread nD τ) ↦[(rY (dx c k) s).set]{fullShare} f)
  | .yi k s => yiM.view.loc (c : Thread nD τ) ↦[(rY (dx c k) s).set]{fullShare} yiF m ρ c
  | .x => xM.view.loc (c : Thread nD τ) ↦{fullShare} xstg m ρ c
  | .w => wM.view.loc (c : Thread nD τ) ↦{fullShare} wstg m ρ c
  | .xe => iprop(∃ f : Buf (Elt F) (xbM.view.loc (c : Thread nD τ)), xbM.view.loc (c : Thread nD τ) ↦{fullShare} f)
  | .xb => xbM.view.loc (c : Thread nD τ) ↦{fullShare} xF m ρ c
  | .oe k => iprop(∃ f : Buf (Elt F) (oM.view.loc (c : Thread nD τ)), oM.view.loc (c : Thread nD τ) ↦[(rO (dx c k)).set]{fullShare} f)
  | .of k => oM.view.loc (c : Thread nD τ) ↦[(rO (dx c k)).set]{fullShare} outF m ρ c

instance ptAt_storable (c : Dev nD) (p : Pt) : BI.Storable (upEmb : UEmb _ 𝕄) (ptAt m ρ c p) := by
  cases p <;> (unfold ptAt; infer_instance)

/-- A piece of another device's buffer, as the device `dx c t` names it. -/
def Pt.shift (t : Fin 8) : Pt → Pt
  | .wge a k s => .wge (mx a t) (mx k t) s
  | .yie a k s => .yie (mx a t) (mx k t) s
  | p => p
def Pt.far : Pt → Bool
  | .wge .. => true | .yie .. => true | _ => false

omit [FloatOps F] in
theorem wge_congr {d d' o o' : Dev nD} (h : d = d') (h' : o = o') (s : Fin 2) :
    (iprop(∃ f : Buf (Elt F) (wgM.view.loc (d : Thread nD τ)), wgM.view.loc (d : Thread nD τ) ↦[(rW o s).set]{fullShare} f) : sProp 𝕄)
      = iprop(∃ f : Buf (Elt F) (wgM.view.loc (d' : Thread nD τ)), wgM.view.loc (d' : Thread nD τ) ↦[(rW o' s).set]{fullShare} f) := by subst h; subst h'; rfl
omit [FloatOps F] in
theorem yie_congr {d d' o o' : Dev nD} (h : d = d') (h' : o = o') (s : Fin 2) :
    (iprop(∃ f : Buf (Elt F) (yiM.view.loc (d : Thread nD τ)), yiM.view.loc (d : Thread nD τ) ↦[(rY o s).set]{fullShare} f) : sProp 𝕄)
      = iprop(∃ f : Buf (Elt F) (yiM.view.loc (d' : Thread nD τ)), yiM.view.loc (d' : Thread nD τ) ↦[(rY o' s).set]{fullShare} f) := by subst h; subst h'; rfl

theorem ptAt_shift (c : Dev nD) (t : Fin 8) (p : Pt) (hp : p.far = true) : ptAt m ρ (dx c t) (p.shift t) = ptAt m ρ c p := by
  cases p with
  | wge a k s => exact wge_congr (dx_shift c t a) (dx_shift c t k) s
  | yie a k s => exact yie_congr (dx_shift c t a) (dx_shift c t k) s
  | _ => exact (Bool.false_ne_true hp).elim

/-- A list of pieces, separately. -/
abbrev pts (c : Dev nD) (l : List Pt) : sProp 𝕄 := bigSepL l (ptAt m ρ c)

theorem bigSepL_far {M : Type} [URA M] (t : Fin 8) {Φ Ψ : Pt → sProp M} (hΦ : ∀ p : Pt, p.far = true → Ψ (p.shift t) = Φ p) :
    ∀ l : List Pt, l.all Pt.far = true → bigSepL (l.map (Pt.shift t)) Ψ = bigSepL l Φ
  | [], _ => rfl
  | p :: l, h => by
    rw [List.all_cons, Bool.and_eq_true] at h
    rw [List.map_cons, bigSepL_cons, bigSepL_cons, hΦ p h.1, bigSepL_far t hΦ l h.2]

theorem pts_shift (c : Dev nD) (t : Fin 8) (l : List Pt) (h : l.all Pt.far = true) : pts m ρ (dx c t) (l.map (Pt.shift t)) = pts m ρ c l :=
  bigSepL_far t (ptAt_shift m ρ c t) l h

instance pts_storable (c : Dev nD) (l : List Pt) : BI.Storable (upEmb : UEmb _ 𝕄) (pts m ρ c l) := by
  unfold pts
  induction l with
  | nil => exact (inferInstance : BI.Storable (upEmb : UEmb _ 𝕄) (iprop(emp) : sProp 𝕄))
  | cons p l ih => rw [bigSepL_cons']; haveI := ih; infer_instance

end Cert.KernelIdeal.Gather

end
-- ==== Proof.Sched.lean ====
/-
# The schedule, the levels, and the state of a device between two operations

Every cell has one round. What a device holds between two operations of the kernel is `St`: the list of
the credits it still owes in program order (`Due`), its cells with their phases, and its pieces of buffers.
-/
module

public import proofs.«01_k».proof.Proof.Proto

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Amounts -/

/-- The view of half `s` of slot `o`, as transfers name it. -/
abbrev vW (o : Dev nD) (s : Fin 2) : Memref sig .tc .vmem S4096x128 .bf16 :=
  (wgM.slice (rW o s) (fun _ => rfl)).squeeze S4096x128 squeezes_S1x4096x128_S4096x128
abbrev vB (o : Dev nD) (s : Fin 2) : Memref sig .tc .vmem S512x128 .bf16 :=
  (ybM.slice (rY o s) (fun _ => rfl)).squeeze S512x128 squeezes_S1x512x128_S512x128
abbrev vI (o : Dev nD) (s : Fin 2) : Memref sig .tc .vmem S512x128 .bf16 :=
  (yiM.slice (rY o s) (fun _ => rfl)).squeeze S512x128 squeezes_S1x512x128_S512x128

def NW : ℕ := (vW 0 0).view.dmaCredit
def NY : ℕ := (vI 0 0).view.dmaCredit
theorem NW_pos : 0 < NW := View.dmaCredit_pos _ (by decide)
theorem NY_pos : 0 < NY := View.dmaCredit_pos _ (by decide)
theorem NW_eq (o : Dev nD) (s : Fin 2) : (vW o s).view.dmaCredit = NW := rfl
theorem NY_eq (o : Dev nD) (s : Fin 2) : (vI o s).view.dmaCredit = NY := rfl
theorem NB_eq (o : Dev nD) (s : Fin 2) : (vB o s).view.dmaCredit = NY := rfl

/-- The units one duty of a cell pays; the units of its whole round; how many duties it has. -/
def amt : Cell → ℕ | .bar => 1 | .ws .. => NW | .wr .. => NW | .ys .. => NY | .yr .. => NY
def total : Cell → ℕ | .bar => 3 | .ws .. => NW | .wr .. => NW | .ys .. => NY | .yr .. => NY
/-- The duties of a cell; a device sends itself no block. -/
def dts : Cell → Finset (Fin 3)
  | .bar => Finset.univ | .ys k _ => if k = 0 then ∅ else {0} | .yr k _ => if k = 0 then ∅ else {0} | _ => {0}
theorem dts_ys {k : Fin 8} {s : Fin 2} (h : dts (.ys k s) ≠ ∅) : dts (.ys k s) = {0} := by
  unfold dts at *; split at h <;> simp_all
theorem dts_yr {k : Fin 8} {s : Fin 2} (h : dts (.yr k s) ≠ ∅) : dts (.yr k s) = {0} := by
  unfold dts at *; split at h <;> simp_all

/-! ## Payloads -/

def allPairs : List (Fin 2 × Fin 7) := (List.finRange 2).flatMap fun s => (List.finRange 7).map fun i => (s, i)

/-- The masks of the three devices a device exchanges with. -/
def nb : Fin 3 → Fin 8 := ![1, 3, 4]

/-- What the device at mask `k` hands over at the barrier: the slots of its gathered weights this device writes. -/
def barIt (k : Fin 8) : List Pt := (allPairs.filter fun p => tg p.1 p.2 = k).map fun p => Pt.wge k (so p.1 p.2) p.1

/-- What the receiver of weight copy `(s, i)` gets besides the weights. -/
def ext (s : Fin 2) (i : Fin 7) : List Pt := (fwd s i).map fun x => Pt.yie (rc s i) x s

def payOf : Cell → Fin 3 → List Pt
  | .bar, d => barIt (nb d)
  | .ws s i, _ => [.wg (so s i) s false (dep i)]
  | .wr s i, _ => .wg (rc s i) s true 0 :: ext s i
  | .ys k s, _ => [.yb k s]
  | .yr k s, _ => [.yi k s]
/-- The whole round of a cell. -/
def restOf : Cell → List Pt
  | .bar => barIt 1 ++ (barIt 3 ++ barIt 4)
  | cl => payOf cl 0

def Rd : Rounds.Schedule (GSem nD τ sig) (Fin 3) 𝕄 where
  duties g r := if r = 0 then (match dec g with | some cl => dts cl | none => ∅) else ∅
  unitless _ := False
  amount g _ _ := match dec g with | some cl => amt cl | none => 1
  payload g _ d := match dec g with | some cl => pts m ρ g.1.1 (payOf cl d) | none => iprop(emp)
  amount_pos g _ _ _ := by
    cases dec g with
    | none => exact Nat.one_pos
    | some cl => cases cl <;> first | exact Nat.one_pos | exact NW_pos | exact NY_pos

instance Rd_payload_storable (g : GSem nD τ sig) (r : ℕ) (d : Fin 3) :
    BI.Storable (upEmb : UEmb _ 𝕄) ((Rd (F := F) m ρ).payload g r d) := by
  show BI.Storable upEmb (match dec g with | some cl => pts m ρ g.1.1 (payOf cl d) | none => iprop(emp))
  split <;> infer_instance

theorem duties_g (c : Dev nD) (cl : Cell) : (Rd (F := F) m ρ).duties (gcell c cl) 0 = dts cl := by
  dsimp only [Rd]; rw [if_pos rfl, dec_gcell]
theorem duties_later (g : GSem nD τ sig) : ∀ r, 1 ≤ r → (Rd (F := F) m ρ).duties g r = ∅ :=
  fun r hr => by dsimp only [Rd]; rw [if_neg (by omega)]
theorem amount_g (c : Dev nD) (cl : Cell) (r : ℕ) (d : Fin 3) : (Rd (F := F) m ρ).amount (gcell c cl) r d = amt cl := by
  dsimp only [Rd]; rw [dec_gcell]
theorem payload_g (c : Dev nD) (cl : Cell) (r : ℕ) (d : Fin 3) : (Rd (F := F) m ρ).payload (gcell c cl) r d = pts m ρ c (payOf cl d) := by
  dsimp only [Rd]; rw [dec_gcell]
theorem expect_g (c : Dev nD) (cl : Cell) (h : dts cl ≠ ∅) : (Rd (F := F) m ρ).expect (gcell c cl) 0 = total cl := by
  unfold Schedule.expect Schedule.amountOf
  rw [duties_g, Finset.sum_congr rfl fun d _ => amount_g m ρ c cl 0 d, Finset.sum_const]
  cases cl with
  | bar => rfl
  | ws s i => exact Nat.one_mul _
  | wr s i => exact Nat.one_mul _
  | ys k s => rw [dts_ys h]; exact Nat.one_mul _
  | yr k s => rw [dts_yr h]; exact Nat.one_mul _

theorem rest_g (c : Dev nD) (cl : Cell) (h : dts cl ≠ ∅) :
    bigSep ((Rd (F := F) m ρ).duties (gcell c cl) 0 \ ∅) (fun d => (Rd (F := F) m ρ).payload (gcell c cl) 0 d) = pts m ρ c (restOf cl) := by
  rw [Finset.sdiff_empty, duties_g, bigSep_congr fun d _ => payload_g m ρ c cl 0 d]
  cases cl with
  | bar =>
    show bigSep Finset.univ _ = pts m ρ c (barIt 1 ++ (barIt 3 ++ barIt 4))
    rw [bigSep_univ_eq_bigSepL [0, 1, 2] (by decide) (by decide)]
    unfold pts
    rw [bigSepL_append, bigSepL_append]
    rfl
  | ws s i => exact bigSep_singleton
  | wr s i => exact bigSep_singleton
  | ys k s => rw [dts_ys h]; exact bigSep_singleton
  | yr k s => rw [dts_yr h]; exact bigSep_singleton

/-! ## What a device owes, and the levels -/

/-- The credits a device pays: a barrier signal, a copy of weights, a copy of a block of the result. -/
inductive Due where
  | sg (d : Fin 3)
  | w (s : Fin 2) (i : Fin 7)
  | y (s : Fin 2) (i : Fin 7)
deriving DecidableEq

/-- The device paid, as a mask; the cell of it; the duty. -/
def Due.to : Due → Fin 8 | .sg d => nb d | .w s i => tg s i | .y s i => rc s i
def Due.cell : Due → Cell | .sg _ => .bar | .w s i => .wr s i | .y s i => .yr (rc s i) s
def Due.duty : Due → Fin 3 | .sg d => d | _ => 0
/-- The own cell a copy also credits. -/
def Due.own : Due → Option Cell | .sg _ => none | .w s i => some (.ws s i) | .y s i => some (.ys (rc s i) s)

abbrev Due.g (c : Dev nD) (d : Due) : GSem nD τ sig := gcell (dx c d.to) d.cell

/-- In program order. -/
def allDues : List Due :=
  [.sg 0, .sg 1, .sg 2, .w 0 0, .w 1 0, .w 0 1, .w 1 1, .w 0 3, .w 1 3, .w 0 2, .w 0 4, .y 0 0, .w 1 2, .w 1 4, .y 1 0, .w 0 5, .w 0 6,
    .y 0 1, .y 0 2, .w 1 5, .w 1 6, .y 1 1, .y 1 2, .y 0 3, .y 1 3, .y 0 4, .y 1 4, .y 0 5, .y 1 5, .y 0 6, .y 1 6]

def owedL (c : Dev nD) : List Due → CellTallies nD τ sig Unit
  | [] => 0
  | d :: l => owedL c l + tallyAt (d.g c) () (amt d.cell)

def L (g : GSem nD τ sig) : Finset Unit := if g.1.2 = .tc then {()} else ∅
def lvC : Cell → ℕ
  | .bar => 1 | .ws .. => 0 | .wr _ i => (![2, 3, 3, 4, 4, 4, 4] : Fin 7 → ℕ) i | .ys .. => 0 | .yr .. => 5
def lv (g : GSem nD τ sig) (_ : Unit) : ℕ := match dec g with | some cl => lvC cl | none => 0

theorem L_of_ne (g : GSem nD τ sig) (h : g.1.2 ≠ .tc) : L g = ∅ := if_neg h
theorem L_tc (c : Dev nD) (sm : SemLoc sig) : L ((c : Thread nD τ), sm) = {()} := if_pos rfl
theorem lv_g (c : Dev nD) (cl : Cell) : lv (gcell c cl) () = lvC cl := by unfold lv; rw [dec_gcell]

theorem owedL_pos {c : Dev nD} : ∀ {l : List Due} {g : GSem nD τ sig} {u : Unit}, 0 < owedL c l g u → ∃ d ∈ l, g = d.g c
  | [], g, u, h => absurd h (Nat.lt_irrefl 0)
  | d :: l, g, u, h => by
    unfold owedL at h
    rw [Pi.add_apply, Finsupp.add_apply, tallyAt_apply] at h
    by_cases hg : g = d.g c ∧ u = ()
    · exact ⟨d, List.mem_cons_self, hg.1⟩
    · rw [if_neg hg, Nat.add_zero] at h
      obtain ⟨d', hd', he⟩ := owedL_pos h
      exact ⟨d', List.mem_cons_of_mem _ hd', he⟩

/-- A device that owes only credits of levels above `n` may wait on a cell of level at most `n`. -/
theorem mayWait_of (c : Dev nD) (sm : SemLoc sig) (n : ℕ) (hn : lv ((c : Thread nD τ), sm) () ≤ n) (l : List Due)
    (h : ∀ d ∈ l, n < lvC d.cell) : (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨d, hd, rfl⟩ := owedL_pos hg; rw [L_tc]; exact Finset.mem_singleton_self _)
    (fun p hp => by rw [Finset.mem_singleton.mp hp]; exact hn)
    (fun g u hg => by obtain ⟨d, hd, rfl⟩ := owedL_pos hg; rw [lv_g]; exact h d hd)

/-! ## The state of a device -/

/-- Whether a cell is untouched, holds a credit to be waited for, or is closed. -/
inductive Ph where | idle | armed | done
deriving DecidableEq

def semAt (c : Dev nD) : Cell × Ph → sProp 𝕄
  | (cl, .idle) => atPos ER (gcell c cl) 0 ∅ 0
  | (cl, .armed) => iprop(atPos ER (gcell c cl) 0 ∅ 0 ∗ cred (tallyAt (gcell c cl) () (total cl)))
  | (cl, .done) => semVal (gcell c cl) 0

/-- The tokens of the duties a due pays. -/
def tok (c : Dev nD) (d : Due) : sProp 𝕄 :=
  match d.own with
  | none => dutyTok ER (d.g c) 0 d.duty
  | some cl => iprop(dutyTok ER (d.g c) 0 d.duty ∗ dutyTok ER (gcell c cl) 0 0)

/-- Every cell's invariant, and that it has reached its round. -/
def records (K : Dev nD × Fin 61 → ℕ) : sProp 𝕄 :=
  iprop((bigSep Finset.univ fun ck : Dev nD × Fin 61 => cellInv ER (Rd m ρ) (K ck) (kcell ck))
    ∗ bigSep Finset.univ fun ck : Dev nD × Fin 61 => reached ER (kcell ck) 0)

instance records_persistent (K : Dev nD × Fin 61 → ℕ) : BI.Persistent (records m ρ K) := by unfold records; infer_instance

theorem inv_el (K : Dev nD × Fin 61 → ℕ) (ck : Dev nD × Fin 61) :
    (bigSep Finset.univ fun ck : Dev nD × Fin 61 => (cellInv ER (Rd m ρ) (K ck) (kcell ck) : sProp 𝕄)) ⊢ cellInv ER (Rd m ρ) (K ck) (kcell ck) :=
  bigSep_elim (Finset.mem_univ ck)
omit [FloatOps F] in
theorem reached_el (ck : Dev nD × Fin 61) :
    (bigSep Finset.univ fun ck : Dev nD × Fin 61 => (reached ER (kcell ck) 0 : sProp 𝕄)) ⊢ reached ER (kcell ck) 0 :=
  bigSep_elim (Finset.mem_univ ck)

theorem inv_at (K : Dev nD × Fin 61 → ℕ) (c : Dev nD) (cl : Cell) :
    records m ρ K ⊢ cellInv ER (Rd m ρ) (K (c, ki c cl)) (gcell c cl) := by
  unfold records
  iintro ⟨H, -⟩
  iapply (inv_el m ρ K (c, ki c cl)); iexact H
theorem reached_at (K : Dev nD × Fin 61 → ℕ) (c : Dev nD) (cl : Cell) :
    records m ρ K ⊢ reached ER (gcell c cl) 0 := by
  unfold records
  iintro ⟨-, H⟩
  iapply (reached_el (c, ki c cl)); iexact H

def St (K : Dev nD × Fin 61 → ℕ) (c : Dev nD) (du : List Due) (se : List (Cell × Ph)) (pt : List Pt) : sProp 𝕄 :=
  iprop(records m ρ K ∗ levAts L lv ∗ (∃ W, owes (c : Thread nD τ) (owedL c du) W) ∗ bigSepL du (tok c) ∗ bigSepL se (semAt c) ∗ pts m ρ c pt)

theorem bigSepL_of_perm {M : Type} [URA M] {I : Type} {l l' : List I} (h : l.Perm l') (Φ : I → sProp M) : bigSepL l Φ = bigSepL l' Φ := by
  induction h with
  | nil => rfl
  | cons x _ ih => rw [bigSepL_cons, bigSepL_cons, ih]
  | swap x y l =>
    rw [bigSepL_cons, bigSepL_cons, bigSepL_cons, bigSepL_cons]
    exact BI.equiv_iff.mp ⟨(sep_left_comm (PROP := sProp M)).1, (sep_left_comm (PROP := sProp M)).1⟩
  | trans _ _ ih₁ ih₂ => exact ih₁.trans ih₂

theorem St_perm {K c du} {se se' : List (Cell × Ph)} {pt pt' : List Pt} (hs : se.Perm se') (hp : pt.Perm pt') :
    St m ρ K c du se pt = St m ρ K c du se' pt' := by
  unfold St pts; rw [bigSepL_of_perm hs, bigSepL_of_perm hp]

end Cert.KernelIdeal.Gather

end
-- ==== Proof.Steps.lean ====
/-
# One lemma for each kind of operation

Each lemma takes the state before an operation to the state after it. The operation's device, offset or
semaphore enters by an equation with its name in the schedule.
-/
module

public import proofs.«01_k».proof.Proof.Sched

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of a device's core. -/
abbrev PP (F : FTy → Type) [FloatOps F] (α : Type) : Type 1 := Prog (TpuEff nD τ sig (Elt F) Λ₀ .tc) α

/-- Device `c` runs `p` to `Q`. -/
abbrev Wp {α : Type} (c : Dev nD) (p : PP F α) (Q : α → sProp 𝕄) : sProp 𝕄 :=
  wp frame (wpE (defs₀ (F := F)) 𝒱₀ (c : Thread nD τ) none) Set.univ p Q

variable (K : Dev nD × Fin 61 → ℕ)

omit [FloatOps F] in
theorem sep_cons {I : Type} (x : I) (l : List I) (Φ : I → sProp 𝕄) : bigSepL (x :: l) Φ = iprop(Φ x ∗ bigSepL l Φ) := bigSepL_cons' x l Φ

theorem pts_app (c : Dev nD) (l l' : List Pt) : pts m ρ c (l ++ l') = iprop(pts m ρ c l ∗ pts m ρ c l') := bigSepL_append _ _ _

theorem pts_shift' (c : Dev nD) (t : Fin 8) (l : List Pt) (h : l.all Pt.far = true) :
    pts m ρ c (l.map (Pt.shift t)) = pts m ρ (dx c t) l := by
  have := pts_shift m ρ (dx c t) t l h
  rwa [dx_self] at this

theorem barIt_far : ∀ k : Fin 8, (barIt k).all Pt.far = true := by decide +kernel
theorem ext_far : ∀ (s : Fin 2) (i : Fin 7), (ext s i).all Pt.far = true := by decide +kernel
theorem nb_to (d : Fin 3) : (Due.sg d).to = nb d := rfl

theorem gcell_bar (c : Dev nD) : gcell c .bar = ((c : Thread nD τ), .reg barS) := rfl

omit [FloatOps F] in
theorem semAt_idle (c : Dev nD) (cl : Cell) : (semAt c (cl, .idle) : sProp 𝕄) = atPos ER (gcell c cl) 0 ∅ 0 := rfl
omit [FloatOps F] in
theorem semAt_armed (c : Dev nD) (cl : Cell) :
    (semAt c (cl, .armed) : sProp 𝕄) = iprop(atPos ER (gcell c cl) 0 ∅ 0 ∗ cred (tallyAt (gcell c cl) () (total cl))) := rfl
omit [FloatOps F] in
theorem semAt_done (c : Dev nD) (cl : Cell) : (semAt c (cl, .done) : sProp 𝕄) = semVal (gcell c cl) 0 := rfl

omit [FloatOps F] in
theorem tok_sg (c : Dev nD) (d : Fin 3) : (tok c (.sg d) : sProp 𝕄) = dutyTok ER (gcell (dx c (nb d)) .bar) 0 d := rfl
omit [FloatOps F] in
theorem tok_w (c : Dev nD) (s : Fin 2) (i : Fin 7) :
    (tok c (.w s i) : sProp 𝕄) = iprop(dutyTok ER (gcell (dx c (tg s i)) (.wr s i)) 0 0 ∗ dutyTok ER (gcell c (.ws s i)) 0 0) := rfl
omit [FloatOps F] in
theorem tok_y (c : Dev nD) (s : Fin 2) (i : Fin 7) :
    (tok c (.y s i) : sProp 𝕄) = iprop(dutyTok ER (gcell (dx c (rc s i)) (.yr (rc s i) s)) 0 0 ∗ dutyTok ER (gcell c (.ys (rc s i) s)) 0 0) := rfl

/-! ## Signals and waits -/

theorem step_signal {α : Type} {c : Dev nD} {Q : α → sProp 𝕄} (d : Fin 3) {dev : Dev nD} (hdev : dev = dx c (nb d))
    {du : List Due} {se : List (Cell × Ph)} {pt : List Pt} (pt' : List Pt)
    (hpt : pt.Perm ((barIt (nb d)).map (Pt.shift (nb d)) ++ pt')) {k : PUnit → PP F α}
    (h : St m ρ K c du se pt' ⊢ Wp c (k ⟨⟩) Q) :
    St m ρ K c (.sg d :: du) se pt ⊢ Wp c (Prog.op (.semSignal (dev : Thread nD τ) barS ((1 : ℕ) : ℤ)) k) Q := by
  subst hdev
  rw [St_perm m ρ (List.Perm.refl se) hpt]
  have hI := inv_at m ρ K (dx c (nb d)) .bar
  have hR := reached_at m ρ K (dx c (nb d)) .bar
  unfold St
  rw [sep_cons, pts_app, pts_shift' m ρ c _ _ (barIt_far _)]
  iintro ⟨#HR, #HL, ⟨%W, HO⟩, ⟨Ht, Hts⟩, HS, Hp, HP⟩
  iapply (Rounds.wp_signal 𝒱₀ ER (Rd m ρ) (c : Thread nD τ) none (dst := (dx c (nb d) : Thread nD τ)) (κ := K (dx c (nb d), ki (dx c (nb d)) .bar)) (W := W)
      (d := d) (sem := barS) (r := 0) (by rw [← gcell_bar, duties_g]; exact Finset.mem_univ _) (amount_g m ρ (dx c (nb d)) .bar 0 d) () (owedL c du) rfl) $$ [HO Ht Hp]
  · isplitr; · iapply hI; iexact HR
    isplitl [HO]; · iexact HO
    isplitl [Ht]; · rw [← gcell_bar, ← tok_sg]; iexact Ht
    isplitl [Hp]
    · rw [← gcell_bar, payload_g]; iexact Hp
    · iapply hR; iexact HR
  iintro HO
  iapply h
  unfold St
  isplitr; · iexact HR
  isplitr; · iexact HL
  isplitl [HO]; · iexists W; iexact HO
  isplitl [Hts]; · iexact Hts
  isplitl [HS]; · iexact HS
  iexact HP

/-- A wait for the whole round of an armed cell, which is closed by it. -/
theorem step_wait {α : Type} {c : Dev nD} {Q : α → sProp 𝕄} (cl : Cell) {w : TpuEff nD τ sig (Elt F) Λ₀ (c : Thread nD τ).2 PUnit} {sm : SemLoc sig} {n : ℕ}
    (hw : ∀ R : PUnit → sProp 𝕄, wpE (defs₀ (F := F)) 𝒱₀ (c : Thread nD τ) none Set.univ w R = waitSpec (c : Thread nD τ) Set.univ sm n R)
    (hcl : dts cl ≠ ∅) (hsm : sm = cloc c cl) (hn : n = total cl)
    {du : List Due} (hlv : ∀ d ∈ du, lvC cl < lvC d.cell) {se : List (Cell × Ph)} {pt : List Pt} (se' : List (Cell × Ph))
    (hse : se.Perm ((cl, .armed) :: se')) {k : PUnit → PP F α}
    (h : St m ρ K c du ((cl, .done) :: se') (restOf cl ++ pt) ⊢ Wp c (k ⟨⟩) Q) :
    St m ρ K c du se pt ⊢ Wp c (Prog.op w k) Q := by
  subst hsm hn
  rw [St_perm m ρ hse (List.Perm.refl pt)]
  have hI := inv_at m ρ K c cl
  unfold St
  rw [sep_cons, semAt_armed]
  iintro ⟨#HR, #HL, ⟨%W, HO⟩, Hts, ⟨⟨Ha, Hc⟩, HS⟩, HP⟩
  iapply (Rounds.wp_wait_rest_token 𝒱₀ ER (Rd m ρ) (c : Thread nD τ) none (κ := K (c, ki c cl)) hw (Set.mem_univ _) () (O := owedL c du) (W := W) (R := 0) (m := 0) (T := ∅)
      ((Nat.zero_add _).trans (expect_g m ρ c cl hcl).symm)) $$ [Hc HO Ha]
  · isplitr; · iapply hI; iexact HR
    isplitl [Hc]; · iexact Hc
    isplitl [HO]; · iexact HO
    isplitr; · iapply (mayWait_of c (cloc c cl) (lvC cl) (le_of_eq (lv_g c cl)) du hlv); iexact HL
    iexact Ha
  iintro ⟨HO, Ha, -, Hp⟩
  imod (Rounds.cell_close ER (Rd m ρ) (Set.mem_univ (K (c, ki c cl))) (fun h => h) (R := 0 + 1) (duties_later m ρ (gcell c cl))) $$ [Ha] with Hz
  · isplitr; · iapply hI; iexact HR
    iexact Ha
  iapply h
  unfold St
  rw [sep_cons, semAt_done, pts_app]
  isplitr; · iexact HR
  isplitr; · iexact HL
  isplitl [HO]; · iexists _; iexact HO
  isplitl [Hts]; · iexact Hts
  isplitl [HS Hz]
  · isplitl [Hz]; · iexact Hz
    iexact HS
  isplitl [Hp]
  · iapply (Entails.of_eq (rest_g m ρ c cl hcl)); iexact Hp
  iexact HP

/-! ## The copies -/

theorem vW_set (o : Dev nD) (s : Fin 2) : (vW o s).view.set = (rW o s).set := by
  show (((Memref.whole cc0_scratch1).view.slice (rW o s)).reshape _ _).set = _
  rw [View.set_reshape]; exact View.set_slice_whole _ _
theorem vB_set (o : Dev nD) (s : Fin 2) : (vB o s).view.set = (rY o s).set := by
  show (((Memref.whole cc0_scratch2).view.slice (rY o s)).reshape _ _).set = _
  rw [View.set_reshape]; exact View.set_slice_whole _ _
theorem vI_set (o : Dev nD) (s : Fin 2) : (vI o s).view.set = (rY o s).set := by
  show (((Memref.whole cc0_scratch3).view.slice (rY o s)).reshape _ _).set = _
  rw [View.set_reshape]; exact View.set_slice_whole _ _

/-- A position of a half slot, in its buffer and back. -/
theorem embW (o : Dev nD) (s : Fin 2) (j : S1x4096x128.Idx) :
    dvOf ((rW o s).emb j 0) = o ∧ hfOf ((rW o s).emb j 2) = s ∧ inW ((rW o s).emb j) = j := by
  have e := fun a => ValueKit.rect_emb_unit_val (s := S8x4096x256) ![o.val, 0, 128 * s.val] S1x4096x128.size (inbW o s) j a
  have h0 := (j 0).isLt; have h1 := (j 1).isLt; have h2 := (j 2).isLt
  have e0 : ((rW o s).emb j 0 : ℕ) = o.val + (j 0).val := e 0
  have e1 : ((rW o s).emb j 1 : ℕ) = 0 + (j 1).val := e 1
  have e2 : ((rW o s).emb j 2 : ℕ) = 128 * s.val + (j 2).val := e 2
  replace h0 : (j 0).val < 1 := h0
  replace h2 : (j 2).val < 128 := h2
  have ho := o.isLt; have hs := s.isLt
  replace ho : o.val < 8 := ho
  refine ⟨Fin.ext ?_, Fin.ext ?_, funext fun a => Fin.ext ?_⟩
  · show ((rW o s).emb j 0 : ℕ) % 8 = o.val
    omega
  · show ((rW o s).emb j 2 : ℕ) / 128 % 2 = s.val
    omega
  · match a with
    | 0 => show 0 = (j 0).val; omega
    | 1 => show ((rW o s).emb j 1 : ℕ) = (j 1).val; omega
    | 2 => show ((rW o s).emb j 2 : ℕ) % 128 = (j 2).val; omega

theorem embY (o : Dev nD) (s : Fin 2) (j : S1x512x128.Idx) :
    dvOf ((rY o s).emb j 0) = o ∧ hfOf ((rY o s).emb j 2) = s ∧ inY ((rY o s).emb j) = j := by
  have e := fun a => ValueKit.rect_emb_unit_val (s := S8x512x256) ![o.val, 0, 128 * s.val] S1x512x128.size (inbY o s) j a
  have h0 := (j 0).isLt; have h1 := (j 1).isLt; have h2 := (j 2).isLt
  have e0 : ((rY o s).emb j 0 : ℕ) = o.val + (j 0).val := e 0
  have e1 : ((rY o s).emb j 1 : ℕ) = 0 + (j 1).val := e 1
  have e2 : ((rY o s).emb j 2 : ℕ) = 128 * s.val + (j 2).val := e 2
  replace h0 : (j 0).val < 1 := h0
  replace h2 : (j 2).val < 128 := h2
  have ho := o.isLt; have hs := s.isLt
  replace ho : o.val < 8 := ho
  refine ⟨Fin.ext ?_, Fin.ext ?_, funext fun a => Fin.ext ?_⟩
  · show ((rY o s).emb j 0 : ℕ) % 8 = o.val
    omega
  · show ((rY o s).emb j 2 : ℕ) / 128 % 2 = s.val
    omega
  · match a with
    | 0 => show 0 = (j 0).val; omega
    | 1 => show ((rY o s).emb j 1 : ℕ) = (j 1).val; omega
    | 2 => show ((rY o s).emb j 2 : ℕ) % 128 = (j 2).val; omega

theorem wgF_emb (o : Dev nD) (s : Fin 2) (j : S1x4096x128.Idx) : wgF m ρ ((rW o s).emb j) = wh m ρ o s j := by
  obtain ⟨h0, h1, h2⟩ := embW o s j
  unfold wgF; rw [h0, h1, h2]
theorem ybF_emb (c o : Dev nD) (s : Fin 2) (j : S1x512x128.Idx) : ybF m ρ c ((rY o s).emb j) = yv m ρ c o s j := by
  obtain ⟨h0, h1, h2⟩ := embY o s j
  unfold ybF; rw [h0, h1, h2]
theorem yiF_emb (c o : Dev nD) (s : Fin 2) (j : S1x512x128.Idx) : yiF m ρ c ((rY o s).emb j) = yv m ρ o c s j := by
  obtain ⟨h0, h1, h2⟩ := embY o s j
  unfold yiF; rw [h0, h1, h2]

/-- What a copy writes is what it reads, placed: agreement on the written elements. -/
theorem copy_eq {s : Shape} {e : EltTy} {sp sp' : Space} (src : Memref sig .tc sp s e) (dst : Memref sig .tc sp' s e)
    (f : src.view.ty.Contents (Elt F)) (g h : dst.view.ty.Contents (Elt F))
    (hh : ∀ x : s.Idx, _root_.cast (congrArg (Elt F) dst.view.elt_eq.symm) (src.view.read (Elt F) f x) = h (dst.view.emb x)) :
    ∀ i ∈ dst.view.set, dst.view.write (Elt F) g (src.view.read (Elt F) f) Finset.univ i = h i := by
  intro i hi
  obtain ⟨x, -, rfl⟩ := Finset.mem_map.mp hi
  rw [View.write_emb_of_mem _ _ (Finset.mem_univ x)]
  exact hh x

theorem copyW_eq (o : Dev nD) (s : Fin 2) (g : (vW o s).view.ty.Contents (Elt F)) :
    ∀ i ∈ (rW o s).set, (vW o s).view.write (Elt F) g ((vW o s).view.read (Elt F) (wgF m ρ)) Finset.univ i = wgF m ρ i := by
  intro i hi
  exact copy_eq (vW o s) (vW o s) (wgF m ρ) g (wgF m ρ) (fun x => rfl) i (by rw [vW_set]; exact hi)

theorem copyY_eq (c o : Dev nD) (s : Fin 2) (g : (vI c s).view.ty.Contents (Elt F)) :
    ∀ i ∈ (rY c s).set, (vI c s).view.write (Elt F) g ((vB o s).view.read (Elt F) (ybF m ρ c)) Finset.univ i = yiF m ρ o i := by
  intro i hi
  refine copy_eq (vB o s) (vI c s) (ybF m ρ c) g (yiF m ρ o) (fun x => ?_) i (by rw [vI_set]; exact hi)
  exact (ybF_emb m ρ c o s _).trans (yiF_emb m ρ o c s _).symm

theorem ptW (c : Dev nD) (k : Fin 8) (s : Fin 2) (b : Bool) (n : ℕ) :
    ptAt m ρ c (.wg k s b n) = (wgM.view.loc (c : Thread nD τ) ↦[(rW (dx c k) s).set]{shr b n} wgF m ρ) := rfl
theorem ptWe (c : Dev nD) (t k : Fin 8) (s : Fin 2) : ptAt m ρ c (.wge t k s)
    = iprop(∃ f : Buf (Elt F) (wgM.view.loc (dx c t : Thread nD τ)), wgM.view.loc (dx c t : Thread nD τ) ↦[(rW (dx c k) s).set]{fullShare} f) := rfl
theorem ptYe (c : Dev nD) (t k : Fin 8) (s : Fin 2) : ptAt m ρ c (.yie t k s)
    = iprop(∃ f : Buf (Elt F) (yiM.view.loc (dx c t : Thread nD τ)), yiM.view.loc (dx c t : Thread nD τ) ↦[(rY (dx c k) s).set]{fullShare} f) := rfl
theorem ptB (c : Dev nD) (k : Fin 8) (s : Fin 2) :
    ptAt m ρ c (.yb k s) = (ybM.view.loc (c : Thread nD τ) ↦[(rY (dx c k) s).set]{fullShare} ybF m ρ c) := rfl
theorem ptI (c : Dev nD) (k : Fin 8) (s : Fin 2) :
    ptAt m ρ c (.yi k s) = (yiM.view.loc (c : Thread nD τ) ↦[(rY (dx c k) s).set]{fullShare} yiF m ρ c) := rfl

/-- A slot at its share, split for a copy. -/
theorem wg_split (c : Dev nD) (k : Fin 8) (s : Fin 2) (n : ℕ) :
    ptAt m ρ c (.wg k s true n) = iprop(ptAt m ρ c (.wg k s false n) ∗ ptAt m ρ c (.wg k s true (n + 1))) :=
  BI.equiv_iff.mp ⟨(pointsTo_share (shr_split n)).1, (pointsTo_share (shr_split n)).2⟩

theorem dx_tg (c : Dev nD) (s : Fin 2) (i : Fin 7) : dx (dx c (tg s i)) (rc s i) = dx c (so s i) := dx_tg_rc c s i

/-- A copy of weights. -/
theorem step_sendW {α : Type} {c : Dev nD} {Q : α → sProp 𝕄} (s : Fin 2) (i : Fin 7) {dev : Dev nD} (hdev : dev = dx c (tg s i))
    {src dst : Memref sig .tc .vmem S4096x128 .bf16} (hsE : src = vW (dx c (so s i)) s) (hdE : dst = vW (dx c (so s i)) s)
    {sS sR : DmaSem sig} (hS : (.dma sS : SemLoc sig) = cloc c (.ws s i)) (hR : (.dma sR : SemLoc sig) = cloc (dx c (tg s i)) (.wr s i))
    {hsc : dst.view.ref.isScScratch = false} {hsrc : src.view.WordExact} {hdst : dst.view.WordExact}
    {hsem : DmaTarget.Typed .vmem (.dma sR : SemLoc sig) (.remote (Dev.tc dev : Thread nD τ) dst (.dma sS) hsc)}
    {du : List Due} {se : List (Cell × Ph)} {pt : List Pt} (se' : List (Cell × Ph)) (hse : se.Perm ((.ws s i, .idle) :: se')) (pt' : List Pt)
    (hpt : pt.Perm (.wg (so s i) s true (dep i) :: .wge (tg s i) (so s i) s :: ((ext s i).map (Pt.shift (tg s i)) ++ pt'))) {k : PUnit → PP F α}
    (h : St m ρ K c du ((.ws s i, .armed) :: se') (.wg (so s i) s true (dep i + 1) :: pt') ⊢ Wp c (k ⟨⟩) Q) :
    St m ρ K c (.w s i :: du) se pt ⊢ Wp c (Prog.op (.enqueueDma src (.remote (Dev.tc dev) dst (.dma sS) hsc) (.dma sR) hsrc hdst hsem) k) Q := by
  subst hdev hsE hdE
  rw [St_perm m ρ hse hpt]
  have hI₁ : records m ρ K ⊢ cellInv ER (Rd m ρ) (K (c, ki c (.ws s i))) ((c : Thread nD τ), .dma sS) := by
    rw [hS]; exact inv_at m ρ K c (.ws s i)
  have hI₂ : records m ρ K ⊢ cellInv ER (Rd m ρ) (K (dx c (tg s i), ki (dx c (tg s i)) (.wr s i))) ((dx c (tg s i) : Thread nD τ), .dma sR) := by
    rw [hR]; exact inv_at m ρ K (dx c (tg s i)) (.wr s i)
  have hR₁ : records m ρ K ⊢ reached ER ((c : Thread nD τ), .dma sS) 0 := by
    rw [hS]; exact reached_at m ρ K c (.ws s i)
  have hR₂ : records m ρ K ⊢ reached ER ((dx c (tg s i) : Thread nD τ), .dma sR) 0 := by
    rw [hR]; exact reached_at m ρ K (dx c (tg s i)) (.wr s i)
  unfold St
  rw [sep_cons, sep_cons, semAt_idle, tok_w]
  unfold pts
  rw [sep_cons, sep_cons, wg_split, ptWe]
  have hext := pts_shift' m ρ c (tg s i) (ext s i) (ext_far s i)
  have happ := bigSepL_append ((ext s i).map (Pt.shift (tg s i))) pt' (ptAt m ρ c)
  unfold pts at hext
  rw [happ, hext]
  iintro ⟨#HR, #HL, ⟨%W, HO⟩, ⟨⟨HtR, HtS⟩, Hts⟩, ⟨Ha, HS⟩, ⟨Hcut, Hkeep⟩, ⟨%fd, He⟩, Hx, HP⟩
  iapply (Rounds.wp_send_pointsTo_with 𝒱₀ ER (Rd m ρ) (c : Thread nD τ) none (c' := (dx c (tg s i) : Thread nD τ)) (src := vW (dx c (so s i)) s) (dst := vW (dx c (so s i)) s)
      (hsc := hsc) (sS := .dma sS) (sem := .dma sR) (κ₁ := K (c, ki c (.ws s i))) (κ₂ := K (dx c (tg s i), ki (dx c (tg s i)) (.wr s i)))
      (q := shr false (dep i)) (fs := wgF m ρ) (fd := fd) (F := bigSepL (ext s i) (ptAt m ρ (dx c (tg s i)))) (r₁ := 0) (r₂ := 0) (d₁ := 0) (d₂ := 0) (W := W)
      (by rw [hS]; exact (duties_g m ρ c (.ws s i)).symm ▸ Finset.mem_singleton_self _)
      (by rw [hR]; exact (duties_g m ρ (dx c (tg s i)) (.wr s i)).symm ▸ Finset.mem_singleton_self _) () () NW rfl
      (by rw [hS]; exact amount_g m ρ c (.ws s i) 0 0) (by rw [hR]; exact amount_g m ρ (dx c (tg s i)) (.wr s i) 0 0) (owedL c du) (by rw [hR]; try rfl)
      (by
        rw [hS, vW_set]
        refine Entails.of_eq ((payload_g m ρ c (.ws s i) 0 0).trans ?_).symm
        exact bigSepL_singleton _ _)
      (by
        rw [hR, vW_set]
        refine Entails.of_eq ((payload_g m ρ (dx c (tg s i)) (.wr s i) 0 0).trans ?_).symm
        show bigSepL (.wg (rc s i) s true 0 :: ext s i) (ptAt m ρ (dx c (tg s i))) = _
        rw [sep_cons, ptW, dx_tg, pointsTo_congr fun j hj => (copyW_eq m ρ (dx c (so s i)) s fd j hj).symm]
        rfl)) $$ [HO HtR HtS Hcut He Hx]
  · isplitr; · iapply hI₁; iexact HR
    isplitr; · iapply hI₂; iexact HR
    isplitl [Hcut]; · rw [vW_set, ← ptW]; iexact Hcut
    isplitl [He Hx]
    · isplitl [He]; · rw [vW_set]; iexact He
      iexact Hx
    isplitl [HO]; · iexact HO
    isplitl [HtS]; · rw [hS]; iexact HtS
    isplitr; · iapply hR₁; iexact HR
    isplitl [HtR]; · rw [hR]; iexact HtR
    iapply hR₂; iexact HR
  iintro ⟨Hc, HO⟩
  iapply h
  unfold St pts
  rw [sep_cons, sep_cons, semAt_armed]
  isplitr; · iexact HR
  isplitr; · iexact HL
  isplitl [HO]; · iexists W; iexact HO
  isplitl [Hts]; · iexact Hts
  isplitl [Ha Hc HS]
  · isplitl [Ha Hc]
    · isplitl [Ha]; · iexact Ha
      rw [hS]; iexact Hc
    iexact HS
  isplitl [Hkeep] <;> iassumption

theorem rc_dts : ∀ (s : Fin 2) (i : Fin 7), dts (.ys (rc s i) s) ≠ ∅ ∧ dts (.yr (rc s i) s) ≠ ∅ := by decide +kernel

/-- A copy of a block of the result. -/
theorem step_sendY {α : Type} {c : Dev nD} {Q : α → sProp 𝕄} (s : Fin 2) (i : Fin 7) {dev : Dev nD} (hdev : dev = dx c (rc s i))
    {src dst : Memref sig .tc .vmem S512x128 .bf16} (hsE : src = vB (dx c (rc s i)) s) (hdE : dst = vI c s)
    {sS sR : DmaSem sig} (hS : (.dma sS : SemLoc sig) = cloc c (.ys (rc s i) s)) (hR : (.dma sR : SemLoc sig) = cloc (dx c (rc s i)) (.yr (rc s i) s))
    {hsc : dst.view.ref.isScScratch = false} {hsrc : src.view.WordExact} {hdst : dst.view.WordExact}
    {hsem : DmaTarget.Typed .vmem (.dma sR : SemLoc sig) (.remote (Dev.tc dev : Thread nD τ) dst (.dma sS) hsc)}
    {du : List Due} {se : List (Cell × Ph)} {pt : List Pt} (se' : List (Cell × Ph)) (hse : se.Perm ((.ys (rc s i) s, .idle) :: se')) (pt' : List Pt)
    (hpt : pt.Perm (.yb (rc s i) s :: .yie (rc s i) 0 s :: pt')) {k : PUnit → PP F α}
    (h : St m ρ K c du ((.ys (rc s i) s, .armed) :: se') pt' ⊢ Wp c (k ⟨⟩) Q) :
    St m ρ K c (.y s i :: du) se pt ⊢ Wp c (Prog.op (.enqueueDma src (.remote (Dev.tc dev) dst (.dma sS) hsc) (.dma sR) hsrc hdst hsem) k) Q := by
  subst hdev hsE hdE
  rw [St_perm m ρ hse hpt]
  have hI₁ : records m ρ K ⊢ cellInv ER (Rd m ρ) (K (c, ki c (.ys (rc s i) s))) ((c : Thread nD τ), .dma sS) := by
    rw [hS]; exact inv_at m ρ K c (.ys (rc s i) s)
  have hI₂ : records m ρ K ⊢ cellInv ER (Rd m ρ) (K (dx c (rc s i), ki (dx c (rc s i)) (.yr (rc s i) s))) ((dx c (rc s i) : Thread nD τ), .dma sR) := by
    rw [hR]; exact inv_at m ρ K (dx c (rc s i)) (.yr (rc s i) s)
  have hR₁ : records m ρ K ⊢ reached ER ((c : Thread nD τ), .dma sS) 0 := by
    rw [hS]; exact reached_at m ρ K c (.ys (rc s i) s)
  have hR₂ : records m ρ K ⊢ reached ER ((dx c (rc s i) : Thread nD τ), .dma sR) 0 := by
    rw [hR]; exact reached_at m ρ K (dx c (rc s i)) (.yr (rc s i) s)
  unfold St
  rw [sep_cons, sep_cons, semAt_idle, tok_y]
  unfold pts
  rw [sep_cons, sep_cons, ptYe, dx_zero]
  iintro ⟨#HR, #HL, ⟨%W, HO⟩, ⟨⟨HtR, HtS⟩, Hts⟩, ⟨Ha, HS⟩, Hb, ⟨%fd, He⟩, HP⟩
  iapply (Rounds.wp_send_pointsTo_with 𝒱₀ ER (Rd m ρ) (c : Thread nD τ) none (c' := (dx c (rc s i) : Thread nD τ)) (src := vB (dx c (rc s i)) s) (dst := vI c s)
      (hsc := hsc) (sS := .dma sS) (sem := .dma sR) (κ₁ := K (c, ki c (.ys (rc s i) s))) (κ₂ := K (dx c (rc s i), ki (dx c (rc s i)) (.yr (rc s i) s)))
      (q := fullShare) (fs := ybF m ρ c) (fd := fd) (F := iprop(emp)) (r₁ := 0) (r₂ := 0) (d₁ := 0) (d₂ := 0) (W := W)
      (by rw [hS]; exact ((duties_g m ρ c (.ys (rc s i) s)).trans (dts_ys (rc_dts s i).1)).symm ▸ Finset.mem_singleton_self _)
      (by rw [hR]; exact ((duties_g m ρ (dx c (rc s i)) (.yr (rc s i) s)).trans (dts_yr (rc_dts s i).2)).symm ▸ Finset.mem_singleton_self _) () () NY rfl
      (by rw [hS]; exact amount_g m ρ c (.ys (rc s i) s) 0 0) (by rw [hR]; exact amount_g m ρ (dx c (rc s i)) (.yr (rc s i) s) 0 0) (owedL c du) (by rw [hR]; try rfl)
      (by
        rw [hS, vB_set]
        refine Entails.of_eq ((payload_g m ρ c (.ys (rc s i) s) 0 0).trans ?_).symm
        exact bigSepL_singleton _ _)
      (by
        rw [hR, vI_set]
        refine Entails.of_eq ((payload_g m ρ (dx c (rc s i)) (.yr (rc s i) s) 0 0).trans ?_).symm
        show bigSepL [.yi (rc s i) s] (ptAt m ρ (dx c (rc s i))) = _
        rw [sep_cons, ptI, dx_self, pointsTo_congr fun j hj => (copyY_eq m ρ c (dx c (rc s i)) s fd j hj).symm]
        rfl)) $$ [HO HtR HtS Hb He]
  · isplitr; · iapply hI₁; iexact HR
    isplitr; · iapply hI₂; iexact HR
    isplitl [Hb]; · rw [vB_set, ← ptB]; iexact Hb
    isplitl [He]
    · isplitl [He]; · rw [vI_set]; iexact He
      iempintro
    isplitl [HO]; · iexact HO
    isplitl [HtS]; · rw [hS]; iexact HtS
    isplitr; · iapply hR₁; iexact HR
    isplitl [HtR]; · rw [hR]; iexact HtR
    iapply hR₂; iexact HR
  iintro ⟨Hc, HO⟩
  iapply h
  unfold St pts
  rw [sep_cons, semAt_armed]
  isplitr; · iexact HR
  isplitr; · iexact HL
  isplitl [HO]; · iexists W; iexact HO
  isplitl [Hts]; · iexact Hts
  isplitl [Ha Hc HS]
  · isplitl [Ha Hc]
    · isplitl [Ha]; · iexact Ha
      rw [hS]; iexact Hc
    iexact HS
  iexact HP

end Cert.KernelIdeal.Gather

end
-- ==== Proof.Mem.lean ====
/-
# Loads and stores

A load keeps the pieces and continues at what it reads (at anything, when the value is not used). A store
turns a piece at any contents into the piece at its final contents.
-/
module

public import proofs.«01_k».proof.Proof.Steps

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

/-! ## One step on one piece, or on two -/

theorem step_on {α : Type} {c : Dev nD} {Q : α → sProp 𝕄} {V : Type} {a b : Pt} {p : PP F α} {kv : V → PP F α}
    (hop : ∀ R : sProp 𝕄, (∀ v, iprop(ptAt m ρ c b ∗ R) ⊢ Wp c (kv v) Q) → iprop(ptAt m ρ c a ∗ R) ⊢ Wp c p Q)
    {du : List Due} {se : List (Cell × Ph)} {pt : List Pt} (pt' : List Pt) (hpt : pt.Perm (a :: pt'))
    (h : ∀ v, St m ρ K c du se (b :: pt') ⊢ Wp c (kv v) Q) : St m ρ K c du se pt ⊢ Wp c p Q := by
  rw [St_perm m ρ (List.Perm.refl se) hpt]
  have key := hop iprop(records m ρ K ∗ levAts L lv ∗ (∃ W, owes (c : Thread nD τ) (owedL c du) W) ∗ bigSepL du (tok c) ∗ bigSepL se (semAt c) ∗ pts m ρ c pt')
    (fun v => by
      refine BIBase.Entails.trans ?_ (h v)
      unfold St pts
      rw [sep_cons]
      iintro ⟨Ha, H1, H2, H3, H4, H5, H6⟩
      isplitl [H1]; · iexact H1
      isplitl [H2]; · iexact H2
      isplitl [H3]; · iexact H3
      isplitl [H4]; · iexact H4
      isplitl [H5]; · iexact H5
      isplitl [Ha]; · iexact Ha
      iexact H6)
  refine BIBase.Entails.trans ?_ key
  unfold St pts
  rw [sep_cons]
  iintro ⟨H1, H2, H3, H4, H5, Ha, H6⟩
  isplitl [Ha]; · iexact Ha
  isplitl [H1]; · iexact H1
  isplitl [H2]; · iexact H2
  isplitl [H3]; · iexact H3
  isplitl [H4]; · iexact H4
  isplitl [H5]; · iexact H5
  iexact H6

theorem step_on2 {α : Type} {c : Dev nD} {Q : α → sProp 𝕄} {a a' : Pt} {p q : PP F α}
    (hop : ∀ R : sProp 𝕄, (iprop((ptAt m ρ c a ∗ ptAt m ρ c a') ∗ R) ⊢ Wp c q Q) → iprop((ptAt m ρ c a ∗ ptAt m ρ c a') ∗ R) ⊢ Wp c p Q)
    {du : List Due} {se : List (Cell × Ph)} {pt : List Pt} (pt' : List Pt) (hpt : pt.Perm (a :: a' :: pt'))
    (h : St m ρ K c du se (a :: a' :: pt') ⊢ Wp c q Q) : St m ρ K c du se pt ⊢ Wp c p Q := by
  rw [St_perm m ρ (List.Perm.refl se) hpt]
  have key := hop iprop(records m ρ K ∗ levAts L lv ∗ (∃ W, owes (c : Thread nD τ) (owedL c du) W) ∗ bigSepL du (tok c) ∗ bigSepL se (semAt c) ∗ pts m ρ c pt')
    (by
      refine BIBase.Entails.trans ?_ h
      unfold St pts
      rw [sep_cons, sep_cons]
      iintro ⟨⟨Ha, Hb⟩, H1, H2, H3, H4, H5, H6⟩
      isplitl [H1]; · iexact H1
      isplitl [H2]; · iexact H2
      isplitl [H3]; · iexact H3
      isplitl [H4]; · iexact H4
      isplitl [H5]; · iexact H5
      isplitl [Ha]; · iexact Ha
      isplitl [Hb]; · iexact Hb
      iexact H6)
  refine BIBase.Entails.trans ?_ key
  unfold St pts
  rw [sep_cons, sep_cons]
  iintro ⟨H1, H2, H3, H4, H5, Ha, Hb, H6⟩
  isplitl [Ha Hb]
  · isplitl [Ha]; · iexact Ha
    iexact Hb
  isplitl [H1]; · iexact H1
  isplitl [H2]; · iexact H2
  isplitl [H3]; · iexact H3
  isplitl [H4]; · iexact H4
  isplitl [H5]; · iexact H5
  iexact H6

/-! ## Loads and stores of a whole memref's rectangle -/

theorem ld_core {α : Type} {c : Dev nD} {Q : α → sProp 𝕄} {cs : CoreSpace} {s : Shape} {e : EltTy} {M : Memref sig .tc cs s e} {r : Rect s}
    {hl : M.view.LoadsAt r.toLoadRect} {k : (r.shape.Idx → Elt F e) → PP F α} {S : Finset (Idx ((M.access r).loc (c : Thread nD τ)))} {q : PosShare TreeShare}
    {f : Buf (Elt F) ((M.access r).loc (c : Thread nD τ))} (hS : (M.access r).set ⊆ S) (R : sProp 𝕄)
    (h : iprop(((M.access r).loc (c : Thread nD τ) ↦[S]{q} f) ∗ R) ⊢ Wp c (k ((M.access r).read (Elt F) f)) Q) :
    iprop(((M.access r).loc (c : Thread nD τ) ↦[S]{q} f) ∗ R) ⊢ Wp c (Prog.op (.load M r.toLoadRect hl) k) Q := by
  iintro ⟨H, HR⟩
  iapply (wp_load_rect 𝒱₀ (c : Thread nD τ) none Set.univ (m := M) (r := r) (hl := hl) hS) $$ H
  iintro H
  iapply h
  isplitl [H]; · iexact H
  iexact HR

theorem st_core {α : Type} {c : Dev nD} {Q : α → sProp 𝕄} {cs : CoreSpace} {s : Shape} {e : EltTy} {M : Memref sig .tc cs s e} {r : Rect s}
    {w : r.shape.Idx → Elt F e} {hx : (M.access r).Stores Finset.univ} {hm : (Finset.univ : Finset r.shape.Idx) = Finset.univ ∨ ∀ a, r.stride a = 1}
    {k : PUnit → PP F α} {S : Finset (Idx ((M.access r).loc (c : Thread nD τ)))} {f g : Buf (Elt F) ((M.access r).loc (c : Thread nD τ))}
    (hS : S = (M.access r).set) (hw : ∀ j, _root_.cast (congrArg (Elt F) (M.access r).elt_eq.symm) (w j) = g ((M.access r).emb j)) (R : sProp 𝕄)
    (h : iprop(((M.access r).loc (c : Thread nD τ) ↦[S]{fullShare} g) ∗ R) ⊢ Wp c (k ⟨⟩) Q) :
    iprop(((M.access r).loc (c : Thread nD τ) ↦[S]{fullShare} f) ∗ R) ⊢ Wp c (Prog.op (.store M r w Finset.univ hx hm) k) Q := by
  subst hS
  have hg : ∀ i ∈ (M.access r).set, (M.access r).write (Elt F) f w Finset.univ i = g i := by
    intro i hi
    obtain ⟨x, -, rfl⟩ := Finset.mem_map.mp hi
    rw [View.write_emb_of_mem _ _ (Finset.mem_univ x)]
    exact hw x
  iintro ⟨H, HR⟩
  iapply (wp_store 𝒱₀ (c : Thread nD τ) none Set.univ (m := M) (r := r) (Mk := Finset.univ) (hx := hx) (hm := hm) (View.setOn_subset_set _ _)) $$ H
  iintro H
  ihave H := (Entails.of_eq (pointsTo_congr hg)) $$ H
  iapply h
  isplitl [H]; · iexact H
  iexact HR

/-! ## The weights -/

theorem step_ldWe {α : Type} {c : Dev nD} {Q : α → sProp 𝕄} (k : Fin 8) (s : Fin 2) {off : Fin 3 → ℕ} {inb} (hoff : off = ![(dx c k).val, 0, 128 * s.val])
    {hl : wgM.view.LoadsAt (Rect.unit (s := S8x4096x256) off S1x4096x128.size inb).toLoadRect} {kk : (S1x4096x128.Idx → Elt F .bf16) → PP F α}
    {du : List Due} {se : List (Cell × Ph)} {pt : List Pt} (pt' : List Pt) (hpt : pt.Perm (.wge 0 k s :: pt'))
    (h : ∀ v, St m ρ K c du se (.wge 0 k s :: pt') ⊢ Wp c (kk v) Q) :
    St m ρ K c du se pt ⊢ Wp c (Prog.op (.load wgM (Rect.unit (s := S8x4096x256) off S1x4096x128.size inb).toLoadRect hl) kk) Q := by
  subst hoff
  refine step_on m ρ K (b := .wge 0 k s) (kv := kk) (fun R hR => ?_) pt' hpt h
  rw [ptWe, dx_zero]
  iintro ⟨⟨%f, H⟩, HR⟩
  iapply (ld_core (M := wgM) (r := rW (dx c k) s) (hl := hl) (S := (rW (dx c k) s).set) (q := fullShare) (f := f)
    (by rw [View.set_slice_whole]) R (BIBase.Entails.trans (by
      rw [ptWe, dx_zero]
      iintro ⟨H, HR⟩
      isplitl [H]; · iexists f; iexact H
      iexact HR) (hR _)))
  isplitl [H]; · iexact H
  iexact HR

theorem step_stW {α : Type} {c : Dev nD} {Q : α → sProp 𝕄} (s : Fin 2) {off : Fin 3 → ℕ} {inb} (hoff : off = ![c.val, 0, 128 * s.val])
    {v : S1x4096x128.Idx → Elt F .bf16} (hv : v = wh m ρ c s) {hx hm} {kk : PUnit → PP F α}
    {du : List Due} {se : List (Cell × Ph)} {pt : List Pt} (pt' : List Pt) (hpt : pt.Perm (.wge 0 0 s :: pt'))
    (h : St m ρ K c du se (.wg 0 s true 0 :: pt') ⊢ Wp c (kk ⟨⟩) Q) :
    St m ρ K c du se pt ⊢ Wp c (Prog.op (.store wgM (Rect.unit (s := S8x4096x256) off S1x4096x128.size inb) v Finset.univ hx hm) kk) Q := by
  subst hoff hv
  refine step_on m ρ K (b := .wg 0 s true 0) (kv := fun _ : Unit => kk ⟨⟩) (fun R hR => ?_) pt' hpt (fun _ => h)
  have hR := hR ()
  rw [ptW, dx_zero] at hR
  rw [ptWe, dx_zero]
  iintro ⟨⟨%f, H⟩, HR⟩
  iapply (st_core (M := wgM) (r := rW c s) (hx := hx) (hm := hm) (S := (rW c s).set) (f := f) (g := wgF m ρ)
    (by rw [View.set_slice_whole]) (fun j => (wgF_emb m ρ c s j).symm) R hR)
  isplitl [H]; · iexact H
  iexact HR

theorem step_ldW {α : Type} {c : Dev nD} {Q : α → sProp 𝕄} (s : Fin 2) {off : Fin 2 → ℕ} {inb} (hoff : off = ![0, 128 * s.val])
    {hl : wM.view.LoadsAt (Rect.unit (s := S4096x256) off S4096x128.size inb).toLoadRect} {kk : (S4096x128.Idx → Elt F .bf16) → PP F α}
    {du : List Due} {se : List (Cell × Ph)} {pt : List Pt} (pt' : List Pt) (hpt : pt.Perm (.w :: pt'))
    (h : St m ρ K c du se (.w :: pt') ⊢ Wp c (kk fun j => wstg m ρ c ((rH s).emb j)) Q) :
    St m ρ K c du se pt ⊢ Wp c (Prog.op (.load wM (Rect.unit (s := S4096x256) off S4096x128.size inb).toLoadRect hl) kk) Q := by
  subst hoff
  refine step_on m ρ K (b := .w) (kv := fun _ : Unit => kk fun j => wstg m ρ c ((rH s).emb j)) (fun R hR => ?_) pt' hpt (fun _ => h)
  exact ld_core (M := wM) (r := rH s) (hl := hl) (S := Finset.univ) (q := fullShare) (f := wstg m ρ c) (Finset.subset_univ _) R (hR ())

theorem step_ldWg {α : Type} {c : Dev nD} {Q : α → sProp 𝕄} (k : Fin 8) (s : Fin 2) (b : Bool) (n : ℕ) {off : Fin 3 → ℕ} {inb}
    (hoff : off = ![(dx c k).val, 0, 128 * s.val])
    {hl : wgM.view.LoadsAt (Rect.unit (s := S8x4096x256) off S1x4096x128.size inb).toLoadRect} {kk : (S1x4096x128.Idx → Elt F .bf16) → PP F α}
    {du : List Due} {se : List (Cell × Ph)} {pt : List Pt} (pt' : List Pt) (hpt : pt.Perm (.wg k s b n :: pt'))
    (h : St m ρ K c du se (.wg k s b n :: pt') ⊢ Wp c (kk fun j => wgF m ρ ((rW (dx c k) s).emb j)) Q) :
    St m ρ K c du se pt ⊢ Wp c (Prog.op (.load wgM (Rect.unit (s := S8x4096x256) off S1x4096x128.size inb).toLoadRect hl) kk) Q := by
  subst hoff
  refine step_on m ρ K (b := .wg k s b n) (kv := fun _ : Unit => kk fun j => wgF m ρ ((rW (dx c k) s).emb j)) (fun R hR => ?_) pt' hpt (fun _ => h)
  exact ld_core (M := wgM) (r := rW (dx c k) s) (hl := hl) (S := (rW (dx c k) s).set) (q := shr b n) (f := wgF m ρ) (by rw [View.set_slice_whole]) R (hR ())

/-! ## The kept copy of `x` -/

theorem zero2 : (![0, 0] : Fin 2 → ℕ) = fun _ => 0 := by funext a; fin_cases a <;> rfl

theorem step_ldX {α : Type} {c : Dev nD} {Q : α → sProp 𝕄} {inb}
    {hl : xM.view.LoadsAt (Rect.unit (s := S512x4096) ![0, 0] S512x4096.size inb).toLoadRect} {kk : (S512x4096.Idx → Elt F .bf16) → PP F α}
    {du : List Due} {se : List (Cell × Ph)} {pt : List Pt} (pt' : List Pt) (hpt : pt.Perm (.x :: pt'))
    (h : St m ρ K c du se (.x :: pt') ⊢ Wp c (kk (xstg m ρ c)) Q) :
    St m ρ K c du se pt ⊢ Wp c (Prog.op (.load xM (Rect.unit (s := S512x4096) ![0, 0] S512x4096.size inb).toLoadRect hl) kk) Q := by
  refine step_on m ρ K (b := .x) (kv := fun _ : Unit => kk (xstg m ρ c)) (fun R hR => ?_) pt' hpt (fun _ => h)
  refine ld_core (M := xM) (r := Rect.unit (s := S512x4096) ![0, 0] S512x4096.size inb) (hl := hl) (S := Finset.univ) (q := fullShare) (f := xstg m ρ c) (Finset.subset_univ _) R ?_
  have e : (xM.access (Rect.unit (s := S512x4096) ![0, 0] S512x4096.size inb)).read (Elt F) (xstg m ρ c) = xstg m ρ c :=
    Memref.read_access_unit_zero (Elt F) cc0_stg0_0 zero2 inb (xstg m ρ c)
  rw [e]
  exact hR ()

theorem step_ldXe {α : Type} {c : Dev nD} {Q : α → sProp 𝕄} {inb}
    {hl : xbM.view.LoadsAt (Rect.unit (s := S512x4096) ![0, 0] S512x4096.size inb).toLoadRect} {kk : (S512x4096.Idx → Elt F .bf16) → PP F α}
    {du : List Due} {se : List (Cell × Ph)} {pt : List Pt} (pt' : List Pt) (hpt : pt.Perm (.xe :: pt'))
    (h : ∀ v, St m ρ K c du se (.xe :: pt') ⊢ Wp c (kk v) Q) :
    St m ρ K c du se pt ⊢ Wp c (Prog.op (.load xbM (Rect.unit (s := S512x4096) ![0, 0] S512x4096.size inb).toLoadRect hl) kk) Q := by
  refine step_on m ρ K (b := .xe) (kv := kk) (fun R hR => ?_) pt' hpt h
  show iprop((∃ f : Buf (Elt F) (xbM.view.loc (c : Thread nD τ)), xbM.view.loc (c : Thread nD τ) ↦{fullShare} f) ∗ R) ⊢ _
  iintro ⟨⟨%f, H⟩, HR⟩
  iapply (ld_core (M := xbM) (r := Rect.unit (s := S512x4096) ![0, 0] S512x4096.size inb) (hl := hl) (S := Finset.univ) (q := fullShare) (f := f)
    (Finset.subset_univ _) R (BIBase.Entails.trans (by
      show _ ⊢ iprop((∃ f : Buf (Elt F) (xbM.view.loc (c : Thread nD τ)), xbM.view.loc (c : Thread nD τ) ↦{fullShare} f) ∗ R)
      iintro ⟨H, HR⟩
      isplitl [H]; · iexists f; iexact H
      iexact HR) (hR _)))
  isplitl [H]; · iexact H
  iexact HR

theorem step_stX {α : Type} {c : Dev nD} {Q : α → sProp 𝕄} {inb} {v : S512x4096.Idx → Elt F .bf16} (hv : v = xF m ρ c) {hx hm} {kk : PUnit → PP F α}
    {du : List Due} {se : List (Cell × Ph)} {pt : List Pt} (pt' : List Pt) (hpt : pt.Perm (.xe :: pt'))
    (h : St m ρ K c du se (.xb :: pt') ⊢ Wp c (kk ⟨⟩) Q) :
    St m ρ K c du se pt ⊢ Wp c (Prog.op (.store xbM (Rect.unit (s := S512x4096) ![0, 0] S512x4096.size inb) v Finset.univ hx hm) kk) Q := by
  subst hv
  refine step_on m ρ K (b := .xb) (kv := fun _ : Unit => kk ⟨⟩) (fun R hR => ?_) pt' hpt (fun _ => h)
  have hset : (Finset.univ : Finset S512x4096.Idx) = (xbM.access (Rect.unit (s := S512x4096) ![0, 0] S512x4096.size inb)).set := by
    refine (Finset.eq_univ_iff_forall.mpr fun i => ?_).symm
    rw [View.set_slice_whole, Rect.mem_set_unit, zero2]
    exact fun a => ⟨Nat.zero_le _, by rw [Nat.zero_add]; exact (i a).isLt⟩
  show iprop((∃ f : Buf (Elt F) (xbM.view.loc (c : Thread nD τ)), xbM.view.loc (c : Thread nD τ) ↦{fullShare} f) ∗ R) ⊢ _
  iintro ⟨⟨%f, H⟩, HR⟩
  iapply (st_core (M := xbM) (r := Rect.unit (s := S512x4096) ![0, 0] S512x4096.size inb) (hx := hx) (hm := hm) (S := Finset.univ) (f := f) (g := xF m ρ c)
    hset (fun j => by
      show xF m ρ c j = xF m ρ c _
      refine congrArg _ (funext fun a => Fin.ext ?_)
      have := ValueKit.rect_emb_unit_val (s := S512x4096) ![0, 0] S512x4096.size inb j a
      exact ((this.trans (by rw [congrFun zero2 a])).trans (Nat.zero_add _)).symm) R (hR ()))
  isplitl [H]; · iexact H
  iexact HR

theorem step_ldXb {α : Type} {c : Dev nD} {Q : α → sProp 𝕄} {inb}
    {hl : xbM.view.LoadsAt (Rect.unit (s := S512x4096) ![0, 0] S512x4096.size inb).toLoadRect} {kk : (S512x4096.Idx → Elt F .bf16) → PP F α}
    {du : List Due} {se : List (Cell × Ph)} {pt : List Pt} (pt' : List Pt) (hpt : pt.Perm (.xb :: pt'))
    (h : St m ρ K c du se (.xb :: pt') ⊢ Wp c (kk (xF m ρ c)) Q) :
    St m ρ K c du se pt ⊢ Wp c (Prog.op (.load xbM (Rect.unit (s := S512x4096) ![0, 0] S512x4096.size inb).toLoadRect hl) kk) Q := by
  refine step_on m ρ K (b := .xb) (kv := fun _ : Unit => kk (xF m ρ c)) (fun R hR => ?_) pt' hpt (fun _ => h)
  refine ld_core (M := xbM) (r := Rect.unit (s := S512x4096) ![0, 0] S512x4096.size inb) (hl := hl) (S := Finset.univ) (q := fullShare) (f := xF m ρ c) (Finset.subset_univ _) R ?_
  have e : (xbM.access (Rect.unit (s := S512x4096) ![0, 0] S512x4096.size inb)).read (Elt F) (xF m ρ c) = xF m ρ c :=
    Memref.read_access_unit_zero (Elt F) cc0_scratch0 zero2 inb (xF m ρ c)
  rw [e]
  exact hR ()

/-! ## Whole slots -/

theorem wide_set (o : Dev nD) : (rWw o).set = (rW o 0).set ∪ (rW o 1).set := by
  ext i
  rw [Finset.mem_union, Rect.mem_set_unit, Rect.mem_set_unit, Rect.mem_set_unit]
  have h2 : (i 2).val < 256 := (i 2).isLt
  constructor
  · intro h
    by_cases hlt : (i 2).val < 128
    · left
      intro a
      match a with
      | 0 => exact h 0
      | 1 => exact h 1
      | 2 => exact ⟨Nat.zero_le _, hlt⟩
    · right
      intro a
      match a with
      | 0 => exact h 0
      | 1 => exact h 1
      | 2 => exact ⟨Nat.le_of_not_lt hlt, h2⟩
  · rintro (h | h)
    all_goals
      intro a
      match a with
      | 0 => exact h 0
      | 1 => exact h 1
      | 2 => exact ⟨Nat.zero_le _, h2⟩

theorem wide_disj (o : Dev nD) : Disjoint (rW o 0).set (rW o 1).set := by
  rw [Finset.disjoint_left]
  intro i h0 h1
  rw [Rect.mem_set_unit] at h0 h1
  have a := (h0 2).2
  have b := (h1 2).1
  replace a : (i 2).val < 0 + 128 := a
  replace b : 128 ≤ (i 2).val := b
  omega

theorem wideY_set (o : Dev nD) : (rYw o).set = (rY o 0).set ∪ (rY o 1).set := by
  ext i
  rw [Finset.mem_union, Rect.mem_set_unit, Rect.mem_set_unit, Rect.mem_set_unit]
  have h2 : (i 2).val < 256 := (i 2).isLt
  constructor
  · intro h
    by_cases hlt : (i 2).val < 128
    · left
      intro a
      match a with
      | 0 => exact h 0
      | 1 => exact h 1
      | 2 => exact ⟨Nat.zero_le _, hlt⟩
    · right
      intro a
      match a with
      | 0 => exact h 0
      | 1 => exact h 1
      | 2 => exact ⟨Nat.le_of_not_lt hlt, h2⟩
  · rintro (h | h)
    all_goals
      intro a
      match a with
      | 0 => exact h 0
      | 1 => exact h 1
      | 2 => exact ⟨Nat.zero_le _, h2⟩

theorem wideY_disj (o : Dev nD) : Disjoint (rY o 0).set (rY o 1).set := by
  rw [Finset.disjoint_left]
  intro i h0 h1
  rw [Rect.mem_set_unit] at h0 h1
  have a := (h0 2).2
  have b := (h1 2).1
  replace a : (i 2).val < 0 + 128 := a
  replace b : 128 ≤ (i 2).val := b
  omega

theorem wg_wide (c : Dev nD) (k : Fin 8) (n : ℕ) : iprop(ptAt m ρ c (.wg k 0 true n) ∗ ptAt m ρ c (.wg k 1 true n))
    = (wgM.view.loc (c : Thread nD τ) ↦[(rWw (dx c k)).set]{shr true n} wgF m ρ) := by
  rw [wide_set]
  exact BI.equiv_iff.mp ⟨(pointsTo_union (wide_disj _)).2, (pointsTo_union (wide_disj _)).1⟩
theorem yi_wide (c : Dev nD) (k : Fin 8) : iprop(ptAt m ρ c (.yi k 0) ∗ ptAt m ρ c (.yi k 1))
    = (yiM.view.loc (c : Thread nD τ) ↦[(rYw (dx c k)).set]{fullShare} yiF m ρ c) := by
  rw [wideY_set]
  exact BI.equiv_iff.mp ⟨(pointsTo_union (wideY_disj _)).2, (pointsTo_union (wideY_disj _)).1⟩

theorem step_ldWw {α : Type} {c : Dev nD} {Q : α → sProp 𝕄} (n : ℕ) {off : Fin 3 → ℕ} {inb} (hoff : off = ![c.val, 0, 0])
    {hl : wgM.view.LoadsAt (Rect.unit (s := S8x4096x256) off S1x4096x256.size inb).toLoadRect} {kk : (S1x4096x256.Idx → Elt F .bf16) → PP F α}
    {du : List Due} {se : List (Cell × Ph)} {pt : List Pt} (pt' : List Pt) (hpt : pt.Perm (.wg 0 0 true n :: .wg 0 1 true n :: pt'))
    (h : St m ρ K c du se (.wg 0 0 true n :: .wg 0 1 true n :: pt') ⊢ Wp c (kk fun j => wgF m ρ ((rWw c).emb j)) Q) :
    St m ρ K c du se pt ⊢ Wp c (Prog.op (.load wgM (Rect.unit (s := S8x4096x256) off S1x4096x256.size inb).toLoadRect hl) kk) Q := by
  subst hoff
  refine step_on2 m ρ K (q := kk fun j => wgF m ρ ((rWw c).emb j)) (fun R hR => ?_) pt' hpt h
  rw [wg_wide, dx_zero] at hR ⊢
  exact ld_core (M := wgM) (r := rWw c) (hl := hl) (S := (rWw c).set) (q := shr true n) (f := wgF m ρ) (by rw [View.set_slice_whole]) R hR

theorem step_ldYi {α : Type} {c : Dev nD} {Q : α → sProp 𝕄} (k : Fin 8) {off : Fin 3 → ℕ} {inb} (hoff : off = ![(dx c k).val, 0, 0])
    {hl : yiM.view.LoadsAt (Rect.unit (s := S8x512x256) off S1x512x256.size inb).toLoadRect} {kk : (S1x512x256.Idx → Elt F .bf16) → PP F α}
    {du : List Due} {se : List (Cell × Ph)} {pt : List Pt} (pt' : List Pt) (hpt : pt.Perm (.yi k 0 :: .yi k 1 :: pt'))
    (h : St m ρ K c du se (.yi k 0 :: .yi k 1 :: pt') ⊢ Wp c (kk fun j => yiF m ρ c ((rYw (dx c k)).emb j)) Q) :
    St m ρ K c du se pt ⊢ Wp c (Prog.op (.load yiM (Rect.unit (s := S8x512x256) off S1x512x256.size inb).toLoadRect hl) kk) Q := by
  subst hoff
  refine step_on2 m ρ K (q := kk fun j => yiF m ρ c ((rYw (dx c k)).emb j)) (fun R hR => ?_) pt' hpt h
  rw [yi_wide] at hR ⊢
  exact ld_core (M := yiM) (r := rYw (dx c k)) (hl := hl) (S := (rYw (dx c k)).set) (q := fullShare) (f := yiF m ρ c) (by rw [View.set_slice_whole]) R hR

/-! ## The blocks to send -/

theorem ptBe (c : Dev nD) (k : Fin 8) (s : Fin 2) : ptAt m ρ c (.ybe k s)
    = iprop(∃ f : Buf (Elt F) (ybM.view.loc (c : Thread nD τ)), ybM.view.loc (c : Thread nD τ) ↦[(rY (dx c k) s).set]{fullShare} f) := rfl
theorem ptOe (c : Dev nD) (k : Fin 8) : ptAt m ρ c (.oe k)
    = iprop(∃ f : Buf (Elt F) (oM.view.loc (c : Thread nD τ)), oM.view.loc (c : Thread nD τ) ↦[(rO (dx c k)).set]{fullShare} f) := rfl

theorem step_ldYb {α : Type} {c : Dev nD} {Q : α → sProp 𝕄} (k : Fin 8) (s : Fin 2) {off : Fin 3 → ℕ} {inb} (hoff : off = ![(dx c k).val, 0, 128 * s.val])
    {hl : ybM.view.LoadsAt (Rect.unit (s := S8x512x256) off S1x512x128.size inb).toLoadRect} {kk : (S1x512x128.Idx → Elt F .bf16) → PP F α}
    {du : List Due} {se : List (Cell × Ph)} {pt : List Pt} (pt' : List Pt) (hpt : pt.Perm (.ybe k s :: pt'))
    (h : ∀ v, St m ρ K c du se (.ybe k s :: pt') ⊢ Wp c (kk v) Q) :
    St m ρ K c du se pt ⊢ Wp c (Prog.op (.load ybM (Rect.unit (s := S8x512x256) off S1x512x128.size inb).toLoadRect hl) kk) Q := by
  subst hoff
  refine step_on m ρ K (b := .ybe k s) (kv := kk) (fun R hR => ?_) pt' hpt h
  rw [ptBe]
  iintro ⟨⟨%f, H⟩, HR⟩
  iapply (ld_core (M := ybM) (r := rY (dx c k) s) (hl := hl) (S := (rY (dx c k) s).set) (q := fullShare) (f := f)
    (by rw [View.set_slice_whole]) R (BIBase.Entails.trans (by
      rw [ptBe]
      iintro ⟨H, HR⟩
      isplitl [H]; · iexists f; iexact H
      iexact HR) (hR _)))
  isplitl [H]; · iexact H
  iexact HR

theorem step_stYb {α : Type} {c : Dev nD} {Q : α → sProp 𝕄} (k : Fin 8) (s : Fin 2) {off : Fin 3 → ℕ} {inb} (hoff : off = ![(dx c k).val, 0, 128 * s.val])
    {v : S1x512x128.Idx → Elt F .bf16} (hv : v = yv m ρ c (dx c k) s) {hx hm} {kk : PUnit → PP F α}
    {du : List Due} {se : List (Cell × Ph)} {pt : List Pt} (pt' : List Pt) (hpt : pt.Perm (.ybe k s :: pt'))
    (h : St m ρ K c du se (.yb k s :: pt') ⊢ Wp c (kk ⟨⟩) Q) :
    St m ρ K c du se pt ⊢ Wp c (Prog.op (.store ybM (Rect.unit (s := S8x512x256) off S1x512x128.size inb) v Finset.univ hx hm) kk) Q := by
  subst hoff hv
  refine step_on m ρ K (b := .yb k s) (kv := fun _ : Unit => kk ⟨⟩) (fun R hR => ?_) pt' hpt (fun _ => h)
  rw [ptBe]
  iintro ⟨⟨%f, H⟩, HR⟩
  iapply (st_core (M := ybM) (r := rY (dx c k) s) (hx := hx) (hm := hm) (S := (rY (dx c k) s).set) (f := f) (g := ybF m ρ c)
    (by rw [View.set_slice_whole]) (fun j => (ybF_emb m ρ c (dx c k) s j).symm) R (hR ()))
  isplitl [H]; · iexact H
  iexact HR

/-! ## The result -/

theorem embO (o : Dev nD) (j : S512x256.Idx) : dvOf (((rO o).emb j 0 : ℕ) / 512) = o ∧ inO ((rO o).emb j) = j := by
  have e := fun a => ValueKit.rect_emb_unit_val (s := S4096x256) ![512 * o.val, 0] S512x256.size (inbO o) j a
  have h0 := (j 0).isLt; have h1 := (j 1).isLt
  have e0 : ((rO o).emb j 0 : ℕ) = 512 * o.val + (j 0).val := e 0
  have e1 : ((rO o).emb j 1 : ℕ) = 0 + (j 1).val := e 1
  replace h0 : (j 0).val < 512 := h0
  have ho := o.isLt
  replace ho : o.val < 8 := ho
  refine ⟨Fin.ext ?_, funext fun a => Fin.ext ?_⟩
  · show ((rO o).emb j 0 : ℕ) / 512 % 8 = o.val
    omega
  · match a with
    | 0 => show ((rO o).emb j 0 : ℕ) % 512 = (j 0).val; omega
    | 1 => show ((rO o).emb j 1 : ℕ) = (j 1).val; omega

/-- The rows of device `o` of the result. -/
def outR (c o : Dev nD) : Vec F S512x256 .f32 :=
  if o = c then k0_pay4 (xF m ρ c) (fun j => wgF m ρ ((rWw c).emb j)) else k0_pay30 (fun j => yiF m ρ c ((rYw o).emb j))

theorem outF_emb (c o : Dev nD) (j : S512x256.Idx) : outF m ρ c ((rO o).emb j) = outR m ρ c o j := by
  obtain ⟨h0, h1⟩ := embO o j
  unfold outF outR
  rw [h0, h1]
  split <;> rfl

theorem outR_own (c : Dev nD) : k0_pay4 (xF m ρ c) (fun j => wgF m ρ ((rWw c).emb j)) = outR m ρ c (dx c 0) := by
  unfold outR; rw [dx_zero, if_pos rfl]
theorem outR_far (c : Dev nD) (k : Fin 8) (hk : k ≠ 0) : k0_pay30 (fun j => yiF m ρ c ((rYw (dx c k)).emb j)) = outR m ρ c (dx c k) := by
  unfold outR; rw [if_neg (dx_ne c k hk)]

theorem step_ldO {α : Type} {c : Dev nD} {Q : α → sProp 𝕄} (k : Fin 8) {off : Fin 2 → ℕ} {inb} (hoff : off = ![512 * (dx c k).val, 0])
    {hl : oM.view.LoadsAt (Rect.unit (s := S4096x256) off S512x256.size inb).toLoadRect} {kk : (S512x256.Idx → Elt F .f32) → PP F α}
    {du : List Due} {se : List (Cell × Ph)} {pt : List Pt} (pt' : List Pt) (hpt : pt.Perm (.oe k :: pt'))
    (h : ∀ v, St m ρ K c du se (.oe k :: pt') ⊢ Wp c (kk v) Q) :
    St m ρ K c du se pt ⊢ Wp c (Prog.op (.load oM (Rect.unit (s := S4096x256) off S512x256.size inb).toLoadRect hl) kk) Q := by
  subst hoff
  refine step_on m ρ K (b := .oe k) (kv := kk) (fun R hR => ?_) pt' hpt h
  rw [ptOe]
  iintro ⟨⟨%f, H⟩, HR⟩
  iapply (ld_core (M := oM) (r := rO (dx c k)) (hl := hl) (S := (rO (dx c k)).set) (q := fullShare) (f := f)
    (by rw [View.set_slice_whole]) R (BIBase.Entails.trans (by
      rw [ptOe]
      iintro ⟨H, HR⟩
      isplitl [H]; · iexists f; iexact H
      iexact HR) (hR _)))
  isplitl [H]; · iexact H
  iexact HR

theorem step_stO {α : Type} {c : Dev nD} {Q : α → sProp 𝕄} (k : Fin 8) {off : Fin 2 → ℕ} {inb} (hoff : off = ![512 * (dx c k).val, 0])
    {v : S512x256.Idx → Elt F .f32} (hv : v = outR m ρ c (dx c k)) {hx hm} {kk : PUnit → PP F α}
    {du : List Due} {se : List (Cell × Ph)} {pt : List Pt} (pt' : List Pt) (hpt : pt.Perm (.oe k :: pt'))
    (h : St m ρ K c du se (.of k :: pt') ⊢ Wp c (kk ⟨⟩) Q) :
    St m ρ K c du se pt ⊢ Wp c (Prog.op (.store oM (Rect.unit (s := S4096x256) off S512x256.size inb) v Finset.univ hx hm) kk) Q := by
  subst hoff hv
  refine step_on m ρ K (b := .of k) (kv := fun _ : Unit => kk ⟨⟩) (fun R hR => ?_) pt' hpt (fun _ => h)
  rw [ptOe]
  iintro ⟨⟨%f, H⟩, HR⟩
  iapply (st_core (M := oM) (r := rO (dx c k)) (hx := hx) (hm := hm) (S := (rO (dx c k)).set) (f := f) (g := outF m ρ c)
    (by rw [View.set_slice_whole]) (fun j => (outF_emb m ρ c (dx c k) j).symm) R (hR ()))
  isplitl [H]; · iexact H
  iexact HR

end Cert.KernelIdeal.Gather

end
-- ==== Proof.Auto.lean ====
/-
# The steps on computed lists

The lemmas of `Steps` and `Mem` with the state after an operation given by a function of the state
before it, so that a side condition is an evaluation.
-/
module

public import proofs.«01_k».proof.Proof.Mem

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

/-! ## Taking elements out of a list -/

section Lists
variable {α : Type} [DecidableEq α]

/-- `l` without the elements of `need`, one occurrence of each. -/
def rm : List α → List α → List α
  | [], l => l
  | a :: t, l => rm t (l.erase a)
/-- Whether those elements are there. -/
def has : List α → List α → Bool
  | [], _ => true
  | a :: t, l => decide (a ∈ l) && has t (l.erase a)

theorem perm_rm : ∀ {need l : List α}, has need l = true → l.Perm (need ++ rm need l)
  | [], l, _ => List.Perm.refl l
  | a :: t, l, h => by
    rw [has, Bool.and_eq_true] at h
    exact (List.perm_cons_erase (of_decide_eq_true h.1)).trans ((perm_rm h.2).cons a)
end Lists

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

/-! ## Views and semaphores by name -/

theorem vW_of {o : Dev nD} {s : Fin 2} {off : Fin 3 → ℕ} {inb hs hq} (h : off = ![o.val, 0, 128 * s.val]) :
    (wgM.slice (Rect.unit (s := S8x4096x256) off S1x4096x128.size inb) hs).squeeze S4096x128 hq = vW o s := by subst h; rfl
theorem vB_of {o : Dev nD} {s : Fin 2} {off : Fin 3 → ℕ} {inb hs hq} (h : off = ![o.val, 0, 128 * s.val]) :
    (ybM.slice (Rect.unit (s := S8x512x256) off S1x512x128.size inb) hs).squeeze S512x128 hq = vB o s := by subst h; rfl
theorem vI_of {o : Dev nD} {s : Fin 2} {off : Fin 3 → ℕ} {inb hs hq} (h : off = ![(dx o 0).val, 0, 128 * s.val]) :
    (yiM.slice (Rect.unit (s := S8x512x256) off S1x512x128.size inb) hs).squeeze S512x128 hq = vI o s := by
  rw [dx_zero] at h; subst h; rfl

theorem inbS (s : Fin 2) (i : Fin 7) : ∀ a, (![s.val, i.val] : Fin 2 → ℕ) a + S1x1.size a ≤ S2x7.size a := by
  revert s i; decide +kernel
theorem inbT (o : Dev nD) (s : Fin 2) : ∀ a, (![o.val, s.val] : Fin 2 → ℕ) a + S1x1.size a ≤ S8x2.size a := by
  revert o s; decide +kernel

theorem nat_ws : ∀ (c : Dev nD) (s : Fin 2) (i : Fin 7), cloc c (.ws s i) = .dma (dmaN (3 + 7 * s.val + i.val)) := by decide +kernel
theorem nat_wr : ∀ (c : Dev nD) (s : Fin 2) (i : Fin 7), cloc c (.wr s i) = .dma (dmaN (17 + 7 * s.val + i.val)) := by decide +kernel
theorem nat_ys : ∀ (c : Dev nD) (k : Fin 8) (s : Fin 2), cloc c (.ys k s) = .dma (dmaN (31 + 2 * (dx c k).val + s.val)) := by decide +kernel
theorem nat_yr : ∀ (c : Dev nD) (k : Fin 8) (s : Fin 2), cloc c (.yr k s) = .dma (dmaN (47 + 2 * (dx c k).val + s.val)) := by decide +kernel

theorem sem7 : ∀ (s : Fin 2) (i : Fin 7), ((cc0_scratch4.slice (Rect.unit (s := S2x7) ![s.val, i.val] S1x1.size (inbS s i))).squeeze S_ squeezes_S1x1_S_).sem
    = dmaN (3 + 7 * s.val + i.val) := by decide +kernel
theorem sem8 : ∀ (s : Fin 2) (i : Fin 7), ((cc0_scratch5.slice (Rect.unit (s := S2x7) ![s.val, i.val] S1x1.size (inbS s i))).squeeze S_ squeezes_S1x1_S_).sem
    = dmaN (17 + 7 * s.val + i.val) := by decide +kernel
theorem sem9 : ∀ (o : Dev nD) (s : Fin 2), ((cc0_scratch6.slice (Rect.unit (s := S8x2) ![o.val, s.val] S1x1.size (inbT o s))).squeeze S_ squeezes_S1x1_S_).sem
    = dmaN (31 + 2 * o.val + s.val) := by decide +kernel
theorem sem10 : ∀ (o : Dev nD) (s : Fin 2), ((cc0_scratch7.slice (Rect.unit (s := S8x2) ![o.val, s.val] S1x1.size (inbT o s))).squeeze S_ squeezes_S1x1_S_).sem
    = dmaN (47 + 2 * o.val + s.val) := by decide +kernel

theorem ws_of (c : Dev nD) (s : Fin 2) (i : Fin 7) {off : Fin 2 → ℕ} {inb hq} (h : off = ![s.val, i.val]) :
    (.dma ((cc0_scratch4.slice (Rect.unit (s := S2x7) off S1x1.size inb)).squeeze S_ hq).sem : SemLoc sig) = cloc c (.ws s i) := by
  subst h; rw [nat_ws]; exact congrArg SemLoc.dma (sem7 s i)
theorem wr_of (c : Dev nD) (s : Fin 2) (i : Fin 7) {off : Fin 2 → ℕ} {inb hq} (h : off = ![s.val, i.val]) :
    (.dma ((cc0_scratch5.slice (Rect.unit (s := S2x7) off S1x1.size inb)).squeeze S_ hq).sem : SemLoc sig) = cloc c (.wr s i) := by
  subst h; rw [nat_wr]; exact congrArg SemLoc.dma (sem8 s i)
theorem ys_of (c : Dev nD) (k : Fin 8) (s : Fin 2) {off : Fin 2 → ℕ} {inb hq} (h : off = ![(dx c k).val, s.val]) :
    (.dma ((cc0_scratch6.slice (Rect.unit (s := S8x2) off S1x1.size inb)).squeeze S_ hq).sem : SemLoc sig) = cloc c (.ys k s) := by
  subst h; rw [nat_ys]; exact congrArg SemLoc.dma (sem9 _ s)
theorem yr_of (c : Dev nD) (k : Fin 8) (s : Fin 2) {off : Fin 2 → ℕ} {inb hq} (h : off = ![(dx c k).val, s.val]) :
    (.dma ((cc0_scratch7.slice (Rect.unit (s := S8x2) off S1x1.size inb)).squeeze S_ hq).sem : SemLoc sig) = cloc c (.yr k s) := by
  subst h; rw [nat_yr]; exact congrArg SemLoc.dma (sem10 _ s)
/-- The receiver's semaphore of a block is named by the sender's slot. -/
theorem yr_to (c : Dev nD) (k : Fin 8) (s : Fin 2) {off : Fin 2 → ℕ} {inb hq} (h : off = ![(dx c 0).val, s.val]) :
    (.dma ((cc0_scratch7.slice (Rect.unit (s := S8x2) off S1x1.size inb)).squeeze S_ hq).sem : SemLoc sig) = cloc (dx c k) (.yr k s) := by
  rw [dx_zero] at h; subst h; rw [nat_yr, dx_self]; exact congrArg SemLoc.dma (sem10 _ s)

/-! ## The steps -/

section

theorem oSig {α : Type} {c : Dev nD} {Q : α → sProp 𝕄} {du : List Due} {se : List (Cell × Ph)} {pt : List Pt} (d : Fin 3) {dev : Dev nD} (hdev : dev = dx c (nb d)) (du' : List Due) (hdu : du = .sg d :: du')
    (x : List Pt) (hx : (barIt (nb d)).map (Pt.shift (nb d)) = x) (hpt : has x pt = true) {n : ℤ} (hn : n = ((1 : ℕ) : ℤ)) {k : PUnit → PP F α}
    (h : St m ρ K c du' se (rm x pt) ⊢ Wp c (k ⟨⟩) Q) :
    St m ρ K c du se pt ⊢ Wp c (Prog.op (.semSignal (dev : Thread nD τ) barS n) k) Q := by
  subst hdu hn hx
  exact step_signal m ρ K d hdev _ (perm_rm hpt) h

theorem oBar {α : Type} {c : Dev nD} {Q : α → sProp 𝕄} {du : List Due} {se : List (Cell × Ph)} {pt : List Pt} {n : ℤ} (hn : n = ((3 : ℕ) : ℤ)) (hlv : ∀ d ∈ du, lvC .bar < lvC d.cell) (hse : has [(Cell.bar, Ph.armed)] se = true) (x : List Pt) (hx : restOf .bar = x) {k : PUnit → PP F α}
    (h : St m ρ K c du ((.bar, .done) :: rm [(.bar, .armed)] se) (x ++ pt) ⊢ Wp c (k ⟨⟩) Q) :
    St m ρ K c du se pt ⊢ Wp c (Prog.op (.semWait barS n) k) Q := by
  subst hn hx
  exact step_wait m ρ K .bar (wpE_semWait_eq 𝒱₀ (c : Thread nD τ) none Set.univ) (by decide) rfl rfl hlv _ (perm_rm hse) h

theorem oWait {α : Type} {c : Dev nD} {Q : α → sProp 𝕄} {du : List Due} {se : List (Cell × Ph)} {pt : List Pt} (cl : Cell) {sp sp' : Space} {s s' : Shape} {e e' : EltTy} {sem : DmaSem sig} {κ' : Kind}
    {src : Memref sig .tc sp' s' e'} {dst : Memref sig κ' sp s e} {hsrc : src.view.WordExact} {hdst : dst.view.WordExact}
    (hsm : (.dma sem : SemLoc sig) = cloc c cl) (hn : dst.view.dmaCredit = total cl) (hcl : dts cl ≠ ∅)
    (hlv : ∀ d ∈ du, lvC cl < lvC d.cell) (hse : has [(cl, Ph.armed)] se = true) (x : List Pt) (hx : restOf cl = x) {k : PUnit → PP F α}
    (h : St m ρ K c du ((cl, .done) :: rm [(cl, .armed)] se) (x ++ pt) ⊢ Wp c (k ⟨⟩) Q) :
    St m ρ K c du se pt ⊢ Wp c (Prog.op (.waitDma2 sem src dst hsrc hdst) k) Q := by
  subst hx
  exact step_wait m ρ K cl (wpE_waitDma2_eq 𝒱₀ (c : Thread nD τ) none Set.univ) hcl hsm hn hlv _ (perm_rm hse) h

theorem oSendW {α : Type} {c : Dev nD} {Q : α → sProp 𝕄} {du : List Due} {se : List (Cell × Ph)} {pt : List Pt} (s : Fin 2) (i : Fin 7) (k₁ t : Fin 8) (n : ℕ) (x : List Pt)
    (hk : so s i = k₁ ∧ tg s i = t ∧ dep i = n ∧ (ext s i).map (Pt.shift (tg s i)) = x) {dev : Dev nD} (hdev : dev = dx c t)
    {src dst : Memref sig .tc .vmem S4096x128 .bf16} (hsE : src = vW (dx c k₁) s) (hdE : dst = vW (dx c k₁) s)
    {sS sR : DmaSem sig} (hS : (.dma sS : SemLoc sig) = cloc c (.ws s i)) (hR : (.dma sR : SemLoc sig) = cloc (dx c t) (.wr s i))
    {hsc : dst.view.ref.isScScratch = false} {hsrc : src.view.WordExact} {hdst : dst.view.WordExact}
    {hsem : DmaTarget.Typed .vmem (.dma sR : SemLoc sig) (.remote (Dev.tc dev : Thread nD τ) dst (.dma sS) hsc)}
    (du' : List Due) (hdu : du = .w s i :: du') (hse : has [(Cell.ws s i, Ph.idle)] se = true)
    (hpt : has (.wg k₁ s true n :: .wge t k₁ s :: x) pt = true) {k : PUnit → PP F α}
    (h : St m ρ K c du' ((.ws s i, .armed) :: rm [(.ws s i, .idle)] se) (.wg k₁ s true (n + 1) :: rm (.wg k₁ s true n :: .wge t k₁ s :: x) pt) ⊢ Wp c (k ⟨⟩) Q) :
    St m ρ K c du se pt ⊢ Wp c (Prog.op (.enqueueDma src (.remote (Dev.tc dev) dst (.dma sS) hsc) (.dma sR) hsrc hdst hsem) k) Q := by
  obtain ⟨rfl, rfl, rfl, rfl⟩ := hk
  subst hdu
  exact step_sendW m ρ K s i hdev hsE hdE hS hR _ (perm_rm hse) _ (perm_rm hpt) h

theorem oSendY {α : Type} {c : Dev nD} {Q : α → sProp 𝕄} {du : List Due} {se : List (Cell × Ph)} {pt : List Pt} (s : Fin 2) (i : Fin 7) (k₁ : Fin 8) (hk : rc s i = k₁) {dev : Dev nD} (hdev : dev = dx c k₁)
    {src dst : Memref sig .tc .vmem S512x128 .bf16} (hsE : src = vB (dx c k₁) s) (hdE : dst = vI c s)
    {sS sR : DmaSem sig} (hS : (.dma sS : SemLoc sig) = cloc c (.ys k₁ s)) (hR : (.dma sR : SemLoc sig) = cloc (dx c k₁) (.yr k₁ s))
    {hsc : dst.view.ref.isScScratch = false} {hsrc : src.view.WordExact} {hdst : dst.view.WordExact}
    {hsem : DmaTarget.Typed .vmem (.dma sR : SemLoc sig) (.remote (Dev.tc dev : Thread nD τ) dst (.dma sS) hsc)}
    (du' : List Due) (hdu : du = .y s i :: du') (hse : has [(Cell.ys k₁ s, Ph.idle)] se = true)
    (hpt : has [.yb k₁ s, .yie k₁ 0 s] pt = true) {k : PUnit → PP F α}
    (h : St m ρ K c du' ((.ys k₁ s, .armed) :: rm [(.ys k₁ s, .idle)] se) (rm [.yb k₁ s, .yie k₁ 0 s] pt) ⊢ Wp c (k ⟨⟩) Q) :
    St m ρ K c du se pt ⊢ Wp c (Prog.op (.enqueueDma src (.remote (Dev.tc dev) dst (.dma sS) hsc) (.dma sR) hsrc hdst hsem) k) Q := by
  subst hk hdu
  exact step_sendY m ρ K s i hdev hsE hdE hS hR _ (perm_rm hse) _ (perm_rm hpt) h

/-- A load leaves the state as it was. -/
theorem back {c : Dev nD} {du : List Due} {se : List (Cell × Ph)} {pt : List Pt} {P : sProp 𝕄} {need : List Pt} (hpt : has need pt = true) (h : St m ρ K c du se pt ⊢ P) : St m ρ K c du se (need ++ rm need pt) ⊢ P := by
  rw [← St_perm m ρ (List.Perm.refl se) (perm_rm hpt)]; exact h

theorem oLdWe {α : Type} {c : Dev nD} {Q : α → sProp 𝕄} {du : List Due} {se : List (Cell × Ph)} {pt : List Pt} (k : Fin 8) (s : Fin 2) {off : Fin 3 → ℕ} {inb} (hoff : off = ![(dx c k).val, 0, 128 * s.val]) (hpt : has [.wge 0 k s] pt = true)
    {hl : wgM.view.LoadsAt (Rect.unit (s := S8x4096x256) off S1x4096x128.size inb).toLoadRect} {kk : (S1x4096x128.Idx → Elt F .bf16) → PP F α}
    (h : ∀ v, St m ρ K c du se pt ⊢ Wp c (kk v) Q) :
    St m ρ K c du se pt ⊢ Wp c (Prog.op (.load wgM (Rect.unit (s := S8x4096x256) off S1x4096x128.size inb).toLoadRect hl) kk) Q :=
  step_ldWe m ρ K k s hoff _ (perm_rm hpt) fun v => back m ρ K hpt (h v)

theorem oStW {α : Type} {c : Dev nD} {Q : α → sProp 𝕄} {du : List Due} {se : List (Cell × Ph)} {pt : List Pt} (s : Fin 2) {off : Fin 3 → ℕ} {inb} (hoff : off = ![(dx c 0).val, 0, 128 * s.val])
    {v : S1x4096x128.Idx → Elt F .bf16} (hv : v = wh m ρ c s) (hpt : has [.wge 0 0 s] pt = true) {hx hm} {kk : PUnit → PP F α}
    (h : St m ρ K c du se (.wg 0 s true 0 :: rm [.wge 0 0 s] pt) ⊢ Wp c (kk ⟨⟩) Q) :
    St m ρ K c du se pt ⊢ Wp c (Prog.op (.store wgM (Rect.unit (s := S8x4096x256) off S1x4096x128.size inb) v Finset.univ hx hm) kk) Q := by
  rw [dx_zero] at hoff
  exact step_stW m ρ K s hoff hv _ (perm_rm hpt) h

theorem oLdW {α : Type} {c : Dev nD} {Q : α → sProp 𝕄} {du : List Due} {se : List (Cell × Ph)} {pt : List Pt} (s : Fin 2) {off : Fin 2 → ℕ} {inb} (hoff : off = ![0, 128 * s.val]) (hpt : has [.w] pt = true)
    {hl : wM.view.LoadsAt (Rect.unit (s := S4096x256) off S4096x128.size inb).toLoadRect} {kk : (S4096x128.Idx → Elt F .bf16) → PP F α}
    (h : St m ρ K c du se pt ⊢ Wp c (kk fun j => wstg m ρ c ((rH s).emb j)) Q) :
    St m ρ K c du se pt ⊢ Wp c (Prog.op (.load wM (Rect.unit (s := S4096x256) off S4096x128.size inb).toLoadRect hl) kk) Q :=
  step_ldW m ρ K s hoff _ (perm_rm hpt) (back m ρ K hpt h)

theorem oLdWg {α : Type} {c : Dev nD} {Q : α → sProp 𝕄} {du : List Due} {se : List (Cell × Ph)} {pt : List Pt} (k : Fin 8) (s : Fin 2) (n : ℕ) {off : Fin 3 → ℕ} {inb} (hoff : off = ![(dx c k).val, 0, 128 * s.val]) (hpt : has [.wg k s true n] pt = true)
    {hl : wgM.view.LoadsAt (Rect.unit (s := S8x4096x256) off S1x4096x128.size inb).toLoadRect} {kk : (S1x4096x128.Idx → Elt F .bf16) → PP F α}
    (h : St m ρ K c du se pt ⊢ Wp c (kk fun j => wgF m ρ ((rW (dx c k) s).emb j)) Q) :
    St m ρ K c du se pt ⊢ Wp c (Prog.op (.load wgM (Rect.unit (s := S8x4096x256) off S1x4096x128.size inb).toLoadRect hl) kk) Q :=
  step_ldWg m ρ K k s true n hoff _ (perm_rm hpt) (back m ρ K hpt h)

theorem oLdX {α : Type} {c : Dev nD} {Q : α → sProp 𝕄} {du : List Due} {se : List (Cell × Ph)} {pt : List Pt} {inb} (hpt : has [.x] pt = true)
    {hl : xM.view.LoadsAt (Rect.unit (s := S512x4096) ![0, 0] S512x4096.size inb).toLoadRect} {kk : (S512x4096.Idx → Elt F .bf16) → PP F α}
    (h : St m ρ K c du se pt ⊢ Wp c (kk (xstg m ρ c)) Q) :
    St m ρ K c du se pt ⊢ Wp c (Prog.op (.load xM (Rect.unit (s := S512x4096) ![0, 0] S512x4096.size inb).toLoadRect hl) kk) Q :=
  step_ldX m ρ K _ (perm_rm hpt) (back m ρ K hpt h)

theorem oLdXe {α : Type} {c : Dev nD} {Q : α → sProp 𝕄} {du : List Due} {se : List (Cell × Ph)} {pt : List Pt} {inb} (hpt : has [.xe] pt = true)
    {hl : xbM.view.LoadsAt (Rect.unit (s := S512x4096) ![0, 0] S512x4096.size inb).toLoadRect} {kk : (S512x4096.Idx → Elt F .bf16) → PP F α}
    (h : ∀ v, St m ρ K c du se pt ⊢ Wp c (kk v) Q) :
    St m ρ K c du se pt ⊢ Wp c (Prog.op (.load xbM (Rect.unit (s := S512x4096) ![0, 0] S512x4096.size inb).toLoadRect hl) kk) Q :=
  step_ldXe m ρ K _ (perm_rm hpt) fun v => back m ρ K hpt (h v)

theorem oStX {α : Type} {c : Dev nD} {Q : α → sProp 𝕄} {du : List Due} {se : List (Cell × Ph)} {pt : List Pt} {inb} {v : S512x4096.Idx → Elt F .bf16} (hv : v = xF m ρ c) (hpt : has [.xe] pt = true) {hx hm} {kk : PUnit → PP F α}
    (h : St m ρ K c du se (.xb :: rm [.xe] pt) ⊢ Wp c (kk ⟨⟩) Q) :
    St m ρ K c du se pt ⊢ Wp c (Prog.op (.store xbM (Rect.unit (s := S512x4096) ![0, 0] S512x4096.size inb) v Finset.univ hx hm) kk) Q :=
  step_stX m ρ K hv _ (perm_rm hpt) h

theorem oLdXb {α : Type} {c : Dev nD} {Q : α → sProp 𝕄} {du : List Due} {se : List (Cell × Ph)} {pt : List Pt} {inb} (hpt : has [.xb] pt = true)
    {hl : xbM.view.LoadsAt (Rect.unit (s := S512x4096) ![0, 0] S512x4096.size inb).toLoadRect} {kk : (S512x4096.Idx → Elt F .bf16) → PP F α}
    (h : St m ρ K c du se pt ⊢ Wp c (kk (xF m ρ c)) Q) :
    St m ρ K c du se pt ⊢ Wp c (Prog.op (.load xbM (Rect.unit (s := S512x4096) ![0, 0] S512x4096.size inb).toLoadRect hl) kk) Q :=
  step_ldXb m ρ K _ (perm_rm hpt) (back m ρ K hpt h)

theorem oLdWw {α : Type} {c : Dev nD} {Q : α → sProp 𝕄} {du : List Due} {se : List (Cell × Ph)} {pt : List Pt} (n : ℕ) {off : Fin 3 → ℕ} {inb} (hoff : off = ![(dx c 0).val, 0, 0]) (hpt : has [.wg 0 0 true n, .wg 0 1 true n] pt = true)
    {hl : wgM.view.LoadsAt (Rect.unit (s := S8x4096x256) off S1x4096x256.size inb).toLoadRect} {kk : (S1x4096x256.Idx → Elt F .bf16) → PP F α}
    (h : St m ρ K c du se pt ⊢ Wp c (kk fun j => wgF m ρ ((rWw c).emb j)) Q) :
    St m ρ K c du se pt ⊢ Wp c (Prog.op (.load wgM (Rect.unit (s := S8x4096x256) off S1x4096x256.size inb).toLoadRect hl) kk) Q := by
  rw [dx_zero] at hoff
  exact step_ldWw m ρ K n hoff _ (perm_rm hpt) (back m ρ K hpt h)

theorem oLdYi {α : Type} {c : Dev nD} {Q : α → sProp 𝕄} {du : List Due} {se : List (Cell × Ph)} {pt : List Pt} (k : Fin 8) {off : Fin 3 → ℕ} {inb} (hoff : off = ![(dx c k).val, 0, 0]) (hpt : has [.yi k 0, .yi k 1] pt = true)
    {hl : yiM.view.LoadsAt (Rect.unit (s := S8x512x256) off S1x512x256.size inb).toLoadRect} {kk : (S1x512x256.Idx → Elt F .bf16) → PP F α}
    (h : St m ρ K c du se pt ⊢ Wp c (kk fun j => yiF m ρ c ((rYw (dx c k)).emb j)) Q) :
    St m ρ K c du se pt ⊢ Wp c (Prog.op (.load yiM (Rect.unit (s := S8x512x256) off S1x512x256.size inb).toLoadRect hl) kk) Q :=
  step_ldYi m ρ K k hoff _ (perm_rm hpt) (back m ρ K hpt h)

theorem oLdYb {α : Type} {c : Dev nD} {Q : α → sProp 𝕄} {du : List Due} {se : List (Cell × Ph)} {pt : List Pt} (k : Fin 8) (s : Fin 2) {off : Fin 3 → ℕ} {inb} (hoff : off = ![(dx c k).val, 0, 128 * s.val]) (hpt : has [.ybe k s] pt = true)
    {hl : ybM.view.LoadsAt (Rect.unit (s := S8x512x256) off S1x512x128.size inb).toLoadRect} {kk : (S1x512x128.Idx → Elt F .bf16) → PP F α}
    (h : ∀ v, St m ρ K c du se pt ⊢ Wp c (kk v) Q) :
    St m ρ K c du se pt ⊢ Wp c (Prog.op (.load ybM (Rect.unit (s := S8x512x256) off S1x512x128.size inb).toLoadRect hl) kk) Q :=
  step_ldYb m ρ K k s hoff _ (perm_rm hpt) fun v => back m ρ K hpt (h v)

theorem oStYb {α : Type} {c : Dev nD} {Q : α → sProp 𝕄} {du : List Due} {se : List (Cell × Ph)} {pt : List Pt} (k : Fin 8) (s : Fin 2) {off : Fin 3 → ℕ} {inb} (hoff : off = ![(dx c k).val, 0, 128 * s.val])
    {v : S1x512x128.Idx → Elt F .bf16} (hv : v = yv m ρ c (dx c k) s) (hpt : has [.ybe k s] pt = true) {hx hm} {kk : PUnit → PP F α}
    (h : St m ρ K c du se (.yb k s :: rm [.ybe k s] pt) ⊢ Wp c (kk ⟨⟩) Q) :
    St m ρ K c du se pt ⊢ Wp c (Prog.op (.store ybM (Rect.unit (s := S8x512x256) off S1x512x128.size inb) v Finset.univ hx hm) kk) Q :=
  step_stYb m ρ K k s hoff hv _ (perm_rm hpt) h

theorem oLdO {α : Type} {c : Dev nD} {Q : α → sProp 𝕄} {du : List Due} {se : List (Cell × Ph)} {pt : List Pt} (k : Fin 8) {off : Fin 2 → ℕ} {inb} (hoff : off = ![512 * (dx c k).val, 0]) (hpt : has [.oe k] pt = true)
    {hl : oM.view.LoadsAt (Rect.unit (s := S4096x256) off S512x256.size inb).toLoadRect} {kk : (S512x256.Idx → Elt F .f32) → PP F α}
    (h : ∀ v, St m ρ K c du se pt ⊢ Wp c (kk v) Q) :
    St m ρ K c du se pt ⊢ Wp c (Prog.op (.load oM (Rect.unit (s := S4096x256) off S512x256.size inb).toLoadRect hl) kk) Q :=
  step_ldO m ρ K k hoff _ (perm_rm hpt) fun v => back m ρ K hpt (h v)

theorem oStO {α : Type} {c : Dev nD} {Q : α → sProp 𝕄} {du : List Due} {se : List (Cell × Ph)} {pt : List Pt} (k : Fin 8) {off : Fin 2 → ℕ} {inb} (hoff : off = ![512 * (dx c k).val, 0])
    {v : S512x256.Idx → Elt F .f32} (hv : v = outR m ρ c (dx c k)) (hpt : has [.oe k] pt = true) {hx hm} {kk : PUnit → PP F α}
    (h : St m ρ K c du se (.of k :: rm [.oe k] pt) ⊢ Wp c (kk ⟨⟩) Q) :
    St m ρ K c du se pt ⊢ Wp c (Prog.op (.store oM (Rect.unit (s := S4096x256) off S512x256.size inb) v Finset.univ hx hm) kk) Q :=
  step_stO m ρ K k hoff hv _ (perm_rm hpt) h

theorem oRet {α : Type} {c : Dev nD} {Q : α → sProp 𝕄} {du : List Due} {se : List (Cell × Ph)} {pt : List Pt} (se' : List (Cell × Ph)) (pt' : List Pt) (hs : se.Perm se') (hp : pt.Perm pt') {a : α} (h : St m ρ K c du se' pt' ⊢ Q a) :
    St m ρ K c du se pt ⊢ Wp c (Prog.ret a) Q := by
  rw [St_perm m ρ hs hp]; unfold Wp; rw [wp_ret]
  exact h.trans fupd_intro
end

end Cert.KernelIdeal.Gather

end
-- ==== Proof.Facts.lean ====
/-
# The devices and offsets the program names, and the state after each part
-/
module

public import proofs.«01_k».proof.Proof.Auto

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

/-! ## Devices -/

theorem dev1_eq : ∀ d0 : Dev nD, (⟨k0_dev1 d0, k0_dev1_lt d0⟩ : Dev nD) = dx d0 1 := by decide +kernel
theorem dev2_eq : ∀ d0 : Dev nD, (⟨k0_dev2 d0, k0_dev2_lt d0⟩ : Dev nD) = dx d0 3 := by decide +kernel
theorem dev3_eq : ∀ d0 : Dev nD, (⟨k0_dev3 d0, k0_dev3_lt d0⟩ : Dev nD) = dx d0 4 := by decide +kernel
theorem dev4_eq : ∀ d0 : Dev nD, (⟨k0_dev4 d0, k0_dev4_lt d0⟩ : Dev nD) = dx d0 1 := by decide +kernel
theorem dev5_eq : ∀ d0 : Dev nD, (⟨k0_dev5 d0, k0_dev5_lt d0⟩ : Dev nD) = dx d0 4 := by decide +kernel
theorem dev6_eq : ∀ d0 : Dev nD, (⟨k0_dev6 d0, k0_dev6_lt d0⟩ : Dev nD) = dx d0 3 := by decide +kernel
theorem dev7_eq : ∀ d0 : Dev nD, (⟨k0_dev7 d0, k0_dev7_lt d0⟩ : Dev nD) = dx d0 3 := by decide +kernel
theorem dev8_eq : ∀ d0 : Dev nD, (⟨k0_dev8 d0, k0_dev8_lt d0⟩ : Dev nD) = dx d0 4 := by decide +kernel
theorem dev9_eq : ∀ d0 : Dev nD, (⟨k0_dev9 d0, k0_dev9_lt d0⟩ : Dev nD) = dx d0 1 := by decide +kernel
theorem dev10_eq : ∀ d0 : Dev nD, (⟨k0_dev10 d0, k0_dev10_lt d0⟩ : Dev nD) = dx d0 3 := by decide +kernel
theorem dev11_eq : ∀ d0 : Dev nD, (⟨k0_dev11 d0, k0_dev11_lt d0⟩ : Dev nD) = dx d0 4 := by decide +kernel
theorem dev12_eq : ∀ d0 : Dev nD, (⟨k0_dev12 d0, k0_dev12_lt d0⟩ : Dev nD) = dx d0 1 := by decide +kernel
theorem dev13_eq : ∀ d0 : Dev nD, (⟨k0_dev13 d0, k0_dev13_lt d0⟩ : Dev nD) = dx d0 3 := by decide +kernel
theorem dev14_eq : ∀ d0 : Dev nD, (⟨k0_dev14 d0, k0_dev14_lt d0⟩ : Dev nD) = dx d0 1 := by decide +kernel
theorem dev15_eq : ∀ d0 : Dev nD, (⟨k0_dev15 d0, k0_dev15_lt d0⟩ : Dev nD) = dx d0 4 := by decide +kernel
theorem dev16_eq : ∀ d0 : Dev nD, (⟨k0_dev16 d0, k0_dev16_lt d0⟩ : Dev nD) = dx d0 4 := by decide +kernel
theorem dev17_eq : ∀ d0 : Dev nD, (⟨k0_dev17 d0, k0_dev17_lt d0⟩ : Dev nD) = dx d0 4 := by decide +kernel
theorem dev18_eq : ∀ d0 : Dev nD, (⟨k0_dev18 d0, k0_dev18_lt d0⟩ : Dev nD) = dx d0 3 := by decide +kernel
theorem dev19_eq : ∀ d0 : Dev nD, (⟨k0_dev19 d0, k0_dev19_lt d0⟩ : Dev nD) = dx d0 2 := by decide +kernel
theorem dev20_eq : ∀ d0 : Dev nD, (⟨k0_dev20 d0, k0_dev20_lt d0⟩ : Dev nD) = dx d0 1 := by decide +kernel
theorem dev21_eq : ∀ d0 : Dev nD, (⟨k0_dev21 d0, k0_dev21_lt d0⟩ : Dev nD) = dx d0 1 := by decide +kernel
theorem dev22_eq : ∀ d0 : Dev nD, (⟨k0_dev22 d0, k0_dev22_lt d0⟩ : Dev nD) = dx d0 3 := by decide +kernel
theorem dev23_eq : ∀ d0 : Dev nD, (⟨k0_dev23 d0, k0_dev23_lt d0⟩ : Dev nD) = dx d0 7 := by decide +kernel
theorem dev24_eq : ∀ d0 : Dev nD, (⟨k0_dev24 d0, k0_dev24_lt d0⟩ : Dev nD) = dx d0 4 := by decide +kernel
theorem dev25_eq : ∀ d0 : Dev nD, (⟨k0_dev25 d0, k0_dev25_lt d0⟩ : Dev nD) = dx d0 1 := by decide +kernel
theorem dev26_eq : ∀ d0 : Dev nD, (⟨k0_dev26 d0, k0_dev26_lt d0⟩ : Dev nD) = dx d0 5 := by decide +kernel
theorem dev27_eq : ∀ d0 : Dev nD, (⟨k0_dev27 d0, k0_dev27_lt d0⟩ : Dev nD) = dx d0 5 := by decide +kernel
theorem dev28_eq : ∀ d0 : Dev nD, (⟨k0_dev28 d0, k0_dev28_lt d0⟩ : Dev nD) = dx d0 7 := by decide +kernel
theorem dev29_eq : ∀ d0 : Dev nD, (⟨k0_dev29 d0, k0_dev29_lt d0⟩ : Dev nD) = dx d0 2 := by decide +kernel
theorem dev30_eq : ∀ d0 : Dev nD, (⟨k0_dev30 d0, k0_dev30_lt d0⟩ : Dev nD) = dx d0 6 := by decide +kernel
theorem dev31_eq : ∀ d0 : Dev nD, (⟨k0_dev31 d0, k0_dev31_lt d0⟩ : Dev nD) = dx d0 6 := by decide +kernel

/-! ## Offsets -/

theorem off1_eq : ∀ d0 : Dev nD, k0_off1 d0 = ![(dx d0 0).val, 0, 128 * (0 : Fin 2).val] := by decide +kernel
theorem off2_eq : ∀ d0 : Dev nD, k0_off2 d0 = ![(dx d0 0).val, 0, 128 * (0 : Fin 2).val] := by decide +kernel
theorem off3_eq : ∀ d0 : Dev nD, k0_off3 d0 = ![(dx d0 0).val, 0, 128 * (1 : Fin 2).val] := by decide +kernel
theorem off4_eq : ∀ d0 : Dev nD, k0_off4 d0 = ![(dx d0 0).val, 0, 128 * (1 : Fin 2).val] := by decide +kernel
theorem off5_eq : ∀ d0 : Dev nD, k0_off5 d0 = ![(dx d0 0).val, 0, 0] := by decide +kernel
theorem off6_eq : ∀ d0 : Dev nD, k0_off6 d0 = ![512 * (dx d0 0).val, 0] := by decide +kernel
theorem off7_1_eq : ∀ d0 : Dev nD, k0_off7 d0 1#32 = ![(dx d0 1).val, 0, 128 * (0 : Fin 2).val] := by decide +kernel
theorem off7_3_eq : ∀ d0 : Dev nD, k0_off7 d0 3#32 = ![(dx d0 3).val, 0, 128 * (0 : Fin 2).val] := by decide +kernel
theorem off8_1_eq : ∀ d0 : Dev nD, k0_off8 d0 1#32 = ![(dx d0 1).val, 0, 128 * (0 : Fin 2).val] := by decide +kernel
theorem off8_3_eq : ∀ d0 : Dev nD, k0_off8 d0 3#32 = ![(dx d0 3).val, 0, 128 * (0 : Fin 2).val] := by decide +kernel
theorem off8_4_eq : ∀ d0 : Dev nD, k0_off8 d0 4#32 = ![(dx d0 4).val, 0, 128 * (0 : Fin 2).val] := by decide +kernel
theorem off9_1_eq : ∀ d0 : Dev nD, k0_off9 d0 1#32 = ![(dx d0 1).val, 0, 128 * (0 : Fin 2).val] := by decide +kernel
theorem off9_3_eq : ∀ d0 : Dev nD, k0_off9 d0 3#32 = ![(dx d0 3).val, 0, 128 * (0 : Fin 2).val] := by decide +kernel
theorem off9_4_eq : ∀ d0 : Dev nD, k0_off9 d0 4#32 = ![(dx d0 4).val, 0, 128 * (0 : Fin 2).val] := by decide +kernel
theorem off10_1_eq : ∀ d0 : Dev nD, k0_off10 d0 1#32 = ![(dx d0 1).val, (0 : Fin 2).val] := by decide +kernel
theorem off10_2_eq : ∀ d0 : Dev nD, k0_off10 d0 2#32 = ![(dx d0 2).val, (0 : Fin 2).val] := by decide +kernel
theorem off10_3_eq : ∀ d0 : Dev nD, k0_off10 d0 3#32 = ![(dx d0 3).val, (0 : Fin 2).val] := by decide +kernel
theorem off10_4_eq : ∀ d0 : Dev nD, k0_off10 d0 4#32 = ![(dx d0 4).val, (0 : Fin 2).val] := by decide +kernel
theorem off10_5_eq : ∀ d0 : Dev nD, k0_off10 d0 5#32 = ![(dx d0 5).val, (0 : Fin 2).val] := by decide +kernel
theorem off10_6_eq : ∀ d0 : Dev nD, k0_off10 d0 6#32 = ![(dx d0 6).val, (0 : Fin 2).val] := by decide +kernel
theorem off10_7_eq : ∀ d0 : Dev nD, k0_off10 d0 7#32 = ![(dx d0 7).val, (0 : Fin 2).val] := by decide +kernel
theorem off11_eq : ∀ d0 : Dev nD, k0_off11 d0 = ![(dx d0 0).val, (0 : Fin 2).val] := by decide +kernel
theorem off12_eq : ∀ d0 : Dev nD, k0_off12 d0 = ![(dx d0 0).val, 0, 128 * (0 : Fin 2).val] := by decide +kernel
theorem off13_1_eq : ∀ d0 : Dev nD, k0_off13 d0 1#32 = ![(dx d0 1).val, 0, 128 * (0 : Fin 2).val] := by decide +kernel
theorem off13_3_eq : ∀ d0 : Dev nD, k0_off13 d0 3#32 = ![(dx d0 3).val, 0, 128 * (0 : Fin 2).val] := by decide +kernel
theorem off13_4_eq : ∀ d0 : Dev nD, k0_off13 d0 4#32 = ![(dx d0 4).val, 0, 128 * (0 : Fin 2).val] := by decide +kernel
theorem off14_3_eq : ∀ d0 : Dev nD, k0_off14 d0 3#32 = ![(dx d0 3).val, 0, 128 * (1 : Fin 2).val] := by decide +kernel
theorem off14_4_eq : ∀ d0 : Dev nD, k0_off14 d0 4#32 = ![(dx d0 4).val, 0, 128 * (1 : Fin 2).val] := by decide +kernel
theorem off15_1_eq : ∀ d0 : Dev nD, k0_off15 d0 1#32 = ![(dx d0 1).val, 0, 128 * (1 : Fin 2).val] := by decide +kernel
theorem off15_3_eq : ∀ d0 : Dev nD, k0_off15 d0 3#32 = ![(dx d0 3).val, 0, 128 * (1 : Fin 2).val] := by decide +kernel
theorem off15_4_eq : ∀ d0 : Dev nD, k0_off15 d0 4#32 = ![(dx d0 4).val, 0, 128 * (1 : Fin 2).val] := by decide +kernel
theorem off16_1_eq : ∀ d0 : Dev nD, k0_off16 d0 1#32 = ![(dx d0 1).val, 0, 128 * (1 : Fin 2).val] := by decide +kernel
theorem off16_3_eq : ∀ d0 : Dev nD, k0_off16 d0 3#32 = ![(dx d0 3).val, 0, 128 * (1 : Fin 2).val] := by decide +kernel
theorem off16_4_eq : ∀ d0 : Dev nD, k0_off16 d0 4#32 = ![(dx d0 4).val, 0, 128 * (1 : Fin 2).val] := by decide +kernel
theorem off17_1_eq : ∀ d0 : Dev nD, k0_off17 d0 1#32 = ![(dx d0 1).val, (1 : Fin 2).val] := by decide +kernel
theorem off17_2_eq : ∀ d0 : Dev nD, k0_off17 d0 2#32 = ![(dx d0 2).val, (1 : Fin 2).val] := by decide +kernel
theorem off17_3_eq : ∀ d0 : Dev nD, k0_off17 d0 3#32 = ![(dx d0 3).val, (1 : Fin 2).val] := by decide +kernel
theorem off17_4_eq : ∀ d0 : Dev nD, k0_off17 d0 4#32 = ![(dx d0 4).val, (1 : Fin 2).val] := by decide +kernel
theorem off17_5_eq : ∀ d0 : Dev nD, k0_off17 d0 5#32 = ![(dx d0 5).val, (1 : Fin 2).val] := by decide +kernel
theorem off17_6_eq : ∀ d0 : Dev nD, k0_off17 d0 6#32 = ![(dx d0 6).val, (1 : Fin 2).val] := by decide +kernel
theorem off17_7_eq : ∀ d0 : Dev nD, k0_off17 d0 7#32 = ![(dx d0 7).val, (1 : Fin 2).val] := by decide +kernel
theorem off18_eq : ∀ d0 : Dev nD, k0_off18 d0 = ![(dx d0 0).val, (1 : Fin 2).val] := by decide +kernel
theorem off19_eq : ∀ d0 : Dev nD, k0_off19 d0 = ![(dx d0 0).val, 0, 128 * (1 : Fin 2).val] := by decide +kernel
theorem off20_1_eq : ∀ d0 : Dev nD, k0_off20 d0 1#32 = ![(dx d0 1).val, 0, 128 * (1 : Fin 2).val] := by decide +kernel
theorem off20_3_eq : ∀ d0 : Dev nD, k0_off20 d0 3#32 = ![(dx d0 3).val, 0, 128 * (1 : Fin 2).val] := by decide +kernel
theorem off20_4_eq : ∀ d0 : Dev nD, k0_off20 d0 4#32 = ![(dx d0 4).val, 0, 128 * (1 : Fin 2).val] := by decide +kernel
theorem off21_3_1_eq : ∀ d0 : Dev nD, k0_off21 d0 3#32 1#32 = ![(dx d0 2).val, 0, 128 * (0 : Fin 2).val] := by decide +kernel
theorem off22_3_1_eq : ∀ d0 : Dev nD, k0_off22 d0 3#32 1#32 = ![(dx d0 2).val, 0, 128 * (0 : Fin 2).val] := by decide +kernel
theorem off22_4_1_eq : ∀ d0 : Dev nD, k0_off22 d0 4#32 1#32 = ![(dx d0 5).val, 0, 128 * (0 : Fin 2).val] := by decide +kernel
theorem off22_4_3_eq : ∀ d0 : Dev nD, k0_off22 d0 4#32 3#32 = ![(dx d0 7).val, 0, 128 * (0 : Fin 2).val] := by decide +kernel
theorem off23_3_1_eq : ∀ d0 : Dev nD, k0_off23 d0 3#32 1#32 = ![(dx d0 2).val, 0, 128 * (0 : Fin 2).val] := by decide +kernel
theorem off23_4_1_eq : ∀ d0 : Dev nD, k0_off23 d0 4#32 1#32 = ![(dx d0 5).val, 0, 128 * (0 : Fin 2).val] := by decide +kernel
theorem off23_4_3_eq : ∀ d0 : Dev nD, k0_off23 d0 4#32 3#32 = ![(dx d0 7).val, 0, 128 * (0 : Fin 2).val] := by decide +kernel
theorem off24_3_1_eq : ∀ d0 : Dev nD, k0_off24 d0 3#32 1#32 = ![(dx d0 2).val, (0 : Fin 2).val] := by decide +kernel
theorem off24_4_1_eq : ∀ d0 : Dev nD, k0_off24 d0 4#32 1#32 = ![(dx d0 5).val, (0 : Fin 2).val] := by decide +kernel
theorem off24_4_3_eq : ∀ d0 : Dev nD, k0_off24 d0 4#32 3#32 = ![(dx d0 7).val, (0 : Fin 2).val] := by decide +kernel
theorem off25_3_1_eq : ∀ d0 : Dev nD, k0_off25 d0 3#32 1#32 = ![(dx d0 2).val, 0, 128 * (0 : Fin 2).val] := by decide +kernel
theorem off25_4_1_eq : ∀ d0 : Dev nD, k0_off25 d0 4#32 1#32 = ![(dx d0 5).val, 0, 128 * (0 : Fin 2).val] := by decide +kernel
theorem off25_4_3_eq : ∀ d0 : Dev nD, k0_off25 d0 4#32 3#32 = ![(dx d0 7).val, 0, 128 * (0 : Fin 2).val] := by decide +kernel
theorem off26_3_4_eq : ∀ d0 : Dev nD, k0_off26 d0 3#32 4#32 = ![(dx d0 7).val, 0, 128 * (1 : Fin 2).val] := by decide +kernel
theorem off27_1_3_eq : ∀ d0 : Dev nD, k0_off27 d0 1#32 3#32 = ![(dx d0 2).val, 0, 128 * (1 : Fin 2).val] := by decide +kernel
theorem off27_1_4_eq : ∀ d0 : Dev nD, k0_off27 d0 1#32 4#32 = ![(dx d0 5).val, 0, 128 * (1 : Fin 2).val] := by decide +kernel
theorem off27_3_4_eq : ∀ d0 : Dev nD, k0_off27 d0 3#32 4#32 = ![(dx d0 7).val, 0, 128 * (1 : Fin 2).val] := by decide +kernel
theorem off28_1_3_eq : ∀ d0 : Dev nD, k0_off28 d0 1#32 3#32 = ![(dx d0 2).val, 0, 128 * (1 : Fin 2).val] := by decide +kernel
theorem off28_1_4_eq : ∀ d0 : Dev nD, k0_off28 d0 1#32 4#32 = ![(dx d0 5).val, 0, 128 * (1 : Fin 2).val] := by decide +kernel
theorem off28_3_4_eq : ∀ d0 : Dev nD, k0_off28 d0 3#32 4#32 = ![(dx d0 7).val, 0, 128 * (1 : Fin 2).val] := by decide +kernel
theorem off29_1_3_eq : ∀ d0 : Dev nD, k0_off29 d0 1#32 3#32 = ![(dx d0 2).val, (1 : Fin 2).val] := by decide +kernel
theorem off29_1_4_eq : ∀ d0 : Dev nD, k0_off29 d0 1#32 4#32 = ![(dx d0 5).val, (1 : Fin 2).val] := by decide +kernel
theorem off29_3_4_eq : ∀ d0 : Dev nD, k0_off29 d0 3#32 4#32 = ![(dx d0 7).val, (1 : Fin 2).val] := by decide +kernel
theorem off30_1_3_eq : ∀ d0 : Dev nD, k0_off30 d0 1#32 3#32 = ![(dx d0 2).val, 0, 128 * (1 : Fin 2).val] := by decide +kernel
theorem off30_1_4_eq : ∀ d0 : Dev nD, k0_off30 d0 1#32 4#32 = ![(dx d0 5).val, 0, 128 * (1 : Fin 2).val] := by decide +kernel
theorem off30_3_4_eq : ∀ d0 : Dev nD, k0_off30 d0 3#32 4#32 = ![(dx d0 7).val, 0, 128 * (1 : Fin 2).val] := by decide +kernel
theorem off32_eq : ∀ d0 : Dev nD, k0_off32 d0 = ![(dx d0 6).val, 0, 128 * (0 : Fin 2).val] := by decide +kernel
theorem off33_eq : ∀ d0 : Dev nD, k0_off33 d0 = ![(dx d0 6).val, 0, 128 * (0 : Fin 2).val] := by decide +kernel
theorem off34_eq : ∀ d0 : Dev nD, k0_off34 d0 = ![(dx d0 6).val, (0 : Fin 2).val] := by decide +kernel
theorem off35_eq : ∀ d0 : Dev nD, k0_off35 d0 = ![(dx d0 6).val, 0, 128 * (0 : Fin 2).val] := by decide +kernel
theorem off37_eq : ∀ d0 : Dev nD, k0_off37 d0 = ![(dx d0 6).val, 0, 128 * (1 : Fin 2).val] := by decide +kernel
theorem off38_eq : ∀ d0 : Dev nD, k0_off38 d0 = ![(dx d0 6).val, 0, 128 * (1 : Fin 2).val] := by decide +kernel
theorem off39_eq : ∀ d0 : Dev nD, k0_off39 d0 = ![(dx d0 6).val, (1 : Fin 2).val] := by decide +kernel
theorem off40_eq : ∀ d0 : Dev nD, k0_off40 d0 = ![(dx d0 6).val, 0, 128 * (1 : Fin 2).val] := by decide +kernel
theorem off41_1_eq : ∀ d0 : Dev nD, k0_off41 d0 1#32 = ![(dx d0 1).val, 0, 0] := by decide +kernel
theorem off41_2_eq : ∀ d0 : Dev nD, k0_off41 d0 2#32 = ![(dx d0 2).val, 0, 0] := by decide +kernel
theorem off41_3_eq : ∀ d0 : Dev nD, k0_off41 d0 3#32 = ![(dx d0 3).val, 0, 0] := by decide +kernel
theorem off41_4_eq : ∀ d0 : Dev nD, k0_off41 d0 4#32 = ![(dx d0 4).val, 0, 0] := by decide +kernel
theorem off41_5_eq : ∀ d0 : Dev nD, k0_off41 d0 5#32 = ![(dx d0 5).val, 0, 0] := by decide +kernel
theorem off41_6_eq : ∀ d0 : Dev nD, k0_off41 d0 6#32 = ![(dx d0 6).val, 0, 0] := by decide +kernel
theorem off41_7_eq : ∀ d0 : Dev nD, k0_off41 d0 7#32 = ![(dx d0 7).val, 0, 0] := by decide +kernel
theorem off42_1_eq : ∀ d0 : Dev nD, k0_off42 d0 1#32 = ![512 * (dx d0 1).val, 0] := by decide +kernel
theorem off42_2_eq : ∀ d0 : Dev nD, k0_off42 d0 2#32 = ![512 * (dx d0 2).val, 0] := by decide +kernel
theorem off42_3_eq : ∀ d0 : Dev nD, k0_off42 d0 3#32 = ![512 * (dx d0 3).val, 0] := by decide +kernel
theorem off42_4_eq : ∀ d0 : Dev nD, k0_off42 d0 4#32 = ![512 * (dx d0 4).val, 0] := by decide +kernel
theorem off42_5_eq : ∀ d0 : Dev nD, k0_off42 d0 5#32 = ![512 * (dx d0 5).val, 0] := by decide +kernel
theorem off42_6_eq : ∀ d0 : Dev nD, k0_off42 d0 6#32 = ![512 * (dx d0 6).val, 0] := by decide +kernel
theorem off42_7_eq : ∀ d0 : Dev nD, k0_off42 d0 7#32 = ![512 * (dx d0 7).val, 0] := by decide +kernel

/-! ## States -/

/-- The pieces held after part 0. -/
def p0 : List Pt := [.wge 0 0 0, .wge 0 0 1, .wge 0 1 0, .wge 0 1 1, .wge 0 2 0, .wge 0 2 1, .wge 0 3 0, .wge 0 3 1, .wge 0 4 0, .wge 0 4 1, .wge 0 5 0, .wge 0 5 1, .wge 0 6 0, .wge 0 6 1, .wge 0 7 0, .wge 0 7 1, .ybe 0 0, .ybe 0 1, .ybe 1 0, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .yie 0 1 0, .yie 0 1 1, .yie 0 2 0, .yie 0 2 1, .yie 0 3 0, .yie 0 3 1, .yie 0 4 0, .yie 0 4 1, .yie 0 5 0, .yie 0 5 1, .yie 0 6 0, .yie 0 6 1, .yie 0 7 0, .yie 0 7 1, .x, .w, .xe, .oe 0, .oe 1, .oe 2, .oe 3, .oe 4, .oe 5, .oe 6, .oe 7]
def s0 : List (Cell × Ph) := [(.bar, .armed), (.ws 0 0, .idle), (.ws 0 1, .idle), (.ws 0 2, .idle), (.ws 0 3, .idle), (.ws 0 4, .idle), (.ws 0 5, .idle), (.ws 0 6, .idle), (.ws 1 0, .idle), (.ws 1 1, .idle), (.ws 1 2, .idle), (.ws 1 3, .idle), (.ws 1 4, .idle), (.ws 1 5, .idle), (.ws 1 6, .idle), (.wr 0 0, .armed), (.wr 0 1, .armed), (.wr 0 2, .armed), (.wr 0 3, .armed), (.wr 0 4, .armed), (.wr 0 5, .armed), (.wr 0 6, .armed), (.wr 1 0, .armed), (.wr 1 1, .armed), (.wr 1 2, .armed), (.wr 1 3, .armed), (.wr 1 4, .armed), (.wr 1 5, .armed), (.wr 1 6, .armed), (.ys 0 0, .idle), (.ys 0 1, .idle), (.ys 1 0, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 1. -/
def p1 : List Pt := [.wg 0 0 true 0, .wge 1 0 0, .wge 1 0 1, .wge 1 4 1, .wge 1 3 1, .wge 1 7 1, .wge 3 0 0, .wge 3 1 0, .wge 3 0 1, .wge 3 4 1, .wge 4 0 0, .wge 4 1 0, .wge 4 3 0, .wge 4 2 0, .wge 4 0 1, .wge 0 0 1, .ybe 0 0, .ybe 0 1, .ybe 1 0, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .yie 0 1 0, .yie 0 1 1, .yie 0 2 0, .yie 0 2 1, .yie 0 3 0, .yie 0 3 1, .yie 0 4 0, .yie 0 4 1, .yie 0 5 0, .yie 0 5 1, .yie 0 6 0, .yie 0 6 1, .yie 0 7 0, .yie 0 7 1, .x, .w, .xe, .oe 0, .oe 1, .oe 2, .oe 3, .oe 4, .oe 5, .oe 6, .oe 7]
def s1 : List (Cell × Ph) := [(.bar, .done), (.ws 0 0, .idle), (.ws 0 1, .idle), (.ws 0 2, .idle), (.ws 0 3, .idle), (.ws 0 4, .idle), (.ws 0 5, .idle), (.ws 0 6, .idle), (.ws 1 0, .idle), (.ws 1 1, .idle), (.ws 1 2, .idle), (.ws 1 3, .idle), (.ws 1 4, .idle), (.ws 1 5, .idle), (.ws 1 6, .idle), (.wr 0 0, .armed), (.wr 0 1, .armed), (.wr 0 2, .armed), (.wr 0 3, .armed), (.wr 0 4, .armed), (.wr 0 5, .armed), (.wr 0 6, .armed), (.wr 1 0, .armed), (.wr 1 1, .armed), (.wr 1 2, .armed), (.wr 1 3, .armed), (.wr 1 4, .armed), (.wr 1 5, .armed), (.wr 1 6, .armed), (.ys 0 0, .idle), (.ys 0 1, .idle), (.ys 1 0, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 2. -/
def p2 : List Pt := [.wg 0 1 true 1, .wg 0 0 true 1, .wge 1 0 1, .wge 1 4 1, .wge 1 3 1, .wge 1 7 1, .wge 3 0 0, .wge 3 1 0, .wge 3 0 1, .wge 3 4 1, .wge 4 0 0, .wge 4 1 0, .wge 4 3 0, .wge 4 2 0, .ybe 0 0, .ybe 0 1, .ybe 1 0, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .yie 0 1 1, .yie 0 2 1, .yie 0 3 0, .yie 0 3 1, .yie 0 4 0, .yie 0 7 0, .x, .w, .xe, .oe 0, .oe 1, .oe 2, .oe 3, .oe 4, .oe 5, .oe 6, .oe 7]
def s2 : List (Cell × Ph) := [(.ws 1 0, .armed), (.ws 0 0, .armed), (.bar, .done), (.ws 0 1, .idle), (.ws 0 2, .idle), (.ws 0 3, .idle), (.ws 0 4, .idle), (.ws 0 5, .idle), (.ws 0 6, .idle), (.ws 1 1, .idle), (.ws 1 2, .idle), (.ws 1 3, .idle), (.ws 1 4, .idle), (.ws 1 5, .idle), (.ws 1 6, .idle), (.wr 0 0, .armed), (.wr 0 1, .armed), (.wr 0 2, .armed), (.wr 0 3, .armed), (.wr 0 4, .armed), (.wr 0 5, .armed), (.wr 0 6, .armed), (.wr 1 0, .armed), (.wr 1 1, .armed), (.wr 1 2, .armed), (.wr 1 3, .armed), (.wr 1 4, .armed), (.wr 1 5, .armed), (.wr 1 6, .armed), (.ys 0 0, .idle), (.ys 0 1, .idle), (.ys 1 0, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 3. -/
def p3 : List Pt := [.wg 0 0 true 3, .wg 0 1 true 2, .wge 1 0 1, .wge 1 4 1, .wge 1 3 1, .wge 1 7 1, .wge 3 1 0, .wge 3 4 1, .wge 4 1 0, .wge 4 3 0, .wge 4 2 0, .ybe 0 0, .ybe 0 1, .ybe 1 0, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .yie 0 1 1, .x, .w, .xe, .oe 0, .oe 1, .oe 2, .oe 3, .oe 4, .oe 5, .oe 6, .oe 7]
def s3 : List (Cell × Ph) := [(.ws 0 3, .armed), (.ws 1 1, .armed), (.ws 0 1, .armed), (.ws 1 0, .armed), (.ws 0 0, .armed), (.bar, .done), (.ws 0 2, .idle), (.ws 0 4, .idle), (.ws 0 5, .idle), (.ws 0 6, .idle), (.ws 1 2, .idle), (.ws 1 3, .idle), (.ws 1 4, .idle), (.ws 1 5, .idle), (.ws 1 6, .idle), (.wr 0 0, .armed), (.wr 0 1, .armed), (.wr 0 2, .armed), (.wr 0 3, .armed), (.wr 0 4, .armed), (.wr 0 5, .armed), (.wr 0 6, .armed), (.wr 1 0, .armed), (.wr 1 1, .armed), (.wr 1 2, .armed), (.wr 1 3, .armed), (.wr 1 4, .armed), (.wr 1 5, .armed), (.wr 1 6, .armed), (.ys 0 0, .idle), (.ys 0 1, .idle), (.ys 1 0, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 4. -/
def p4 : List Pt := [.of 0, .xb, .wg 0 1 true 3, .wg 0 0 true 3, .wge 1 4 1, .wge 1 3 1, .wge 1 7 1, .wge 3 1 0, .wge 3 4 1, .wge 4 1 0, .wge 4 3 0, .wge 4 2 0, .ybe 0 0, .ybe 0 1, .ybe 1 0, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s4 : List (Cell × Ph) := [(.ws 1 3, .armed), (.ws 0 3, .armed), (.ws 1 1, .armed), (.ws 0 1, .armed), (.ws 1 0, .armed), (.ws 0 0, .armed), (.bar, .done), (.ws 0 2, .idle), (.ws 0 4, .idle), (.ws 0 5, .idle), (.ws 0 6, .idle), (.ws 1 2, .idle), (.ws 1 4, .idle), (.ws 1 5, .idle), (.ws 1 6, .idle), (.wr 0 0, .armed), (.wr 0 1, .armed), (.wr 0 2, .armed), (.wr 0 3, .armed), (.wr 0 4, .armed), (.wr 0 5, .armed), (.wr 0 6, .armed), (.wr 1 0, .armed), (.wr 1 1, .armed), (.wr 1 2, .armed), (.wr 1 3, .armed), (.wr 1 4, .armed), (.wr 1 5, .armed), (.wr 1 6, .armed), (.ys 0 0, .idle), (.ys 0 1, .idle), (.ys 1 0, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 5. -/
def p5 : List Pt := [.wg 1 0 true 1, .yie 1 0 0, .yie 1 4 0, .of 0, .xb, .wg 0 1 true 3, .wg 0 0 true 3, .wge 1 4 1, .wge 1 3 1, .wge 1 7 1, .wge 3 4 1, .wge 4 1 0, .wge 4 3 0, .wge 4 2 0, .ybe 0 0, .ybe 0 1, .ybe 1 0, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s5 : List (Cell × Ph) := [(.ws 0 2, .armed), (.wr 0 0, .done), (.ws 1 3, .armed), (.ws 0 3, .armed), (.ws 1 1, .armed), (.ws 0 1, .armed), (.ws 1 0, .armed), (.ws 0 0, .armed), (.bar, .done), (.ws 0 4, .idle), (.ws 0 5, .idle), (.ws 0 6, .idle), (.ws 1 2, .idle), (.ws 1 4, .idle), (.ws 1 5, .idle), (.ws 1 6, .idle), (.wr 0 1, .armed), (.wr 0 2, .armed), (.wr 0 3, .armed), (.wr 0 4, .armed), (.wr 0 5, .armed), (.wr 0 6, .armed), (.wr 1 0, .armed), (.wr 1 1, .armed), (.wr 1 2, .armed), (.wr 1 3, .armed), (.wr 1 4, .armed), (.wr 1 5, .armed), (.wr 1 6, .armed), (.ys 0 0, .idle), (.ys 0 1, .idle), (.ys 1 0, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 6. -/
def p6 : List Pt := [.wg 1 0 true 2, .of 0, .xb, .wg 0 1 true 3, .wg 0 0 true 3, .wge 1 4 1, .wge 1 3 1, .wge 1 7 1, .wge 3 4 1, .wge 4 3 0, .wge 4 2 0, .ybe 0 0, .ybe 0 1, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s6 : List (Cell × Ph) := [(.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ws 0 5, .idle), (.ws 0 6, .idle), (.ws 1 2, .idle), (.ws 1 4, .idle), (.ws 1 5, .idle), (.ws 1 6, .idle), (.wr 0 1, .armed), (.wr 0 2, .armed), (.wr 0 3, .armed), (.wr 0 4, .armed), (.wr 0 5, .armed), (.wr 0 6, .armed), (.wr 1 0, .armed), (.wr 1 1, .armed), (.wr 1 2, .armed), (.wr 1 3, .armed), (.wr 1 4, .armed), (.wr 1 5, .armed), (.wr 1 6, .armed), (.ys 0 0, .idle), (.ys 0 1, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 7. -/
def p7 : List Pt := [.wg 4 1 true 1, .yie 4 0 1, .yie 4 1 1, .wg 1 0 true 2, .of 0, .xb, .wg 0 1 true 3, .wg 0 0 true 3, .wge 1 4 1, .wge 1 3 1, .wge 1 7 1, .wge 4 3 0, .wge 4 2 0, .ybe 0 0, .ybe 0 1, .ybe 1 1, .ybe 2 0, .ybe 2 1, .ybe 3 0, .ybe 3 1, .ybe 4 0, .ybe 4 1, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s7 : List (Cell × Ph) := [(.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ws 0 5, .idle), (.ws 0 6, .idle), (.ws 1 4, .idle), (.ws 1 5, .idle), (.ws 1 6, .idle), (.wr 0 1, .armed), (.wr 0 2, .armed), (.wr 0 3, .armed), (.wr 0 4, .armed), (.wr 0 5, .armed), (.wr 0 6, .armed), (.wr 1 1, .armed), (.wr 1 2, .armed), (.wr 1 3, .armed), (.wr 1 4, .armed), (.wr 1 5, .armed), (.wr 1 6, .armed), (.ys 0 0, .idle), (.ys 0 1, .idle), (.ys 1 1, .idle), (.ys 2 0, .idle), (.ys 2 1, .idle), (.ys 3 0, .idle), (.ys 3 1, .idle), (.ys 4 0, .idle), (.ys 4 1, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 8. -/
def p8 : List Pt := [.wg 4 1 true 2, .wg 1 0 true 2, .of 0, .xb, .wg 0 1 true 3, .wg 0 0 true 3, .wge 1 3 1, .wge 1 7 1, .wge 4 3 0, .wge 4 2 0, .ybe 0 0, .ybe 0 1, .ybe 1 1, .ybe 2 0, .ybe 2 1, .ybe 3 0, .ybe 3 1, .ybe 4 0, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s8 : List (Cell × Ph) := [(.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ws 0 5, .idle), (.ws 0 6, .idle), (.ws 1 5, .idle), (.ws 1 6, .idle), (.wr 0 1, .armed), (.wr 0 2, .armed), (.wr 0 3, .armed), (.wr 0 4, .armed), (.wr 0 5, .armed), (.wr 0 6, .armed), (.wr 1 1, .armed), (.wr 1 2, .armed), (.wr 1 3, .armed), (.wr 1 4, .armed), (.wr 1 5, .armed), (.wr 1 6, .armed), (.ys 0 0, .idle), (.ys 0 1, .idle), (.ys 1 1, .idle), (.ys 2 0, .idle), (.ys 2 1, .idle), (.ys 3 0, .idle), (.ys 3 1, .idle), (.ys 4 0, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 9. -/
def p9 : List Pt := [.wg 3 0 true 1, .yie 3 0 0, .wg 4 1 true 2, .wg 1 0 true 2, .of 0, .xb, .wg 0 1 true 3, .wg 0 0 true 3, .wge 1 3 1, .wge 1 7 1, .wge 4 2 0, .ybe 0 0, .ybe 0 1, .ybe 1 1, .ybe 2 0, .ybe 2 1, .ybe 3 0, .ybe 3 1, .ybe 4 0, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s9 : List (Cell × Ph) := [(.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ws 0 6, .idle), (.ws 1 5, .idle), (.ws 1 6, .idle), (.wr 0 2, .armed), (.wr 0 3, .armed), (.wr 0 4, .armed), (.wr 0 5, .armed), (.wr 0 6, .armed), (.wr 1 1, .armed), (.wr 1 2, .armed), (.wr 1 3, .armed), (.wr 1 4, .armed), (.wr 1 5, .armed), (.wr 1 6, .armed), (.ys 0 0, .idle), (.ys 0 1, .idle), (.ys 1 1, .idle), (.ys 2 0, .idle), (.ys 2 1, .idle), (.ys 3 0, .idle), (.ys 3 1, .idle), (.ys 4 0, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 10. -/
def p10 : List Pt := [.yb 3 0, .wg 2 0 true 1, .yie 2 0 0, .wg 3 0 true 1, .yie 3 0 0, .wg 4 1 true 2, .wg 1 0 true 2, .of 0, .xb, .wg 0 1 true 3, .wg 0 0 true 3, .wge 1 3 1, .wge 1 7 1, .ybe 0 0, .ybe 0 1, .ybe 1 1, .ybe 2 0, .ybe 2 1, .ybe 3 1, .ybe 4 0, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s10 : List (Cell × Ph) := [(.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ws 1 5, .idle), (.ws 1 6, .idle), (.wr 0 3, .armed), (.wr 0 4, .armed), (.wr 0 5, .armed), (.wr 0 6, .armed), (.wr 1 1, .armed), (.wr 1 2, .armed), (.wr 1 3, .armed), (.wr 1 4, .armed), (.wr 1 5, .armed), (.wr 1 6, .armed), (.ys 0 0, .idle), (.ys 0 1, .idle), (.ys 1 1, .idle), (.ys 2 0, .idle), (.ys 2 1, .idle), (.ys 3 0, .idle), (.ys 3 1, .idle), (.ys 4 0, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 11. -/
def p11 : List Pt := [.yb 2 0, .wg 2 0 true 1, .yie 2 0 0, .wg 3 0 true 1, .wg 4 1 true 2, .wg 1 0 true 2, .of 0, .xb, .wg 0 1 true 3, .wg 0 0 true 3, .wge 1 3 1, .wge 1 7 1, .ybe 0 0, .ybe 0 1, .ybe 1 1, .ybe 2 1, .ybe 3 1, .ybe 4 0, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s11 : List (Cell × Ph) := [(.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ws 1 5, .idle), (.ws 1 6, .idle), (.wr 0 3, .armed), (.wr 0 4, .armed), (.wr 0 5, .armed), (.wr 0 6, .armed), (.wr 1 1, .armed), (.wr 1 2, .armed), (.wr 1 3, .armed), (.wr 1 4, .armed), (.wr 1 5, .armed), (.wr 1 6, .armed), (.ys 0 0, .idle), (.ys 0 1, .idle), (.ys 1 1, .idle), (.ys 2 0, .idle), (.ys 2 1, .idle), (.ys 3 1, .idle), (.ys 4 0, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 12. -/
def p12 : List Pt := [.wg 3 1 true 1, .yie 3 0 1, .wg 2 0 true 1, .wg 3 0 true 1, .wg 4 1 true 2, .wg 1 0 true 2, .of 0, .xb, .wg 0 1 true 3, .wg 0 0 true 3, .wge 1 7 1, .ybe 0 0, .ybe 0 1, .ybe 1 1, .ybe 2 1, .ybe 3 1, .ybe 4 0, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s12 : List (Cell × Ph) := [(.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ws 1 6, .idle), (.wr 0 3, .armed), (.wr 0 4, .armed), (.wr 0 5, .armed), (.wr 0 6, .armed), (.wr 1 2, .armed), (.wr 1 3, .armed), (.wr 1 4, .armed), (.wr 1 5, .armed), (.wr 1 6, .armed), (.ys 0 0, .idle), (.ys 0 1, .idle), (.ys 1 1, .idle), (.ys 2 1, .idle), (.ys 3 1, .idle), (.ys 4 0, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 13. -/
def p13 : List Pt := [.wg 7 1 true 1, .yie 7 0 1, .wg 3 1 true 1, .yie 3 0 1, .wg 2 0 true 1, .wg 3 0 true 1, .wg 4 1 true 2, .wg 1 0 true 2, .of 0, .xb, .wg 0 1 true 3, .wg 0 0 true 3, .ybe 0 0, .ybe 0 1, .ybe 1 1, .ybe 2 1, .ybe 3 1, .ybe 4 0, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s13 : List (Cell × Ph) := [(.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 3, .armed), (.wr 0 4, .armed), (.wr 0 5, .armed), (.wr 0 6, .armed), (.wr 1 3, .armed), (.wr 1 4, .armed), (.wr 1 5, .armed), (.wr 1 6, .armed), (.ys 0 0, .idle), (.ys 0 1, .idle), (.ys 1 1, .idle), (.ys 2 1, .idle), (.ys 3 1, .idle), (.ys 4 0, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 14. -/
def p14 : List Pt := [.wg 7 1 true 1, .yie 7 0 1, .wg 3 1 true 1, .wg 2 0 true 1, .wg 3 0 true 1, .wg 4 1 true 2, .wg 1 0 true 2, .of 0, .xb, .wg 0 1 true 3, .wg 0 0 true 3, .ybe 0 0, .ybe 0 1, .ybe 1 1, .ybe 2 1, .ybe 4 0, .ybe 5 0, .ybe 5 1, .ybe 6 0, .ybe 6 1, .ybe 7 0, .ybe 7 1, .yie 0 0 0, .yie 0 0 1, .x, .w, .oe 1, .oe 2, .oe 3, .oe 4, .oe 5, .oe 6, .oe 7]
def s14 : List (Cell × Ph) := [(.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 3, .armed), (.wr 0 4, .armed), (.wr 0 5, .armed), (.wr 0 6, .armed), (.wr 1 3, .armed), (.wr 1 4, .armed), (.wr 1 5, .armed), (.wr 1 6, .armed), (.ys 0 0, .idle), (.ys 0 1, .idle), (.ys 1 1, .idle), (.ys 2 1, .idle), (.ys 4 0, .idle), (.ys 5 0, .idle), (.ys 5 1, .idle), (.ys 6 0, .idle), (.ys 6 1, .idle), (.ys 7 0, .idle), (.ys 7 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 15. -/
def p15 : List Pt := [.wg 4 0 true 0, .yie 4 0 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 1 1, .ybe 2 1, .ybe 4 0, .ybe 5 0, .ybe 5 1, .ybe 6 0, .ybe 6 1, .ybe 7 0, .yie 0 0 0, .yie 0 0 1, .x, .w, .oe 1, .oe 2, .oe 3, .oe 4, .oe 5, .oe 6, .oe 7]
def s15 : List (Cell × Ph) := [(.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 4, .armed), (.wr 0 5, .armed), (.wr 0 6, .armed), (.wr 1 3, .armed), (.wr 1 4, .armed), (.wr 1 5, .armed), (.wr 1 6, .armed), (.ys 0 0, .idle), (.ys 0 1, .idle), (.ys 1 1, .idle), (.ys 2 1, .idle), (.ys 4 0, .idle), (.ys 5 0, .idle), (.ys 5 1, .idle), (.ys 6 0, .idle), (.ys 6 1, .idle), (.ys 7 0, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 16. -/
def p16 : List Pt := [.wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 1 1, .ybe 2 1, .ybe 5 0, .ybe 5 1, .ybe 6 0, .ybe 6 1, .ybe 7 0, .yie 0 0 0, .yie 0 0 1, .x, .w, .oe 1, .oe 2, .oe 3, .oe 4, .oe 5, .oe 6, .oe 7]
def s16 : List (Cell × Ph) := [(.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 4, .armed), (.wr 0 5, .armed), (.wr 0 6, .armed), (.wr 1 3, .armed), (.wr 1 4, .armed), (.wr 1 5, .armed), (.wr 1 6, .armed), (.ys 0 0, .idle), (.ys 0 1, .idle), (.ys 1 1, .idle), (.ys 2 1, .idle), (.ys 5 0, .idle), (.ys 5 1, .idle), (.ys 6 0, .idle), (.ys 6 1, .idle), (.ys 7 0, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 17. -/
def p17 : List Pt := [.wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 2 1, .ybe 5 0, .ybe 5 1, .ybe 6 0, .ybe 6 1, .ybe 7 0, .yie 0 0 0, .yie 0 0 1, .x, .w, .oe 1, .oe 2, .oe 3, .oe 4, .oe 5, .oe 6, .oe 7]
def s17 : List (Cell × Ph) := [(.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 4, .armed), (.wr 0 5, .armed), (.wr 0 6, .armed), (.wr 1 4, .armed), (.wr 1 5, .armed), (.wr 1 6, .armed), (.ys 0 0, .idle), (.ys 0 1, .idle), (.ys 2 1, .idle), (.ys 5 0, .idle), (.ys 5 1, .idle), (.ys 6 0, .idle), (.ys 6 1, .idle), (.ys 7 0, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 18. -/
def p18 : List Pt := [.yb 5 0, .wg 5 0 true 0, .yie 5 0 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 2 1, .ybe 5 1, .ybe 6 0, .ybe 6 1, .ybe 7 0, .yie 0 0 0, .yie 0 0 1, .x, .w, .oe 1, .oe 2, .oe 3, .oe 4, .oe 5, .oe 6, .oe 7]
def s18 : List (Cell × Ph) := [(.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 5, .armed), (.wr 0 6, .armed), (.wr 1 4, .armed), (.wr 1 5, .armed), (.wr 1 6, .armed), (.ys 0 0, .idle), (.ys 0 1, .idle), (.ys 2 1, .idle), (.ys 5 0, .idle), (.ys 5 1, .idle), (.ys 6 0, .idle), (.ys 6 1, .idle), (.ys 7 0, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 19. -/
def p19 : List Pt := [.wg 5 1 true 0, .yie 5 0 1, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 2 1, .ybe 5 1, .ybe 6 0, .ybe 6 1, .ybe 7 0, .yie 0 0 0, .yie 0 0 1, .x, .w, .oe 1, .oe 2, .oe 3, .oe 4, .oe 5, .oe 6, .oe 7]
def s19 : List (Cell × Ph) := [(.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 5, .armed), (.wr 0 6, .armed), (.wr 1 5, .armed), (.wr 1 6, .armed), (.ys 0 0, .idle), (.ys 0 1, .idle), (.ys 2 1, .idle), (.ys 5 1, .idle), (.ys 6 0, .idle), (.ys 6 1, .idle), (.ys 7 0, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 20. -/
def p20 : List Pt := [.wg 7 0 true 0, .yie 7 0 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 2 1, .ybe 6 0, .ybe 6 1, .ybe 7 0, .yie 0 0 0, .yie 0 0 1, .x, .w, .oe 1, .oe 2, .oe 3, .oe 4, .oe 5, .oe 6, .oe 7]
def s20 : List (Cell × Ph) := [(.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 6, .armed), (.wr 1 5, .armed), (.wr 1 6, .armed), (.ys 0 0, .idle), (.ys 0 1, .idle), (.ys 2 1, .idle), (.ys 6 0, .idle), (.ys 6 1, .idle), (.ys 7 0, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 21. -/
def p21 : List Pt := [.wg 2 1 true 0, .yie 2 0 1, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 2 1, .ybe 6 0, .ybe 6 1, .yie 0 0 0, .yie 0 0 1, .x, .w, .oe 1, .oe 2, .oe 3, .oe 4, .oe 5, .oe 6, .oe 7]
def s21 : List (Cell × Ph) := [(.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 6, .armed), (.wr 1 6, .armed), (.ys 0 0, .idle), (.ys 0 1, .idle), (.ys 2 1, .idle), (.ys 6 0, .idle), (.ys 6 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 22. -/
def p22 : List Pt := [.wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 6 0, .ybe 6 1, .yie 0 0 0, .yie 0 0 1, .x, .w, .oe 1, .oe 2, .oe 3, .oe 4, .oe 5, .oe 6, .oe 7]
def s22 : List (Cell × Ph) := [(.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 0 6, .armed), (.wr 1 6, .armed), (.ys 0 0, .idle), (.ys 0 1, .idle), (.ys 6 0, .idle), (.ys 6 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 23. -/
def p23 : List Pt := [.yb 6 0, .wg 6 0 true 0, .yie 6 0 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 6 1, .yie 0 0 0, .yie 0 0 1, .x, .w, .oe 1, .oe 2, .oe 3, .oe 4, .oe 5, .oe 6, .oe 7]
def s23 : List (Cell × Ph) := [(.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.wr 1 6, .armed), (.ys 0 0, .idle), (.ys 0 1, .idle), (.ys 6 0, .idle), (.ys 6 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 24. -/
def p24 : List Pt := [.wg 6 1 true 0, .yie 6 0 1, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .ybe 6 1, .yie 0 0 0, .yie 0 0 1, .x, .w, .oe 1, .oe 2, .oe 3, .oe 4, .oe 5, .oe 6, .oe 7]
def s24 : List (Cell × Ph) := [(.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ys 0 0, .idle), (.ys 0 1, .idle), (.ys 6 1, .idle), (.yr 0 0, .idle), (.yr 0 1, .idle), (.yr 1 0, .armed), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 25. -/
def p25 : List Pt := [.yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w, .oe 1, .oe 2, .oe 3, .oe 4, .oe 5, .oe 6, .oe 7]
def s25 : List (Cell × Ph) := [(.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ys 0 0, .idle), (.ys 0 1, .idle), (.yr 0 0, .idle), (.yr 0 1, .idle), (.yr 1 1, .armed), (.yr 2 0, .armed), (.yr 2 1, .armed), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 26. -/
def p26 : List Pt := [.yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w, .oe 2, .oe 3, .oe 4, .oe 5, .oe 6, .oe 7]
def s26 : List (Cell × Ph) := [(.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ys 0 0, .idle), (.ys 0 1, .idle), (.yr 0 0, .idle), (.yr 0 1, .idle), (.yr 3 0, .armed), (.yr 3 1, .armed), (.yr 4 0, .armed), (.yr 4 1, .armed), (.yr 5 0, .armed), (.yr 5 1, .armed), (.yr 6 0, .armed), (.yr 6 1, .armed), (.yr 7 0, .armed), (.yr 7 1, .armed)]

/-- The pieces held after part 27. -/
def p27 : List Pt := [.of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w, .oe 4, .oe 5, .oe 6, .oe 7]
def s27 : List (Cell × Ph) := [(.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ys 0 0, .idle), (.ys 0 1, .idle), (.yr 0 0, .idle), (.yr 0 1, .idle), (.yr 4 0, .armed), (.yr 4 1, .armed), (.yr 5 0, .armed), (.yr 5 1, .armed), (.yr 6 0, .armed), (.yr 6 1, .armed), (.yr 7 0, .armed), (.yr 7 1, .armed)]

/-- The pieces held after part 28. -/
def p28 : List Pt := [.yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w, .oe 5, .oe 6, .oe 7]
def s28 : List (Cell × Ph) := [(.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ys 0 0, .idle), (.ys 0 1, .idle), (.yr 0 0, .idle), (.yr 0 1, .idle), (.yr 5 1, .armed), (.yr 6 0, .armed), (.yr 6 1, .armed), (.yr 7 0, .armed), (.yr 7 1, .armed)]

/-- The pieces held after part 29. -/
def p29 : List Pt := [.yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w, .oe 6, .oe 7]
def s29 : List (Cell × Ph) := [(.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ys 0 0, .idle), (.ys 0 1, .idle), (.yr 0 0, .idle), (.yr 0 1, .idle), (.yr 6 1, .armed), (.yr 7 0, .armed), (.yr 7 1, .armed)]

/-- The pieces held after part 30. -/
def p30 : List Pt := [.yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w, .oe 7]
def s30 : List (Cell × Ph) := [(.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.ws 0 1, .armed), (.ws 1 0, .armed), (.ws 0 0, .armed), (.bar, .done), (.ys 0 0, .idle), (.ys 0 1, .idle), (.yr 0 0, .idle), (.yr 0 1, .idle)]

/-- The pieces held after part 31. -/
def p31 : List Pt := [.wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s31 : List (Cell × Ph) := [(.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.ws 0 2, .armed), (.wr 0 0, .done), (.ws 1 3, .armed), (.ws 0 3, .armed), (.ws 1 1, .armed), (.bar, .done), (.ys 0 0, .idle), (.ys 0 1, .idle), (.yr 0 0, .idle), (.yr 0 1, .idle)]

/-- The pieces held after part 32. -/
def p32 : List Pt := [.wg 1 0 false 0, .wg 0 1 false 2, .wg 0 0 false 2, .wg 0 1 false 1, .wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s32 : List (Cell × Ph) := [(.ws 0 2, .done), (.ws 1 3, .done), (.ws 0 3, .done), (.ws 1 1, .done), (.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.ws 1 4, .armed), (.ws 1 2, .armed), (.wr 1 0, .done), (.ys 1 0, .armed), (.ws 0 4, .armed), (.wr 0 0, .done), (.bar, .done), (.ys 0 0, .idle), (.ys 0 1, .idle), (.yr 0 0, .idle), (.yr 0 1, .idle)]

/-- The pieces held after part 33. -/
def p33 : List Pt := [.wg 4 1 false 1, .wg 4 1 false 0, .wg 1 0 false 1, .wg 1 0 false 0, .wg 0 1 false 2, .wg 0 0 false 2, .wg 0 1 false 1, .wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s33 : List (Cell × Ph) := [(.ws 1 4, .done), (.ws 1 2, .done), (.ws 0 4, .done), (.ws 0 2, .done), (.ws 1 3, .done), (.ws 0 3, .done), (.ws 1 1, .done), (.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.ws 1 6, .armed), (.wr 1 2, .done), (.ws 1 5, .armed), (.wr 1 1, .done), (.ys 2 0, .armed), (.ys 3 0, .armed), (.ws 0 6, .armed), (.wr 0 2, .done), (.ws 0 5, .armed), (.wr 0 1, .done), (.ys 4 1, .armed), (.wr 1 0, .done), (.ys 1 0, .armed), (.wr 0 0, .done), (.bar, .done), (.ys 0 0, .idle), (.ys 0 1, .idle), (.yr 0 0, .idle), (.yr 0 1, .idle)]

/-- The pieces held after part 34. -/
def p34 : List Pt := [.wg 7 1 false 0, .wg 3 1 false 0, .wg 2 0 false 0, .wg 3 0 false 0, .wg 4 1 false 1, .wg 4 1 false 0, .wg 1 0 false 1, .wg 1 0 false 0, .wg 0 1 false 2, .wg 0 0 false 2, .wg 0 1 false 1, .wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s34 : List (Cell × Ph) := [(.ws 1 6, .done), (.ws 1 5, .done), (.ws 0 6, .done), (.ws 0 5, .done), (.ws 1 4, .done), (.ws 1 2, .done), (.ws 0 4, .done), (.ws 0 2, .done), (.ws 1 3, .done), (.ws 0 3, .done), (.ws 1 1, .done), (.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.ys 3 1, .armed), (.wr 1 2, .done), (.wr 1 1, .done), (.ys 2 0, .armed), (.ys 3 0, .armed), (.wr 0 2, .done), (.wr 0 1, .done), (.ys 4 1, .armed), (.wr 1 0, .done), (.ys 1 0, .armed), (.wr 0 0, .done), (.bar, .done), (.ys 0 0, .idle), (.ys 0 1, .idle), (.yr 0 0, .idle), (.yr 0 1, .idle)]

/-- The pieces held after part 35. -/
def p35 : List Pt := [.yb 3 1, .yb 2 0, .yb 3 0, .yb 4 1, .yb 1 0, .wg 7 1 false 0, .wg 3 1 false 0, .wg 2 0 false 0, .wg 3 0 false 0, .wg 4 1 false 1, .wg 4 1 false 0, .wg 1 0 false 1, .wg 1 0 false 0, .wg 0 1 false 2, .wg 0 0 false 2, .wg 0 1 false 1, .wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s35 : List (Cell × Ph) := [(.ys 3 1, .done), (.ys 2 0, .done), (.ys 3 0, .done), (.ys 4 1, .done), (.ys 1 0, .done), (.ws 1 6, .done), (.ws 1 5, .done), (.ws 0 6, .done), (.ws 0 5, .done), (.ws 1 4, .done), (.ws 1 2, .done), (.ws 0 4, .done), (.ws 0 2, .done), (.ws 1 3, .done), (.ws 0 3, .done), (.ws 1 1, .done), (.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.ys 5 0, .armed), (.wr 0 4, .done), (.ys 1 1, .armed), (.wr 1 3, .done), (.ys 4 0, .armed), (.wr 0 3, .done), (.ys 7 1, .armed), (.wr 1 2, .done), (.wr 1 1, .done), (.wr 0 2, .done), (.wr 0 1, .done), (.wr 1 0, .done), (.wr 0 0, .done), (.bar, .done), (.ys 0 0, .idle), (.ys 0 1, .idle), (.yr 0 0, .idle), (.yr 0 1, .idle)]

/-- The pieces held after part 36. -/
def p36 : List Pt := [.yb 5 0, .yb 1 1, .yb 4 0, .yb 7 1, .yb 3 1, .yb 2 0, .yb 3 0, .yb 4 1, .yb 1 0, .wg 7 1 false 0, .wg 3 1 false 0, .wg 2 0 false 0, .wg 3 0 false 0, .wg 4 1 false 1, .wg 4 1 false 0, .wg 1 0 false 1, .wg 1 0 false 0, .wg 0 1 false 2, .wg 0 0 false 2, .wg 0 1 false 1, .wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s36 : List (Cell × Ph) := [(.ys 5 0, .done), (.ys 1 1, .done), (.ys 4 0, .done), (.ys 7 1, .done), (.ys 3 1, .done), (.ys 2 0, .done), (.ys 3 0, .done), (.ys 4 1, .done), (.ys 1 0, .done), (.ws 1 6, .done), (.ws 1 5, .done), (.ws 0 6, .done), (.ws 0 5, .done), (.ws 1 4, .done), (.ws 1 2, .done), (.ws 0 4, .done), (.ws 0 2, .done), (.ws 1 3, .done), (.ws 0 3, .done), (.ws 1 1, .done), (.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.ys 6 0, .armed), (.wr 0 6, .done), (.ys 2 1, .armed), (.wr 1 5, .done), (.ys 7 0, .armed), (.wr 0 5, .done), (.ys 5 1, .armed), (.wr 1 4, .done), (.wr 0 4, .done), (.wr 1 3, .done), (.wr 0 3, .done), (.wr 1 2, .done), (.wr 1 1, .done), (.wr 0 2, .done), (.wr 0 1, .done), (.wr 1 0, .done), (.wr 0 0, .done), (.bar, .done), (.ys 0 0, .idle), (.ys 0 1, .idle), (.yr 0 0, .idle), (.yr 0 1, .idle)]

/-- The pieces held after part 37. -/
def p37 : List Pt := [.yb 6 0, .yb 2 1, .yb 7 0, .yb 5 1, .yb 5 0, .yb 1 1, .yb 4 0, .yb 7 1, .yb 3 1, .yb 2 0, .yb 3 0, .yb 4 1, .yb 1 0, .wg 7 1 false 0, .wg 3 1 false 0, .wg 2 0 false 0, .wg 3 0 false 0, .wg 4 1 false 1, .wg 4 1 false 0, .wg 1 0 false 1, .wg 1 0 false 0, .wg 0 1 false 2, .wg 0 0 false 2, .wg 0 1 false 1, .wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s37 : List (Cell × Ph) := [(.ys 6 0, .done), (.ys 2 1, .done), (.ys 7 0, .done), (.ys 5 1, .done), (.ys 5 0, .done), (.ys 1 1, .done), (.ys 4 0, .done), (.ys 7 1, .done), (.ys 3 1, .done), (.ys 2 0, .done), (.ys 3 0, .done), (.ys 4 1, .done), (.ys 1 0, .done), (.ws 1 6, .done), (.ws 1 5, .done), (.ws 0 6, .done), (.ws 0 5, .done), (.ws 1 4, .done), (.ws 1 2, .done), (.ws 0 4, .done), (.ws 0 2, .done), (.ws 1 3, .done), (.ws 0 3, .done), (.ws 1 1, .done), (.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.ys 6 1, .armed), (.wr 1 6, .done), (.wr 0 6, .done), (.wr 1 5, .done), (.wr 0 5, .done), (.wr 1 4, .done), (.wr 0 4, .done), (.wr 1 3, .done), (.wr 0 3, .done), (.wr 1 2, .done), (.wr 1 1, .done), (.wr 0 2, .done), (.wr 0 1, .done), (.wr 1 0, .done), (.wr 0 0, .done), (.bar, .done), (.ys 0 0, .idle), (.ys 0 1, .idle), (.yr 0 0, .idle), (.yr 0 1, .idle)]

/-- The pieces held after part 38. -/
def p38 : List Pt := [.yb 6 1, .yb 6 0, .yb 2 1, .yb 7 0, .yb 5 1, .yb 5 0, .yb 1 1, .yb 4 0, .yb 7 1, .yb 3 1, .yb 2 0, .yb 3 0, .yb 4 1, .yb 1 0, .wg 7 1 false 0, .wg 3 1 false 0, .wg 2 0 false 0, .wg 3 0 false 0, .wg 4 1 false 1, .wg 4 1 false 0, .wg 1 0 false 1, .wg 1 0 false 0, .wg 0 1 false 2, .wg 0 0 false 2, .wg 0 1 false 1, .wg 0 0 false 1, .wg 0 1 false 0, .wg 0 0 false 0, .of 7, .yi 7 1, .yi 7 0, .of 6, .yi 6 1, .yi 6 0, .of 5, .yi 5 1, .yi 5 0, .of 4, .yi 4 1, .yi 4 0, .of 3, .yi 3 1, .yi 3 0, .of 2, .yi 2 1, .yi 2 0, .of 1, .yi 1 1, .yi 1 0, .wg 6 1 true 0, .wg 6 0 true 0, .wg 2 1 true 0, .wg 7 0 true 0, .wg 5 1 true 0, .wg 5 0 true 0, .wg 1 1 true 0, .wg 4 0 true 0, .wg 7 1 true 1, .wg 3 1 true 1, .wg 2 0 true 1, .wg 3 0 true 1, .wg 4 1 true 2, .wg 1 0 true 2, .of 0, .xb, .wg 0 1 true 3, .wg 0 0 true 3, .ybe 0 0, .ybe 0 1, .yie 0 0 0, .yie 0 0 1, .x, .w]
def s38 : List (Cell × Ph) := [(.ys 6 1, .done), (.ys 6 0, .done), (.ys 2 1, .done), (.ys 7 0, .done), (.ys 5 1, .done), (.ys 5 0, .done), (.ys 1 1, .done), (.ys 4 0, .done), (.ys 7 1, .done), (.ys 3 1, .done), (.ys 2 0, .done), (.ys 3 0, .done), (.ys 4 1, .done), (.ys 1 0, .done), (.ws 1 6, .done), (.ws 1 5, .done), (.ws 0 6, .done), (.ws 0 5, .done), (.ws 1 4, .done), (.ws 1 2, .done), (.ws 0 4, .done), (.ws 0 2, .done), (.ws 1 3, .done), (.ws 0 3, .done), (.ws 1 1, .done), (.ws 0 1, .done), (.ws 1 0, .done), (.ws 0 0, .done), (.yr 7 1, .done), (.yr 7 0, .done), (.yr 6 1, .done), (.yr 6 0, .done), (.yr 5 1, .done), (.yr 5 0, .done), (.yr 4 1, .done), (.yr 4 0, .done), (.yr 3 1, .done), (.yr 3 0, .done), (.yr 2 1, .done), (.yr 2 0, .done), (.yr 1 1, .done), (.yr 1 0, .done), (.wr 1 6, .done), (.wr 0 6, .done), (.wr 1 5, .done), (.wr 0 5, .done), (.wr 1 4, .done), (.wr 0 4, .done), (.wr 1 3, .done), (.wr 0 3, .done), (.wr 1 2, .done), (.wr 1 1, .done), (.wr 0 2, .done), (.wr 0 1, .done), (.wr 1 0, .done), (.wr 0 0, .done), (.bar, .done), (.ys 0 0, .idle), (.ys 0 1, .idle), (.yr 0 0, .idle), (.yr 0 1, .idle)]

end Cert.KernelIdeal.Gather

end
-- ==== Proof.Parts1.lean ====
/-
# Parts 1 to 6 of the program
-/
module

public import proofs.«01_k».proof.Proof.Facts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

theorem part1 {c : Dev nD} {Q : (Σ' (d0 : Dev nD), BitVec 32) → sProp 𝕄}
    (h : ∀ b0 : BitVec 32, St m ρ K c (allDues.drop 3) s1 p1 ⊢ Q ⟨c, b0⟩) :
    St m ρ K c (allDues.drop 0) s0 p0 ⊢ Wp c (k0_part1 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 ) Q := by
  rw [k0_part1_eq_skeleton]
  unfold k0_part1_skel
  simp only [Prog.lift, semSignalWord, semWaitWord, Prog.bind_op, Prog.bind_ret, Prog.pure_eq_ret, Wp, wp_deviceId]
  refine oSig m ρ K 0 (dev1_eq c) (allDues.drop 1) rfl [.wge 0 1 0, .wge 0 1 1, .wge 0 5 1, .wge 0 2 1, .wge 0 6 1] (by decide +kernel) (by decide +kernel) (by decide) ?_
  refine oSig m ρ K 1 (dev2_eq c) (allDues.drop 2) rfl [.wge 0 3 0, .wge 0 2 0, .wge 0 3 1, .wge 0 7 1] (by decide +kernel) (by decide +kernel) (by decide) ?_
  refine oSig m ρ K 2 (dev3_eq c) (allDues.drop 3) rfl [.wge 0 4 0, .wge 0 5 0, .wge 0 7 0, .wge 0 6 0, .wge 0 4 1] (by decide +kernel) (by decide +kernel) (by decide) ?_
  refine oBar m ρ K (by decide) (by decide +kernel) (by decide +kernel) [.wge 1 0 0, .wge 1 0 1, .wge 1 4 1, .wge 1 3 1, .wge 1 7 1, .wge 3 0 0, .wge 3 1 0, .wge 3 0 1, .wge 3 4 1, .wge 4 0 0, .wge 4 1 0, .wge 4 3 0, .wge 4 2 0, .wge 4 0 1] (by decide +kernel) ?_
  refine oLdW m ρ K 0 (by decide) (by decide +kernel) ?_
  refine oLdWe m ρ K 0 0 (off1_eq c) (by decide +kernel) fun v16 => ?_
  refine oStW m ρ K 0 (off1_eq c) rfl (by decide +kernel) ?_
  exact oRet m ρ K _ _ (by decide +kernel) (by decide +kernel) (h _)

theorem part2 {c : Dev nD} {Q : PUnit → sProp 𝕄} (v2 : BitVec 32)
    (h : St m ρ K c (allDues.drop 5) s2 p2 ⊢ Q ⟨⟩) :
    St m ρ K c (allDues.drop 3) s1 p1 ⊢ Wp c (k0_part2 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part2_eq_skeleton]
  unfold k0_part2_skel
  simp only [Prog.lift, semSignalWord, semWaitWord, Prog.bind_op, Prog.bind_ret, Prog.pure_eq_ret]
  refine oSendW m ρ K 0 0 0 1 0 [.yie 0 1 0, .yie 0 2 0, .yie 0 5 0, .yie 0 6 0] (by decide +kernel) (dev4_eq c) (vW_of (off2_eq c)) (vW_of (off2_eq c)) (ws_of c 0 0 (by rfl)) (wr_of _ 0 0 (by rfl)) (allDues.drop 4) rfl (by decide +kernel) (by decide +kernel) ?_
  refine oLdW m ρ K 1 (by decide) (by decide +kernel) ?_
  refine oLdWe m ρ K 0 1 (off3_eq c) (by decide +kernel) fun v33 => ?_
  refine oStW m ρ K 1 (off3_eq c) rfl (by decide +kernel) ?_
  refine oSendW m ρ K 1 0 0 4 0 [.yie 0 4 1, .yie 0 7 1, .yie 0 5 1, .yie 0 6 1] (by decide +kernel) (dev5_eq c) (vW_of (off4_eq c)) (vW_of (off4_eq c)) (ws_of c 1 0 (by rfl)) (wr_of _ 1 0 (by rfl)) (allDues.drop 5) rfl (by decide +kernel) (by decide +kernel) ?_
  exact oRet m ρ K _ _ (by decide +kernel) (by decide +kernel) h

theorem part3 {c : Dev nD} {Q : (Σ' (v81 : BitVec 32), BitVec 32) → sProp 𝕄} (v2 : BitVec 32)
    (h : ∀ b0 b1 : BitVec 32, St m ρ K c (allDues.drop 8) s3 p3 ⊢ Q ⟨b0, b1⟩) :
    St m ρ K c (allDues.drop 5) s2 p2 ⊢ Wp c (k0_part3 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part3_eq_skeleton]
  unfold k0_part3_skel
  simp only [Prog.lift, semSignalWord, semWaitWord, Prog.bind_op, Prog.bind_ret, Prog.pure_eq_ret]
  refine oSendW m ρ K 0 1 0 3 1 [.yie 0 3 0, .yie 0 7 0] (by decide +kernel) (dev6_eq c) (vW_of (off2_eq c)) (vW_of (off2_eq c)) (ws_of c 0 1 (by rfl)) (wr_of _ 0 1 (by rfl)) (allDues.drop 6) rfl (by decide +kernel) (by decide +kernel) ?_
  refine oSendW m ρ K 1 1 0 3 1 [.yie 0 3 1, .yie 0 2 1] (by decide +kernel) (dev7_eq c) (vW_of (off4_eq c)) (vW_of (off4_eq c)) (ws_of c 1 1 (by rfl)) (wr_of _ 1 1 (by rfl)) (allDues.drop 7) rfl (by decide +kernel) (by decide +kernel) ?_
  refine oSendW m ρ K 0 3 0 4 2 [.yie 0 4 0] (by decide +kernel) (dev8_eq c) (vW_of (off2_eq c)) (vW_of (off2_eq c)) (ws_of c 0 3 (by rfl)) (wr_of _ 0 3 (by rfl)) (allDues.drop 8) rfl (by decide +kernel) (by decide +kernel) ?_
  exact oRet m ρ K _ _ (by decide +kernel) (by decide +kernel) (h _ _)

theorem part4 {c : Dev nD} {Q : (Σ' (v113 : BitVec 32), BitVec 32) → sProp 𝕄} (v2 : BitVec 32) (v81 : BitVec 32) (c0_i32_76 : BitVec 32)
    (h : ∀ b0 b1 : BitVec 32, St m ρ K c (allDues.drop 9) s4 p4 ⊢ Q ⟨b0, b1⟩) :
    St m ρ K c (allDues.drop 8) s3 p3 ⊢ Wp c (k0_part4 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v81 c0_i32_76) Q := by
  rw [k0_part4_eq_skeleton]
  unfold k0_part4_skel
  simp only [Prog.lift, semSignalWord, semWaitWord, Prog.bind_op, Prog.bind_ret, Prog.pure_eq_ret]
  refine oSendW m ρ K 1 3 0 1 2 [.yie 0 1 1] (by decide +kernel) (dev9_eq c) (vW_of (off4_eq c)) (vW_of (off4_eq c)) (ws_of c 1 3 (by rfl)) (wr_of _ 1 3 (by rfl)) (allDues.drop 9) rfl (by decide +kernel) (by decide +kernel) ?_
  refine oLdX m ρ K (by decide +kernel) ?_
  refine oLdXe m ρ K (by decide +kernel) fun v93 => ?_
  refine oStX m ρ K rfl (by decide +kernel) ?_
  refine oLdXb m ρ K (by decide +kernel) ?_
  refine oLdWw m ρ K 3 (off5_eq c) (by decide +kernel) ?_
  refine oLdO m ρ K 0 (off6_eq c) (by decide +kernel) fun v111 => ?_
  refine oStO m ρ K 0 (off6_eq c) (outR_own m ρ c) (by decide +kernel) ?_
  exact oRet m ρ K _ _ (by decide +kernel) (by decide +kernel) (h _ _)

theorem part5 {c : Dev nD} {Q : PUnit → sProp 𝕄} (v2 : BitVec 32) (v113 : BitVec 32) (c0_i32_99 : BitVec 32)
    (h : St m ρ K c (allDues.drop 10) s5 p5 ⊢ Q ⟨⟩) :
    St m ρ K c (allDues.drop 9) s4 p4 ⊢ Wp c (k0_part5 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v113 c0_i32_99) Q := by
  rw [k0_part5_eq_skeleton]
  unfold k0_part5_skel
  simp only [Prog.lift, semSignalWord, semWaitWord, Prog.bind_op, Prog.bind_ret, Prog.pure_eq_ret]
  refine oWait m ρ K (.wr 0 0) (wr_of c 0 0 (by rfl)) (by rfl) (by decide) (by decide +kernel) (by decide +kernel) [.wg 1 0 true 0, .yie 1 0 0, .yie 1 3 0, .yie 1 4 0, .yie 1 7 0] (by decide +kernel) ?_
  refine oSendW m ρ K 0 2 1 3 0 [.yie 1 3 0, .yie 1 7 0] (by decide +kernel) (dev10_eq c) (vW_of (off7_1_eq c)) (vW_of (off7_1_eq c)) (ws_of c 0 2 (by rfl)) (wr_of _ 0 2 (by rfl)) (allDues.drop 10) rfl (by decide +kernel) (by decide +kernel) ?_
  exact oRet m ρ K _ _ (by decide +kernel) (by decide +kernel) h

theorem part6 {c : Dev nD} {Q : (BitVec 32) → sProp 𝕄} (v2 : BitVec 32)
    (h : ∀ b0 : BitVec 32, St m ρ K c (allDues.drop 12) s6 p6 ⊢ Q b0) :
    St m ρ K c (allDues.drop 10) s5 p5 ⊢ Wp c (k0_part6 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part6_eq_skeleton]
  unfold k0_part6_skel
  simp only [Prog.lift, semSignalWord, semWaitWord, Prog.bind_op, Prog.bind_ret, Prog.pure_eq_ret]
  refine oSendW m ρ K 0 4 1 4 1 [.yie 1 4 0] (by decide +kernel) (dev11_eq c) (vW_of (off7_1_eq c)) (vW_of (off7_1_eq c)) (ws_of c 0 4 (by rfl)) (wr_of _ 0 4 (by rfl)) (allDues.drop 11) rfl (by decide +kernel) (by decide +kernel) ?_
  refine oLdXb m ρ K (by decide +kernel) ?_
  refine oLdWg m ρ K 1 0 2 (off8_1_eq c) (by decide +kernel) ?_
  refine oLdYb m ρ K 1 0 (off9_1_eq c) (by decide +kernel) fun v161 => ?_
  refine oStYb m ρ K 1 0 (off9_1_eq c) rfl (by decide +kernel) ?_
  refine oSendY m ρ K 0 0 1 (by decide +kernel) (dev12_eq c) (vB_of (off13_1_eq c)) (vI_of (off12_eq c)) (ys_of c _ 0 (off10_1_eq c)) (yr_to c _ 0 (off11_eq c)) (allDues.drop 12) rfl (by decide +kernel) (by decide +kernel) ?_
  exact oRet m ρ K _ _ (by decide +kernel) (by decide +kernel) (h _)

end Cert.KernelIdeal.Gather

end
-- ==== Proof.Parts2.lean ====
/-
# Parts 7 to 12 of the program
-/
module

public import proofs.«01_k».proof.Proof.Facts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

theorem part7 {c : Dev nD} {Q : PUnit → sProp 𝕄} (v2 : BitVec 32) (v175 : BitVec 32)
    (h : St m ρ K c (allDues.drop 13) s7 p7 ⊢ Q ⟨⟩) :
    St m ρ K c (allDues.drop 12) s6 p6 ⊢ Wp c (k0_part7 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v175) Q := by
  rw [k0_part7_eq_skeleton]
  unfold k0_part7_skel
  simp only [Prog.lift, semSignalWord, semWaitWord, Prog.bind_op, Prog.bind_ret, Prog.pure_eq_ret]
  refine oWait m ρ K (.wr 1 0) (wr_of c 1 0 (by rfl)) (by rfl) (by decide) (by decide +kernel) (by decide +kernel) [.wg 4 1 true 0, .yie 4 0 1, .yie 4 3 1, .yie 4 1 1, .yie 4 2 1] (by decide +kernel) ?_
  refine oSendW m ρ K 1 2 4 3 0 [.yie 4 3 1, .yie 4 2 1] (by decide +kernel) (dev13_eq c) (vW_of (off14_4_eq c)) (vW_of (off14_4_eq c)) (ws_of c 1 2 (by rfl)) (wr_of _ 1 2 (by rfl)) (allDues.drop 13) rfl (by decide +kernel) (by decide +kernel) ?_
  exact oRet m ρ K _ _ (by decide +kernel) (by decide +kernel) h

theorem part8 {c : Dev nD} {Q : (BitVec 32) → sProp 𝕄} (v2 : BitVec 32)
    (h : ∀ b0 : BitVec 32, St m ρ K c (allDues.drop 15) s8 p8 ⊢ Q b0) :
    St m ρ K c (allDues.drop 13) s7 p7 ⊢ Wp c (k0_part8 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part8_eq_skeleton]
  unfold k0_part8_skel
  simp only [Prog.lift, semSignalWord, semWaitWord, Prog.bind_op, Prog.bind_ret, Prog.pure_eq_ret]
  refine oSendW m ρ K 1 4 4 1 1 [.yie 4 1 1] (by decide +kernel) (dev14_eq c) (vW_of (off14_4_eq c)) (vW_of (off14_4_eq c)) (ws_of c 1 4 (by rfl)) (wr_of _ 1 4 (by rfl)) (allDues.drop 14) rfl (by decide +kernel) (by decide +kernel) ?_
  refine oLdXb m ρ K (by decide +kernel) ?_
  refine oLdWg m ρ K 4 1 2 (off15_4_eq c) (by decide +kernel) ?_
  refine oLdYb m ρ K 4 1 (off16_4_eq c) (by decide +kernel) fun v223 => ?_
  refine oStYb m ρ K 4 1 (off16_4_eq c) rfl (by decide +kernel) ?_
  refine oSendY m ρ K 1 0 4 (by decide +kernel) (dev15_eq c) (vB_of (off20_4_eq c)) (vI_of (off19_eq c)) (ys_of c _ 1 (off17_4_eq c)) (yr_to c _ 1 (off18_eq c)) (allDues.drop 15) rfl (by decide +kernel) (by decide +kernel) ?_
  exact oRet m ρ K _ _ (by decide +kernel) (by decide +kernel) (h _)

theorem part9 {c : Dev nD} {Q : PUnit → sProp 𝕄} (v2 : BitVec 32) (c1_i32_205 : BitVec 32)
    (h : St m ρ K c (allDues.drop 16) s9 p9 ⊢ Q ⟨⟩) :
    St m ρ K c (allDues.drop 15) s8 p8 ⊢ Wp c (k0_part9 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 c1_i32_205) Q := by
  rw [k0_part9_eq_skeleton]
  unfold k0_part9_skel
  simp only [Prog.lift, semSignalWord, semWaitWord, Prog.bind_op, Prog.bind_ret, Prog.pure_eq_ret]
  refine oWait m ρ K (.wr 0 1) (wr_of c 0 1 (by rfl)) (by rfl) (by decide) (by decide +kernel) (by decide +kernel) [.wg 3 0 true 0, .yie 3 0 0, .yie 3 4 0] (by decide +kernel) ?_
  refine oSendW m ρ K 0 5 3 4 0 [.yie 3 4 0] (by decide +kernel) (dev16_eq c) (vW_of (off7_3_eq c)) (vW_of (off7_3_eq c)) (ws_of c 0 5 (by rfl)) (wr_of _ 0 5 (by rfl)) (allDues.drop 16) rfl (by decide +kernel) (by decide +kernel) ?_
  exact oRet m ρ K _ _ (by decide +kernel) (by decide +kernel) h

theorem part10 {c : Dev nD} {Q : (BitVec 32) → sProp 𝕄} (v2 : BitVec 32)
    (h : ∀ b0 : BitVec 32, St m ρ K c (allDues.drop 17) s10 p10 ⊢ Q b0) :
    St m ρ K c (allDues.drop 16) s9 p9 ⊢ Wp c (k0_part10 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part10_eq_skeleton]
  unfold k0_part10_skel
  simp only [Prog.lift, semSignalWord, semWaitWord, Prog.bind_op, Prog.bind_ret, Prog.pure_eq_ret]
  refine oWait m ρ K (.wr 0 2) (wr_of c 0 2 (by rfl)) (by rfl) (by decide) (by decide +kernel) (by decide +kernel) [.wg 2 0 true 0, .yie 2 0 0, .yie 2 4 0] (by decide +kernel) ?_
  refine oSendW m ρ K 0 6 2 4 0 [.yie 2 4 0] (by decide +kernel) (dev17_eq c) (vW_of (off21_3_1_eq c)) (vW_of (off21_3_1_eq c)) (ws_of c 0 6 (by rfl)) (wr_of _ 0 6 (by rfl)) (allDues.drop 17) rfl (by decide +kernel) (by decide +kernel) ?_
  refine oLdXb m ρ K (by decide +kernel) ?_
  refine oLdWg m ρ K 3 0 1 (off8_3_eq c) (by decide +kernel) ?_
  refine oLdYb m ρ K 3 0 (off9_3_eq c) (by decide +kernel) fun v296 => ?_
  refine oStYb m ρ K 3 0 (off9_3_eq c) rfl (by decide +kernel) ?_
  exact oRet m ρ K _ _ (by decide +kernel) (by decide +kernel) (h _)

theorem part11 {c : Dev nD} {Q : PUnit → sProp 𝕄} (v2 : BitVec 32) (v280 : BitVec 32)
    (h : St m ρ K c (allDues.drop 18) s11 p11 ⊢ Q ⟨⟩) :
    St m ρ K c (allDues.drop 17) s10 p10 ⊢ Wp c (k0_part11 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v280) Q := by
  rw [k0_part11_eq_skeleton]
  unfold k0_part11_skel
  simp only [Prog.lift, semSignalWord, semWaitWord, Prog.bind_op, Prog.bind_ret, Prog.pure_eq_ret]
  refine oSendY m ρ K 0 1 3 (by decide +kernel) (dev18_eq c) (vB_of (off13_3_eq c)) (vI_of (off12_eq c)) (ys_of c _ 0 (off10_3_eq c)) (yr_to c _ 0 (off11_eq c)) (allDues.drop 18) rfl (by decide +kernel) (by decide +kernel) ?_
  refine oLdXb m ρ K (by decide +kernel) ?_
  refine oLdWg m ρ K 2 0 1 (off22_3_1_eq c) (by decide +kernel) ?_
  refine oLdYb m ρ K 2 0 (off23_3_1_eq c) (by decide +kernel) fun v326 => ?_
  refine oStYb m ρ K 2 0 (off23_3_1_eq c) rfl (by decide +kernel) ?_
  exact oRet m ρ K _ _ (by decide +kernel) (by decide +kernel) h

theorem part12 {c : Dev nD} {Q : (Σ' (v360 : BitVec 32), BitVec 32) → sProp 𝕄} (v2 : BitVec 32)
    (h : ∀ b0 b1 : BitVec 32, St m ρ K c (allDues.drop 20) s12 p12 ⊢ Q ⟨b0, b1⟩) :
    St m ρ K c (allDues.drop 18) s11 p11 ⊢ Wp c (k0_part12 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part12_eq_skeleton]
  unfold k0_part12_skel
  simp only [Prog.lift, semSignalWord, semWaitWord, Prog.bind_op, Prog.bind_ret, Prog.pure_eq_ret]
  refine oSendY m ρ K 0 2 2 (by decide +kernel) (dev19_eq c) (vB_of (off25_3_1_eq c)) (vI_of (off12_eq c)) (ys_of c _ 0 (off24_3_1_eq c)) (yr_to c _ 0 (off11_eq c)) (allDues.drop 19) rfl (by decide +kernel) (by decide +kernel) ?_
  refine oWait m ρ K (.wr 1 1) (wr_of c 1 1 (by rfl)) (by rfl) (by decide) (by decide +kernel) (by decide +kernel) [.wg 3 1 true 0, .yie 3 0 1, .yie 3 1 1] (by decide +kernel) ?_
  refine oSendW m ρ K 1 5 3 1 0 [.yie 3 1 1] (by decide +kernel) (dev20_eq c) (vW_of (off14_3_eq c)) (vW_of (off14_3_eq c)) (ws_of c 1 5 (by rfl)) (wr_of _ 1 5 (by rfl)) (allDues.drop 20) rfl (by decide +kernel) (by decide +kernel) ?_
  exact oRet m ρ K _ _ (by decide +kernel) (by decide +kernel) (h _ _)

end Cert.KernelIdeal.Gather

end
-- ==== Proof.Parts3.lean ====
/-
# Parts 13 to 18 of the program
-/
module

public import proofs.«01_k».proof.Proof.Facts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

theorem part13 {c : Dev nD} {Q : (Σ' (v383 : BitVec 32) (v388 : FVec F S512x128 .f32), F .f32) → sProp 𝕄} (v2 : BitVec 32) (v360 : BitVec 32) (c4_i32_309 : BitVec 32)
    (h : ∀ b0 : BitVec 32, St m ρ K c (allDues.drop 21) s13 p13 ⊢ Q ⟨b0, (k0_pay9 (xF m ρ c) (fun j => wgF m ρ ((rW (dx c 3) 1).emb j))), ((Scalar.ofBits .f32 0x00000000#32))⟩) :
    St m ρ K c (allDues.drop 20) s12 p12 ⊢ Wp c (k0_part13 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v360 c4_i32_309) Q := by
  rw [k0_part13_eq_skeleton]
  unfold k0_part13_skel
  simp only [Prog.lift, semSignalWord, semWaitWord, Prog.bind_op, Prog.bind_ret, Prog.pure_eq_ret]
  refine oWait m ρ K (.wr 1 2) (wr_of c 1 2 (by rfl)) (by rfl) (by decide) (by decide +kernel) (by decide +kernel) [.wg 7 1 true 0, .yie 7 0 1, .yie 7 1 1] (by decide +kernel) ?_
  refine oSendW m ρ K 1 6 7 1 0 [.yie 7 1 1] (by decide +kernel) (dev21_eq c) (vW_of (off26_3_4_eq c)) (vW_of (off26_3_4_eq c)) (ws_of c 1 6 (by rfl)) (wr_of _ 1 6 (by rfl)) (allDues.drop 21) rfl (by decide +kernel) (by decide +kernel) ?_
  refine oLdXb m ρ K (by decide +kernel) ?_
  refine oLdWg m ρ K 3 1 1 (off15_3_eq c) (by decide +kernel) ?_
  exact oRet m ρ K _ _ (by decide +kernel) (by decide +kernel) (h _)

theorem part14 {c : Dev nD} {Q : (Σ' (v413 : BitVec 32) (v418 : FVec F S512x128 .f32) (v423 : FVec F S512x128 .f32), FVec F S512x128 .f32) → sProp 𝕄} (v2 : BitVec 32) (v383 : BitVec 32)
    (h : ∀ b0 : BitVec 32, St m ρ K c (allDues.drop 22) s14 p14 ⊢ Q ⟨b0, (k0_pay11 (xF m ρ c) (fun j => wgF m ρ ((rW (dx c 7) 1).emb j))), (k0_pay12 (xF m ρ c) (fun j => wgF m ρ ((rW (dx c 7) 1).emb j))), (k0_pay13 (F := F))⟩) :
    St m ρ K c (allDues.drop 21) s13 p13 ⊢ Wp c (k0_part14 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v383 (k0_pay9 (xF m ρ c) (fun j => wgF m ρ ((rW (dx c 3) 1).emb j))) ((Scalar.ofBits .f32 0x00000000#32))) Q := by
  rw [k0_part14_eq_skeleton]
  unfold k0_part14_skel
  simp only [Prog.lift, semSignalWord, semWaitWord, Prog.bind_op, Prog.bind_ret, Prog.pure_eq_ret]
  refine oLdYb m ρ K 3 1 (off16_3_eq c) (by decide +kernel) fun v399 => ?_
  refine oStYb m ρ K 3 1 (off16_3_eq c) rfl (by decide +kernel) ?_
  refine oSendY m ρ K 1 1 3 (by decide +kernel) (dev22_eq c) (vB_of (off20_3_eq c)) (vI_of (off19_eq c)) (ys_of c _ 1 (off17_3_eq c)) (yr_to c _ 1 (off18_eq c)) (allDues.drop 22) rfl (by decide +kernel) (by decide +kernel) ?_
  refine oLdXb m ρ K (by decide +kernel) ?_
  refine oLdWg m ρ K 7 1 1 (off27_3_4_eq c) (by decide +kernel) ?_
  exact oRet m ρ K _ _ (by decide +kernel) (by decide +kernel) (h _)

theorem part15 {c : Dev nD} {Q : (Σ' (v451 : BitVec 32) (v452 : Vec F S512x4096 .bf16), FVec F S4096x128 .bf16) → sProp 𝕄} (v2 : BitVec 32) (v413 : BitVec 32)
    (h : ∀ b0 : BitVec 32, St m ρ K c (allDues.drop 23) s15 p15 ⊢ Q ⟨b0, ((xF m ρ c)), (k0_pay15 (fun j => wgF m ρ ((rW (dx c 4) 0).emb j)))⟩) :
    St m ρ K c (allDues.drop 22) s14 p14 ⊢ Wp c (k0_part15 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v413 (k0_pay11 (xF m ρ c) (fun j => wgF m ρ ((rW (dx c 7) 1).emb j))) (k0_pay12 (xF m ρ c) (fun j => wgF m ρ ((rW (dx c 7) 1).emb j))) (k0_pay13 (F := F))) Q := by
  rw [k0_part15_eq_skeleton]
  unfold k0_part15_skel
  simp only [Prog.lift, semSignalWord, semWaitWord, Prog.bind_op, Prog.bind_ret, Prog.pure_eq_ret]
  refine oLdYb m ρ K 7 1 (off28_3_4_eq c) (by decide +kernel) fun v429 => ?_
  refine oStYb m ρ K 7 1 (off28_3_4_eq c) rfl (by decide +kernel) ?_
  refine oSendY m ρ K 1 2 7 (by decide +kernel) (dev23_eq c) (vB_of (off30_3_4_eq c)) (vI_of (off19_eq c)) (ys_of c _ 1 (off29_3_4_eq c)) (yr_to c _ 1 (off18_eq c)) (allDues.drop 23) rfl (by decide +kernel) (by decide +kernel) ?_
  refine oWait m ρ K (.wr 0 3) (wr_of c 0 3 (by rfl)) (by rfl) (by decide) (by decide +kernel) (by decide +kernel) [.wg 4 0 true 0, .yie 4 0 0] (by decide +kernel) ?_
  refine oLdXb m ρ K (by decide +kernel) ?_
  refine oLdWg m ρ K 4 0 0 (off8_4_eq c) (by decide +kernel) ?_
  exact oRet m ρ K _ _ (by decide +kernel) (by decide +kernel) (h _)

theorem part16 {c : Dev nD} {Q : PUnit → sProp 𝕄} (v2 : BitVec 32) (v451 : BitVec 32)
    (h : St m ρ K c (allDues.drop 24) s16 p16 ⊢ Q ⟨⟩) :
    St m ρ K c (allDues.drop 23) s15 p15 ⊢ Wp c (k0_part16 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v451 ((xF m ρ c)) (k0_pay15 (fun j => wgF m ρ ((rW (dx c 4) 0).emb j)))) Q := by
  rw [k0_part16_eq_skeleton]
  unfold k0_part16_skel
  simp only [Prog.lift, semSignalWord, semWaitWord, Prog.bind_op, Prog.bind_ret, Prog.pure_eq_ret]
  refine oLdYb m ρ K 4 0 (off9_4_eq c) (by decide +kernel) fun v467 => ?_
  refine oStYb m ρ K 4 0 (off9_4_eq c) rfl (by decide +kernel) ?_
  refine oSendY m ρ K 0 3 4 (by decide +kernel) (dev24_eq c) (vB_of (off13_4_eq c)) (vI_of (off12_eq c)) (ys_of c _ 0 (off10_4_eq c)) (yr_to c _ 0 (off11_eq c)) (allDues.drop 24) rfl (by decide +kernel) (by decide +kernel) ?_
  exact oRet m ρ K _ _ (by decide +kernel) (by decide +kernel) h

theorem part17 {c : Dev nD} {Q : (BitVec 32) → sProp 𝕄} (v2 : BitVec 32)
    (h : ∀ b0 : BitVec 32, St m ρ K c (allDues.drop 25) s17 p17 ⊢ Q b0) :
    St m ρ K c (allDues.drop 24) s16 p16 ⊢ Wp c (k0_part17 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part17_eq_skeleton]
  unfold k0_part17_skel
  simp only [Prog.lift, semSignalWord, semWaitWord, Prog.bind_op, Prog.bind_ret, Prog.pure_eq_ret]
  refine oWait m ρ K (.wr 1 3) (wr_of c 1 3 (by rfl)) (by rfl) (by decide) (by decide +kernel) (by decide +kernel) [.wg 1 1 true 0, .yie 1 0 1] (by decide +kernel) ?_
  refine oLdXb m ρ K (by decide +kernel) ?_
  refine oLdWg m ρ K 1 1 0 (off15_1_eq c) (by decide +kernel) ?_
  refine oLdYb m ρ K 1 1 (off16_1_eq c) (by decide +kernel) fun v505 => ?_
  refine oStYb m ρ K 1 1 (off16_1_eq c) rfl (by decide +kernel) ?_
  refine oSendY m ρ K 1 3 1 (by decide +kernel) (dev25_eq c) (vB_of (off20_1_eq c)) (vI_of (off19_eq c)) (ys_of c _ 1 (off17_1_eq c)) (yr_to c _ 1 (off18_eq c)) (allDues.drop 25) rfl (by decide +kernel) (by decide +kernel) ?_
  exact oRet m ρ K _ _ (by decide +kernel) (by decide +kernel) (h _)

theorem part18 {c : Dev nD} {Q : PUnit → sProp 𝕄} (v2 : BitVec 32) (c1_i32_438 : BitVec 32)
    (h : St m ρ K c (allDues.drop 25) s18 p18 ⊢ Q ⟨⟩) :
    St m ρ K c (allDues.drop 25) s17 p17 ⊢ Wp c (k0_part18 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 c1_i32_438) Q := by
  rw [k0_part18_eq_skeleton]
  unfold k0_part18_skel
  simp only [Prog.lift, semSignalWord, semWaitWord, Prog.bind_op, Prog.bind_ret, Prog.pure_eq_ret]
  refine oWait m ρ K (.wr 0 4) (wr_of c 0 4 (by rfl)) (by rfl) (by decide) (by decide +kernel) (by decide +kernel) [.wg 5 0 true 0, .yie 5 0 0] (by decide +kernel) ?_
  refine oLdXb m ρ K (by decide +kernel) ?_
  refine oLdWg m ρ K 5 0 0 (off22_4_1_eq c) (by decide +kernel) ?_
  refine oLdYb m ρ K 5 0 (off23_4_1_eq c) (by decide +kernel) fun v545 => ?_
  refine oStYb m ρ K 5 0 (off23_4_1_eq c) rfl (by decide +kernel) ?_
  exact oRet m ρ K _ _ (by decide +kernel) (by decide +kernel) h

end Cert.KernelIdeal.Gather

end
-- ==== Proof.Parts4.lean ====
/-
# Parts 19 to 25 of the program
-/
module

public import proofs.«01_k».proof.Proof.Facts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

theorem part19 {c : Dev nD} {Q : (Σ' (v569 : BitVec 32), FVec F S512x128 .bf16) → sProp 𝕄} (v2 : BitVec 32)
    (h : ∀ b0 : BitVec 32, St m ρ K c (allDues.drop 26) s19 p19 ⊢ Q ⟨b0, (k0_pay19 (xF m ρ c) (fun j => wgF m ρ ((rW (dx c 5) 1).emb j)))⟩) :
    St m ρ K c (allDues.drop 25) s18 p18 ⊢ Wp c (k0_part19 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part19_eq_skeleton]
  unfold k0_part19_skel
  simp only [Prog.lift, semSignalWord, semWaitWord, Prog.bind_op, Prog.bind_ret, Prog.pure_eq_ret]
  refine oSendY m ρ K 0 4 5 (by decide +kernel) (dev26_eq c) (vB_of (off25_4_1_eq c)) (vI_of (off12_eq c)) (ys_of c _ 0 (off24_4_1_eq c)) (yr_to c _ 0 (off11_eq c)) (allDues.drop 26) rfl (by decide +kernel) (by decide +kernel) ?_
  refine oWait m ρ K (.wr 1 4) (wr_of c 1 4 (by rfl)) (by rfl) (by decide) (by decide +kernel) (by decide +kernel) [.wg 5 1 true 0, .yie 5 0 1] (by decide +kernel) ?_
  refine oLdXb m ρ K (by decide +kernel) ?_
  refine oLdWg m ρ K 5 1 0 (off27_1_4_eq c) (by decide +kernel) ?_
  refine oLdYb m ρ K 5 1 (off28_1_4_eq c) (by decide +kernel) fun v585 => ?_
  exact oRet m ρ K _ _ (by decide +kernel) (by decide +kernel) (h _)

theorem part20 {c : Dev nD} {Q : (Σ' (v609 : BitVec 32) (v614 : FVec F S512x128 .f32), FVec F S512x128 .f32) → sProp 𝕄} (v2 : BitVec 32) (v569 : BitVec 32)
    (h : ∀ b0 : BitVec 32, St m ρ K c (allDues.drop 27) s20 p20 ⊢ Q ⟨b0, (k0_pay21 (xF m ρ c) (fun j => wgF m ρ ((rW (dx c 7) 0).emb j))), (k0_pay22 (F := F))⟩) :
    St m ρ K c (allDues.drop 26) s19 p19 ⊢ Wp c (k0_part20 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v569 (k0_pay19 (xF m ρ c) (fun j => wgF m ρ ((rW (dx c 5) 1).emb j)))) Q := by
  rw [k0_part20_eq_skeleton]
  unfold k0_part20_skel
  simp only [Prog.lift, semSignalWord, semWaitWord, Prog.bind_op, Prog.bind_ret, Prog.pure_eq_ret]
  refine oStYb m ρ K 5 1 (off28_1_4_eq c) rfl (by decide +kernel) ?_
  refine oSendY m ρ K 1 4 5 (by decide +kernel) (dev27_eq c) (vB_of (off30_1_4_eq c)) (vI_of (off19_eq c)) (ys_of c _ 1 (off29_1_4_eq c)) (yr_to c _ 1 (off18_eq c)) (allDues.drop 27) rfl (by decide +kernel) (by decide +kernel) ?_
  refine oWait m ρ K (.wr 0 5) (wr_of c 0 5 (by rfl)) (by rfl) (by decide) (by decide +kernel) (by decide +kernel) [.wg 7 0 true 0, .yie 7 0 0] (by decide +kernel) ?_
  refine oLdXb m ρ K (by decide +kernel) ?_
  refine oLdWg m ρ K 7 0 0 (off22_4_3_eq c) (by decide +kernel) ?_
  exact oRet m ρ K _ _ (by decide +kernel) (by decide +kernel) (h _)

theorem part21 {c : Dev nD} {Q : (BitVec 32) → sProp 𝕄} (v2 : BitVec 32) (v609 : BitVec 32)
    (h : ∀ b0 : BitVec 32, St m ρ K c (allDues.drop 28) s21 p21 ⊢ Q b0) :
    St m ρ K c (allDues.drop 27) s20 p20 ⊢ Wp c (k0_part21 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v609 (k0_pay21 (xF m ρ c) (fun j => wgF m ρ ((rW (dx c 7) 0).emb j))) (k0_pay22 (F := F))) Q := by
  rw [k0_part21_eq_skeleton]
  unfold k0_part21_skel
  simp only [Prog.lift, semSignalWord, semWaitWord, Prog.bind_op, Prog.bind_ret, Prog.pure_eq_ret]
  refine oLdYb m ρ K 7 0 (off23_4_3_eq c) (by decide +kernel) fun v625 => ?_
  refine oStYb m ρ K 7 0 (off23_4_3_eq c) rfl (by decide +kernel) ?_
  refine oSendY m ρ K 0 5 7 (by decide +kernel) (dev28_eq c) (vB_of (off25_4_3_eq c)) (vI_of (off12_eq c)) (ys_of c _ 0 (off24_4_3_eq c)) (yr_to c _ 0 (off11_eq c)) (allDues.drop 28) rfl (by decide +kernel) (by decide +kernel) ?_
  refine oWait m ρ K (.wr 1 5) (wr_of c 1 5 (by rfl)) (by rfl) (by decide) (by decide +kernel) (by decide +kernel) [.wg 2 1 true 0, .yie 2 0 1] (by decide +kernel) ?_
  exact oRet m ρ K _ _ (by decide +kernel) (by decide +kernel) (h _)

theorem part22 {c : Dev nD} {Q : PUnit → sProp 𝕄} (v2 : BitVec 32) (c1_i32_540 : BitVec 32)
    (h : St m ρ K c (allDues.drop 29) s22 p22 ⊢ Q ⟨⟩) :
    St m ρ K c (allDues.drop 28) s21 p21 ⊢ Wp c (k0_part22 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 c1_i32_540) Q := by
  rw [k0_part22_eq_skeleton]
  unfold k0_part22_skel
  simp only [Prog.lift, semSignalWord, semWaitWord, Prog.bind_op, Prog.bind_ret, Prog.pure_eq_ret]
  refine oLdXb m ρ K (by decide +kernel) ?_
  refine oLdWg m ρ K 2 1 0 (off27_1_3_eq c) (by decide +kernel) ?_
  refine oLdYb m ρ K 2 1 (off28_1_3_eq c) (by decide +kernel) fun v665 => ?_
  refine oStYb m ρ K 2 1 (off28_1_3_eq c) rfl (by decide +kernel) ?_
  refine oSendY m ρ K 1 5 2 (by decide +kernel) (dev29_eq c) (vB_of (off30_1_3_eq c)) (vI_of (off19_eq c)) (ys_of c _ 1 (off29_1_3_eq c)) (yr_to c _ 1 (off18_eq c)) (allDues.drop 29) rfl (by decide +kernel) (by decide +kernel) ?_
  exact oRet m ρ K _ _ (by decide +kernel) (by decide +kernel) h

theorem part23 {c : Dev nD} {Q : PUnit → sProp 𝕄} (v2 : BitVec 32)
    (h : St m ρ K c (allDues.drop 29) s23 p23 ⊢ Q ⟨⟩) :
    St m ρ K c (allDues.drop 29) s22 p22 ⊢ Wp c (k0_part23 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part23_eq_skeleton]
  unfold k0_part23_skel
  simp only [Prog.lift, semSignalWord, semWaitWord, Prog.bind_op, Prog.bind_ret, Prog.pure_eq_ret]
  refine oWait m ρ K (.wr 0 6) (wr_of c 0 6 (by rfl)) (by rfl) (by decide) (by decide +kernel) (by decide +kernel) [.wg 6 0 true 0, .yie 6 0 0] (by decide +kernel) ?_
  refine oLdXb m ρ K (by decide +kernel) ?_
  refine oLdWg m ρ K 6 0 0 (off32_eq c) (by decide +kernel) ?_
  refine oLdYb m ρ K 6 0 (off33_eq c) (by decide +kernel) fun v707 => ?_
  refine oStYb m ρ K 6 0 (off33_eq c) rfl (by decide +kernel) ?_
  exact oRet m ρ K _ _ (by decide +kernel) (by decide +kernel) h

theorem part24 {c : Dev nD} {Q : (Σ' (v733 : BitVec 32) (v738 : FVec F S512x128 .f32) (v743 : FVec F S512x128 .f32), FVec F S512x128 .f32) → sProp 𝕄} (v2 : BitVec 32)
    (h : ∀ b0 : BitVec 32, St m ρ K c (allDues.drop 30) s24 p24 ⊢ Q ⟨b0, (k0_pay26 (xF m ρ c) (fun j => wgF m ρ ((rW (dx c 6) 1).emb j))), (k0_pay27 (xF m ρ c) (fun j => wgF m ρ ((rW (dx c 6) 1).emb j))), (k0_pay28 (F := F))⟩) :
    St m ρ K c (allDues.drop 29) s23 p23 ⊢ Wp c (k0_part24 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2) Q := by
  rw [k0_part24_eq_skeleton]
  unfold k0_part24_skel
  simp only [Prog.lift, semSignalWord, semWaitWord, Prog.bind_op, Prog.bind_ret, Prog.pure_eq_ret]
  refine oSendY m ρ K 0 6 6 (by decide +kernel) (dev30_eq c) (vB_of (off35_eq c)) (vI_of (off12_eq c)) (ys_of c _ 0 (off34_eq c)) (yr_to c _ 0 (off11_eq c)) (allDues.drop 30) rfl (by decide +kernel) (by decide +kernel) ?_
  refine oWait m ρ K (.wr 1 6) (wr_of c 1 6 (by rfl)) (by rfl) (by decide) (by decide +kernel) (by decide +kernel) [.wg 6 1 true 0, .yie 6 0 1] (by decide +kernel) ?_
  refine oLdXb m ρ K (by decide +kernel) ?_
  refine oLdWg m ρ K 6 1 0 (off37_eq c) (by decide +kernel) ?_
  exact oRet m ρ K _ _ (by decide +kernel) (by decide +kernel) (h _)

theorem part25 {c : Dev nD} {Q : (BitVec 32) → sProp 𝕄} (v2 : BitVec 32) (v733 : BitVec 32)
    (h : ∀ b0 : BitVec 32, St m ρ K c (allDues.drop 31) s25 p25 ⊢ Q b0) :
    St m ρ K c (allDues.drop 30) s24 p24 ⊢ Wp c (k0_part25 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v733 (k0_pay26 (xF m ρ c) (fun j => wgF m ρ ((rW (dx c 6) 1).emb j))) (k0_pay27 (xF m ρ c) (fun j => wgF m ρ ((rW (dx c 6) 1).emb j))) (k0_pay28 (F := F))) Q := by
  rw [k0_part25_eq_skeleton]
  unfold k0_part25_skel
  simp only [Prog.lift, semSignalWord, semWaitWord, Prog.bind_op, Prog.bind_ret, Prog.pure_eq_ret]
  refine oLdYb m ρ K 6 1 (off38_eq c) (by decide +kernel) fun v749 => ?_
  refine oStYb m ρ K 6 1 (off38_eq c) rfl (by decide +kernel) ?_
  refine oSendY m ρ K 1 6 6 (by decide +kernel) (dev31_eq c) (vB_of (off40_eq c)) (vI_of (off19_eq c)) (ys_of c _ 1 (off39_eq c)) (yr_to c _ 1 (off18_eq c)) (allDues.drop 31) rfl (by decide +kernel) (by decide +kernel) ?_
  refine oWait m ρ K (.yr 1 0) (yr_of c 1 0 (off10_1_eq c)) (by rfl) (by decide) (by decide +kernel) (by decide +kernel) [.yi 1 0] (by decide +kernel) ?_
  exact oRet m ρ K _ _ (by decide +kernel) (by decide +kernel) (h _)

end Cert.KernelIdeal.Gather

end
-- ==== Proof.Parts5.lean ====
/-
# Parts 26 to 30 of the program
-/
module

public import proofs.«01_k».proof.Proof.Facts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

theorem part26 {c : Dev nD} {Q : (Σ' (v786 : BitVec 32) (v806 : FVec F S512x256 .f32), BitVec 32) → sProp 𝕄} (v2 : BitVec 32) (v762 : BitVec 32)
    (h : ∀ b0 b1 : BitVec 32, St m ρ K c (allDues.drop 31) s26 p26 ⊢ Q ⟨b0, (k0_pay31 (fun j => yiF m ρ c ((rYw (dx c 2)).emb j))), b1⟩) :
    St m ρ K c (allDues.drop 31) s25 p25 ⊢ Wp c (k0_part26 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v762) Q := by
  rw [k0_part26_eq_skeleton]
  unfold k0_part26_skel
  simp only [Prog.lift, semSignalWord, semWaitWord, Prog.bind_op, Prog.bind_ret, Prog.pure_eq_ret]
  refine oWait m ρ K (.yr 1 1) (yr_of c 1 1 (off17_1_eq c)) (by rfl) (by decide) (by decide +kernel) (by decide +kernel) [.yi 1 1] (by decide +kernel) ?_
  refine oLdYi m ρ K 1 (off41_1_eq c) (by decide +kernel) ?_
  refine oLdO m ρ K 1 (off42_1_eq c) (by decide +kernel) fun v785 => ?_
  refine oStO m ρ K 1 (off42_1_eq c) (outR_far m ρ c 1 (by decide)) (by decide +kernel) ?_
  refine oWait m ρ K (.yr 2 0) (yr_of c 2 0 (off10_2_eq c)) (by rfl) (by decide) (by decide +kernel) (by decide +kernel) [.yi 2 0] (by decide +kernel) ?_
  refine oWait m ρ K (.yr 2 1) (yr_of c 2 1 (off17_2_eq c)) (by rfl) (by decide) (by decide +kernel) (by decide +kernel) [.yi 2 1] (by decide +kernel) ?_
  refine oLdYi m ρ K 2 (off41_2_eq c) (by decide +kernel) ?_
  exact oRet m ρ K _ _ (by decide +kernel) (by decide +kernel) (h _ _)

theorem part27 {c : Dev nD} {Q : (Σ' (v834 : BitVec 32) (v835 : BitVec 32), BitVec 32) → sProp 𝕄} (v2 : BitVec 32) (v786 : BitVec 32) (c512_i32_668 : BitVec 32)
    (h : ∀ b0 b1 b2 : BitVec 32, St m ρ K c (allDues.drop 31) s27 p27 ⊢ Q ⟨b0, b1, b2⟩) :
    St m ρ K c (allDues.drop 31) s26 p26 ⊢ Wp c (k0_part27 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v786 (k0_pay31 (fun j => yiF m ρ c ((rYw (dx c 2)).emb j))) c512_i32_668) Q := by
  rw [k0_part27_eq_skeleton]
  unfold k0_part27_skel
  simp only [Prog.lift, semSignalWord, semWaitWord, Prog.bind_op, Prog.bind_ret, Prog.pure_eq_ret]
  refine oLdO m ρ K 2 (off42_2_eq c) (by decide +kernel) fun v809 => ?_
  refine oStO m ρ K 2 (off42_2_eq c) (outR_far m ρ c 2 (by decide)) (by decide +kernel) ?_
  refine oWait m ρ K (.yr 3 0) (yr_of c 3 0 (off10_3_eq c)) (by rfl) (by decide) (by decide +kernel) (by decide +kernel) [.yi 3 0] (by decide +kernel) ?_
  refine oWait m ρ K (.yr 3 1) (yr_of c 3 1 (off17_3_eq c)) (by rfl) (by decide) (by decide +kernel) (by decide +kernel) [.yi 3 1] (by decide +kernel) ?_
  refine oLdYi m ρ K 3 (off41_3_eq c) (by decide +kernel) ?_
  refine oLdO m ρ K 3 (off42_3_eq c) (by decide +kernel) fun v833 => ?_
  refine oStO m ρ K 3 (off42_3_eq c) (outR_far m ρ c 3 (by decide)) (by decide +kernel) ?_
  exact oRet m ρ K _ _ (by decide +kernel) (by decide +kernel) (h _ _ _)

theorem part28 {c : Dev nD} {Q : (BitVec 32) → sProp 𝕄} (v2 : BitVec 32) (v834 : BitVec 32) (v835 : BitVec 32) (c0_i32_695 : BitVec 32)
    (h : ∀ b0 : BitVec 32, St m ρ K c (allDues.drop 31) s28 p28 ⊢ Q b0) :
    St m ρ K c (allDues.drop 31) s27 p27 ⊢ Wp c (k0_part28 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v834 v835 c0_i32_695) Q := by
  rw [k0_part28_eq_skeleton]
  unfold k0_part28_skel
  simp only [Prog.lift, semSignalWord, semWaitWord, Prog.bind_op, Prog.bind_ret, Prog.pure_eq_ret]
  refine oWait m ρ K (.yr 4 0) (yr_of c 4 0 (off10_4_eq c)) (by rfl) (by decide) (by decide +kernel) (by decide +kernel) [.yi 4 0] (by decide +kernel) ?_
  refine oWait m ρ K (.yr 4 1) (yr_of c 4 1 (off17_4_eq c)) (by rfl) (by decide) (by decide +kernel) (by decide +kernel) [.yi 4 1] (by decide +kernel) ?_
  refine oLdYi m ρ K 4 (off41_4_eq c) (by decide +kernel) ?_
  refine oLdO m ρ K 4 (off42_4_eq c) (by decide +kernel) fun v857 => ?_
  refine oStO m ρ K 4 (off42_4_eq c) (outR_far m ρ c 4 (by decide)) (by decide +kernel) ?_
  refine oWait m ρ K (.yr 5 0) (yr_of c 5 0 (off10_5_eq c)) (by rfl) (by decide) (by decide +kernel) (by decide +kernel) [.yi 5 0] (by decide +kernel) ?_
  exact oRet m ρ K _ _ (by decide +kernel) (by decide +kernel) (h _)

theorem part29 {c : Dev nD} {Q : (BitVec 32) → sProp 𝕄} (v2 : BitVec 32) (v858 : BitVec 32)
    (h : ∀ b0 : BitVec 32, St m ρ K c (allDues.drop 31) s29 p29 ⊢ Q b0) :
    St m ρ K c (allDues.drop 31) s28 p28 ⊢ Wp c (k0_part29 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v858) Q := by
  rw [k0_part29_eq_skeleton]
  unfold k0_part29_skel
  simp only [Prog.lift, semSignalWord, semWaitWord, Prog.bind_op, Prog.bind_ret, Prog.pure_eq_ret]
  refine oWait m ρ K (.yr 5 1) (yr_of c 5 1 (off17_5_eq c)) (by rfl) (by decide) (by decide +kernel) (by decide +kernel) [.yi 5 1] (by decide +kernel) ?_
  refine oLdYi m ρ K 5 (off41_5_eq c) (by decide +kernel) ?_
  refine oLdO m ρ K 5 (off42_5_eq c) (by decide +kernel) fun v881 => ?_
  refine oStO m ρ K 5 (off42_5_eq c) (outR_far m ρ c 5 (by decide)) (by decide +kernel) ?_
  refine oWait m ρ K (.yr 6 0) (yr_of c 6 0 (off10_6_eq c)) (by rfl) (by decide) (by decide +kernel) (by decide +kernel) [.yi 6 0] (by decide +kernel) ?_
  exact oRet m ρ K _ _ (by decide +kernel) (by decide +kernel) (h _)

theorem part30 {c : Dev nD} {Q : (Σ' (v906 : BitVec 32) (v926 : FVec F S512x256 .f32), BitVec 32) → sProp 𝕄} (v2 : BitVec 32) (v882 : BitVec 32)
    (h : ∀ b0 b1 : BitVec 32, St m ρ K c (allDues.drop 31) s30 p30 ⊢ Q ⟨b0, (k0_pay36 (fun j => yiF m ρ c ((rYw (dx c 7)).emb j))), b1⟩) :
    St m ρ K c (allDues.drop 31) s29 p29 ⊢ Wp c (k0_part30 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v2 v882) Q := by
  rw [k0_part30_eq_skeleton]
  unfold k0_part30_skel
  simp only [Prog.lift, semSignalWord, semWaitWord, Prog.bind_op, Prog.bind_ret, Prog.pure_eq_ret]
  refine oWait m ρ K (.yr 6 1) (yr_of c 6 1 (off17_6_eq c)) (by rfl) (by decide) (by decide +kernel) (by decide +kernel) [.yi 6 1] (by decide +kernel) ?_
  refine oLdYi m ρ K 6 (off41_6_eq c) (by decide +kernel) ?_
  refine oLdO m ρ K 6 (off42_6_eq c) (by decide +kernel) fun v905 => ?_
  refine oStO m ρ K 6 (off42_6_eq c) (outR_far m ρ c 6 (by decide)) (by decide +kernel) ?_
  refine oWait m ρ K (.yr 7 0) (yr_of c 7 0 (off10_7_eq c)) (by rfl) (by decide) (by decide +kernel) (by decide +kernel) [.yi 7 0] (by decide +kernel) ?_
  refine oWait m ρ K (.yr 7 1) (yr_of c 7 1 (off17_7_eq c)) (by rfl) (by decide) (by decide +kernel) (by decide +kernel) [.yi 7 1] (by decide +kernel) ?_
  refine oLdYi m ρ K 7 (off41_7_eq c) (by decide +kernel) ?_
  exact oRet m ρ K _ _ (by decide +kernel) (by decide +kernel) (h _ _)

end Cert.KernelIdeal.Gather

end
-- ==== Proof.Parts6.lean ====
/-
# Parts 31 to 37 of the program
-/
module

public import proofs.«01_k».proof.Proof.Facts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

theorem part31 {c : Dev nD} {Q : PUnit → sProp 𝕄} (v906 : BitVec 32) (c512_i32_772 : BitVec 32)
    (h : St m ρ K c (allDues.drop 31) s31 p31 ⊢ Q ⟨⟩) :
    St m ρ K c (allDues.drop 31) s30 p30 ⊢ Wp c (k0_part31 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c v906 (k0_pay36 (fun j => yiF m ρ c ((rYw (dx c 7)).emb j))) c512_i32_772) Q := by
  rw [k0_part31_eq_skeleton]
  unfold k0_part31_skel
  simp only [Prog.lift, semSignalWord, semWaitWord, Prog.bind_op, Prog.bind_ret, Prog.pure_eq_ret]
  refine oLdO m ρ K 7 (off42_7_eq c) (by decide +kernel) fun v929 => ?_
  refine oStO m ρ K 7 (off42_7_eq c) (outR_far m ρ c 7 (by decide)) (by decide +kernel) ?_
  refine oWait m ρ K (.ws 0 0) (ws_of c 0 0 (by rfl)) (by rfl) (by decide) (by decide +kernel) (by decide +kernel) [.wg 0 0 false 0] (by decide +kernel) ?_
  refine oWait m ρ K (.ws 1 0) (ws_of c 1 0 (by rfl)) (by rfl) (by decide) (by decide +kernel) (by decide +kernel) [.wg 0 1 false 0] (by decide +kernel) ?_
  refine oWait m ρ K (.ws 0 1) (ws_of c 0 1 (by rfl)) (by rfl) (by decide) (by decide +kernel) (by decide +kernel) [.wg 0 0 false 1] (by decide +kernel) ?_
  exact oRet m ρ K _ _ (by decide +kernel) (by decide +kernel) h

theorem part32 {c : Dev nD} {Q : PUnit → sProp 𝕄}
    (h : St m ρ K c (allDues.drop 31) s32 p32 ⊢ Q ⟨⟩) :
    St m ρ K c (allDues.drop 31) s31 p31 ⊢ Wp c (k0_part32 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c) Q := by
  rw [k0_part32_eq_skeleton]
  unfold k0_part32_skel
  simp only [Prog.lift, semSignalWord, semWaitWord, Prog.bind_op, Prog.bind_ret, Prog.pure_eq_ret]
  refine oWait m ρ K (.ws 1 1) (ws_of c 1 1 (by rfl)) (by rfl) (by decide) (by decide +kernel) (by decide +kernel) [.wg 0 1 false 1] (by decide +kernel) ?_
  refine oWait m ρ K (.ws 0 3) (ws_of c 0 3 (by rfl)) (by rfl) (by decide) (by decide +kernel) (by decide +kernel) [.wg 0 0 false 2] (by decide +kernel) ?_
  refine oWait m ρ K (.ws 1 3) (ws_of c 1 3 (by rfl)) (by rfl) (by decide) (by decide +kernel) (by decide +kernel) [.wg 0 1 false 2] (by decide +kernel) ?_
  refine oWait m ρ K (.ws 0 2) (ws_of c 0 2 (by rfl)) (by rfl) (by decide) (by decide +kernel) (by decide +kernel) [.wg 1 0 false 0] (by decide +kernel) ?_
  exact oRet m ρ K _ _ (by decide +kernel) (by decide +kernel) h

theorem part33 {c : Dev nD} {Q : PUnit → sProp 𝕄}
    (h : St m ρ K c (allDues.drop 31) s33 p33 ⊢ Q ⟨⟩) :
    St m ρ K c (allDues.drop 31) s32 p32 ⊢ Wp c (k0_part33 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c) Q := by
  rw [k0_part33_eq_skeleton]
  unfold k0_part33_skel
  simp only [Prog.lift, semSignalWord, semWaitWord, Prog.bind_op, Prog.bind_ret, Prog.pure_eq_ret]
  refine oWait m ρ K (.ws 0 4) (ws_of c 0 4 (by rfl)) (by rfl) (by decide) (by decide +kernel) (by decide +kernel) [.wg 1 0 false 1] (by decide +kernel) ?_
  refine oWait m ρ K (.ws 1 2) (ws_of c 1 2 (by rfl)) (by rfl) (by decide) (by decide +kernel) (by decide +kernel) [.wg 4 1 false 0] (by decide +kernel) ?_
  refine oWait m ρ K (.ws 1 4) (ws_of c 1 4 (by rfl)) (by rfl) (by decide) (by decide +kernel) (by decide +kernel) [.wg 4 1 false 1] (by decide +kernel) ?_
  exact oRet m ρ K _ _ (by decide +kernel) (by decide +kernel) h

theorem part34 {c : Dev nD} {Q : PUnit → sProp 𝕄}
    (h : St m ρ K c (allDues.drop 31) s34 p34 ⊢ Q ⟨⟩) :
    St m ρ K c (allDues.drop 31) s33 p33 ⊢ Wp c (k0_part34 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c) Q := by
  rw [k0_part34_eq_skeleton]
  unfold k0_part34_skel
  simp only [Prog.lift, semSignalWord, semWaitWord, Prog.bind_op, Prog.bind_ret, Prog.pure_eq_ret]
  refine oWait m ρ K (.ws 0 5) (ws_of c 0 5 (by rfl)) (by rfl) (by decide) (by decide +kernel) (by decide +kernel) [.wg 3 0 false 0] (by decide +kernel) ?_
  refine oWait m ρ K (.ws 0 6) (ws_of c 0 6 (by rfl)) (by rfl) (by decide) (by decide +kernel) (by decide +kernel) [.wg 2 0 false 0] (by decide +kernel) ?_
  refine oWait m ρ K (.ws 1 5) (ws_of c 1 5 (by rfl)) (by rfl) (by decide) (by decide +kernel) (by decide +kernel) [.wg 3 1 false 0] (by decide +kernel) ?_
  refine oWait m ρ K (.ws 1 6) (ws_of c 1 6 (by rfl)) (by rfl) (by decide) (by decide +kernel) (by decide +kernel) [.wg 7 1 false 0] (by decide +kernel) ?_
  exact oRet m ρ K _ _ (by decide +kernel) (by decide +kernel) h

theorem part35 {c : Dev nD} {Q : PUnit → sProp 𝕄}
    (h : St m ρ K c (allDues.drop 31) s35 p35 ⊢ Q ⟨⟩) :
    St m ρ K c (allDues.drop 31) s34 p34 ⊢ Wp c (k0_part35 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c) Q := by
  rw [k0_part35_eq_skeleton]
  unfold k0_part35_skel
  simp only [Prog.lift, semSignalWord, semWaitWord, Prog.bind_op, Prog.bind_ret, Prog.pure_eq_ret]
  refine oWait m ρ K (.ys 1 0) (ys_of c 1 0 (off10_1_eq c)) (by rfl) (by decide) (by decide +kernel) (by decide +kernel) [.yb 1 0] (by decide +kernel) ?_
  refine oWait m ρ K (.ys 4 1) (ys_of c 4 1 (off17_4_eq c)) (by rfl) (by decide) (by decide +kernel) (by decide +kernel) [.yb 4 1] (by decide +kernel) ?_
  refine oWait m ρ K (.ys 3 0) (ys_of c 3 0 (off10_3_eq c)) (by rfl) (by decide) (by decide +kernel) (by decide +kernel) [.yb 3 0] (by decide +kernel) ?_
  refine oWait m ρ K (.ys 2 0) (ys_of c 2 0 (off24_3_1_eq c)) (by rfl) (by decide) (by decide +kernel) (by decide +kernel) [.yb 2 0] (by decide +kernel) ?_
  refine oWait m ρ K (.ys 3 1) (ys_of c 3 1 (off17_3_eq c)) (by rfl) (by decide) (by decide +kernel) (by decide +kernel) [.yb 3 1] (by decide +kernel) ?_
  exact oRet m ρ K _ _ (by decide +kernel) (by decide +kernel) h

theorem part36 {c : Dev nD} {Q : PUnit → sProp 𝕄}
    (h : St m ρ K c (allDues.drop 31) s36 p36 ⊢ Q ⟨⟩) :
    St m ρ K c (allDues.drop 31) s35 p35 ⊢ Wp c (k0_part36 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c) Q := by
  rw [k0_part36_eq_skeleton]
  unfold k0_part36_skel
  simp only [Prog.lift, semSignalWord, semWaitWord, Prog.bind_op, Prog.bind_ret, Prog.pure_eq_ret]
  refine oWait m ρ K (.ys 7 1) (ys_of c 7 1 (off29_3_4_eq c)) (by rfl) (by decide) (by decide +kernel) (by decide +kernel) [.yb 7 1] (by decide +kernel) ?_
  refine oWait m ρ K (.ys 4 0) (ys_of c 4 0 (off10_4_eq c)) (by rfl) (by decide) (by decide +kernel) (by decide +kernel) [.yb 4 0] (by decide +kernel) ?_
  refine oWait m ρ K (.ys 1 1) (ys_of c 1 1 (off17_1_eq c)) (by rfl) (by decide) (by decide +kernel) (by decide +kernel) [.yb 1 1] (by decide +kernel) ?_
  refine oWait m ρ K (.ys 5 0) (ys_of c 5 0 (off24_4_1_eq c)) (by rfl) (by decide) (by decide +kernel) (by decide +kernel) [.yb 5 0] (by decide +kernel) ?_
  exact oRet m ρ K _ _ (by decide +kernel) (by decide +kernel) h

theorem part37 {c : Dev nD} {Q : PUnit → sProp 𝕄}
    (h : St m ρ K c (allDues.drop 31) s37 p37 ⊢ Q ⟨⟩) :
    St m ρ K c (allDues.drop 31) s36 p36 ⊢ Wp c (k0_part37 xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7 c) Q := by
  rw [k0_part37_eq_skeleton]
  unfold k0_part37_skel
  simp only [Prog.lift, semSignalWord, semWaitWord, Prog.bind_op, Prog.bind_ret, Prog.pure_eq_ret]
  refine oWait m ρ K (.ys 5 1) (ys_of c 5 1 (off29_1_4_eq c)) (by rfl) (by decide) (by decide +kernel) (by decide +kernel) [.yb 5 1] (by decide +kernel) ?_
  refine oWait m ρ K (.ys 7 0) (ys_of c 7 0 (off24_4_3_eq c)) (by rfl) (by decide) (by decide +kernel) (by decide +kernel) [.yb 7 0] (by decide +kernel) ?_
  refine oWait m ρ K (.ys 2 1) (ys_of c 2 1 (off29_1_3_eq c)) (by rfl) (by decide) (by decide +kernel) (by decide +kernel) [.yb 2 1] (by decide +kernel) ?_
  refine oWait m ρ K (.ys 6 0) (ys_of c 6 0 (off34_eq c)) (by rfl) (by decide) (by decide +kernel) (by decide +kernel) [.yb 6 0] (by decide +kernel) ?_
  exact oRet m ρ K _ _ (by decide +kernel) (by decide +kernel) h

end Cert.KernelIdeal.Gather

end
-- ==== Proof.Whole.lean ====
/-
# The whole program of a device
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

/-- One device's program, from every piece as the launch gives it to every piece in its place. -/
theorem body_run {c : Dev nD} : St m ρ K c allDues s0 p0 ⊢ Wp c (cc0_body xM (Memref.isWhole_whole _) wM (Memref.isWhole_whole _) oM (Memref.isWhole_whole _) xbM (Memref.isWhole_whole _) wgM (Memref.isWhole_whole _) ybM (Memref.isWhole_whole _) yiM (Memref.isWhole_whole _) cc0_scratch4 cc0_scratch5 cc0_scratch6 cc0_scratch7) (fun _ => St m ρ K c [] s38 p38) := by
  unfold Wp cc0_body
  rw [show allDues = allDues.drop 0 from rfl]
  rw [wp_bind]; refine part1 m ρ K (fun b0 => ?_); try dsimp only
  rw [wp_bind]; refine part2 m ρ K _ ?_; try dsimp only
  rw [wp_bind]; refine part3 m ρ K _ (fun b0 b1 => ?_); try dsimp only
  rw [wp_bind]; refine part4 m ρ K _ _ _ (fun b0 b1 => ?_); try dsimp only
  rw [wp_bind]; refine part5 m ρ K _ _ _ ?_; try dsimp only
  rw [wp_bind]; refine part6 m ρ K _ (fun b0 => ?_); try dsimp only
  rw [wp_bind]; refine part7 m ρ K _ _ ?_; try dsimp only
  rw [wp_bind]; refine part8 m ρ K _ (fun b0 => ?_); try dsimp only
  rw [wp_bind]; refine part9 m ρ K _ _ ?_; try dsimp only
  rw [wp_bind]; refine part10 m ρ K _ (fun b0 => ?_); try dsimp only
  rw [wp_bind]; refine part11 m ρ K _ _ ?_; try dsimp only
  rw [wp_bind]; refine part12 m ρ K _ (fun b0 b1 => ?_); try dsimp only
  rw [wp_bind]; refine part13 m ρ K _ _ _ (fun b0 => ?_); try dsimp only
  rw [wp_bind]; refine part14 m ρ K _ _ (fun b0 => ?_); try dsimp only
  rw [wp_bind]; refine part15 m ρ K _ _ (fun b0 => ?_); try dsimp only
  rw [wp_bind]; refine part16 m ρ K _ _ ?_; try dsimp only
  rw [wp_bind]; refine part17 m ρ K _ (fun b0 => ?_); try dsimp only
  rw [wp_bind]; refine part18 m ρ K _ _ ?_; try dsimp only
  rw [wp_bind]; refine part19 m ρ K _ (fun b0 => ?_); try dsimp only
  rw [wp_bind]; refine part20 m ρ K _ _ (fun b0 => ?_); try dsimp only
  rw [wp_bind]; refine part21 m ρ K _ _ (fun b0 => ?_); try dsimp only
  rw [wp_bind]; refine part22 m ρ K _ _ ?_; try dsimp only
  rw [wp_bind]; refine part23 m ρ K _ ?_; try dsimp only
  rw [wp_bind]; refine part24 m ρ K _ (fun b0 => ?_); try dsimp only
  rw [wp_bind]; refine part25 m ρ K _ _ (fun b0 => ?_); try dsimp only
  rw [wp_bind]; refine part26 m ρ K _ _ (fun b0 b1 => ?_); try dsimp only
  rw [wp_bind]; refine part27 m ρ K _ _ _ (fun b0 b1 b2 => ?_); try dsimp only
  rw [wp_bind]; refine part28 m ρ K _ _ _ _ (fun b0 => ?_); try dsimp only
  rw [wp_bind]; refine part29 m ρ K _ _ (fun b0 => ?_); try dsimp only
  rw [wp_bind]; refine part30 m ρ K _ _ (fun b0 b1 => ?_); try dsimp only
  rw [wp_bind]; refine part31 m ρ K _ _ ?_; try dsimp only
  rw [wp_bind]; refine part32 m ρ K ?_; try dsimp only
  rw [wp_bind]; refine part33 m ρ K ?_; try dsimp only
  rw [wp_bind]; refine part34 m ρ K ?_; try dsimp only
  rw [wp_bind]; refine part35 m ρ K ?_; try dsimp only
  rw [wp_bind]; refine part36 m ρ K ?_; try dsimp only
  rw [wp_bind]; refine part37 m ρ K ?_; try dsimp only
  simp only [Prog.lift, Prog.bind_op, Prog.bind_ret, Prog.pure_eq_ret]
  refine oWait m ρ K (.ys 6 1) (ys_of c 6 1 (off39_eq c)) (by rfl) (by decide) (by decide +kernel) (by decide +kernel) [.yb 6 1] (by decide +kernel) ?_
  exact oRet m ρ K _ _ (by decide +kernel) (by decide +kernel) .rfl

end Cert.KernelIdeal.Gather

end
-- ==== Proof.Finish.lean ====
/-
# Whole buffers in pieces and back, and the last cells

The launch hands a device whole buffers, the run hands them back.
-/
module

public import proofs.«01_k».proof.Proof.Whole

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

/-! ## A buffer in parts -/

theorem parts_split {ℓ : Loc nD τ sig} {T : Type} [Fintype T] [DecidableEq T] (S : T → Finset (Idx ℓ))
    (hd : ∀ t t', t ≠ t' → Disjoint (S t) (S t')) (hu : ∀ i, ∃ t, i ∈ S t) (f : Buf (Elt F) ℓ) :
    (ℓ ↦{fullShare} f : sProp 𝕄) = bigSep Finset.univ fun t => ℓ ↦[S t]{fullShare} f := by
  rw [← pointsTo_biUnion Finset.univ S fun t _ t' _ h => hd t t' h]
  have : Finset.univ.biUnion S = Finset.univ := by
    ext i
    obtain ⟨t, ht⟩ := hu i
    exact ⟨fun _ => Finset.mem_univ _, fun _ => Finset.mem_biUnion.mpr ⟨t, Finset.mem_univ _, ht⟩⟩
  rw [this]

theorem parts_out {ℓ : Loc nD τ sig} {T : Type} [Fintype T] [DecidableEq T] (S : T → Finset (Idx ℓ))
    (hd : ∀ t t', t ≠ t' → Disjoint (S t) (S t')) (hu : ∀ i, ∃ t, i ∈ S t) :
    iprop(∃ f : Buf (Elt F) ℓ, ℓ ↦{fullShare} f) ⊢ (bigSep Finset.univ fun t => iprop(∃ f : Buf (Elt F) ℓ, ℓ ↦[S t]{fullShare} f) : sProp 𝕄) := by
  iintro ⟨%f, H⟩
  ihave H' := (Entails.of_eq (parts_split S hd hu f)) $$ H
  have key : (bigSep Finset.univ fun t => iprop(ℓ ↦[S t]{fullShare} f) : sProp 𝕄) ⊢ bigSep Finset.univ fun t => iprop(∃ f : Buf (Elt F) ℓ, ℓ ↦[S t]{fullShare} f) :=
    bigSep_mono fun t _ => show iprop(ℓ ↦[S t]{fullShare} f) ⊢ iprop(∃ f : Buf (Elt F) ℓ, ℓ ↦[S t]{fullShare} f) from by iintro H; iexists f; iexact H
  iapply key; iexact H'

theorem parts_in {ℓ : Loc nD τ sig} {T : Type} [Fintype T] [DecidableEq T] (S : T → Finset (Idx ℓ)) (f₀ : Buf (Elt F) ℓ)
    (hd : ∀ t t', t ≠ t' → Disjoint (S t) (S t')) (hu : ∀ i, ∃ t, i ∈ S t) :
    (bigSep Finset.univ fun t => iprop(∃ f : Buf (Elt F) ℓ, ℓ ↦[S t]{fullShare} f) : sProp 𝕄) ⊢ iprop(∃ f : Buf (Elt F) ℓ, ℓ ↦{fullShare} f) := by
  haveI : Nonempty (Buf (Elt F) ℓ) := ⟨f₀⟩
  iintro H
  ihave HK := (BI.bigSep_exists_pi Finset.univ (fun (t : T) (f : Buf (Elt F) ℓ) => (iprop(ℓ ↦[S t]{fullShare} f) : sProp 𝕄))) $$ H
  icases HK with ⟨%fs, HK⟩
  ihave H' := (pointsTo_biUnion_join Finset.univ S fs f₀ fun t _ t' _ h => hd t t' h) $$ HK
  icases H' with ⟨%g, -, H'⟩
  have : Finset.univ.biUnion S = Finset.univ := by
    ext i
    obtain ⟨t, ht⟩ := hu i
    exact ⟨fun _ => Finset.mem_univ _, fun _ => Finset.mem_biUnion.mpr ⟨t, Finset.mem_univ _, ht⟩⟩
  iexists g
  ihave H2 := (Entails.of_eq (congrArg (fun I => (ℓ ↦[I]{fullShare} g : sProp 𝕄)) this)) $$ H'
  iexact H2

/-! ## The halves of slots, and the rows of devices -/

/-- A slot, by its mask, and a half. -/
abbrev KS : Type := Fin 8 × Fin 2
def ksL : List KS := [(0, 0), (0, 1), (1, 0), (1, 1), (2, 0), (2, 1), (3, 0), (3, 1), (4, 0), (4, 1), (5, 0), (5, 1), (6, 0), (6, 1), (7, 0), (7, 1)]
def kL : List (Fin 8) := [0, 1, 2, 3, 4, 5, 6, 7]
theorem ks_list {M : Type} [URA M] (Φ : KS → sProp M) : bigSep Finset.univ Φ = bigSepL ksL Φ := bigSep_univ_eq_bigSepL ksL (by decide +kernel) (by decide +kernel) Φ
theorem k_list {M : Type} [URA M] (Φ : Fin 8 → sProp M) : bigSep Finset.univ Φ = bigSepL kL Φ := bigSep_univ_eq_bigSepL kL (by decide +kernel) (by decide +kernel) Φ

theorem dx_self_mask : ∀ (c o : Dev nD), ∃ k : Fin 8, dx c k = o := by decide +kernel

theorem rW_disj (c : Dev nD) (t t' : KS) (h : t ≠ t') : Disjoint (rW (dx c t.1) t.2).set (rW (dx c t'.1) t'.2).set := by
  rw [Finset.disjoint_left]
  intro i h0 h1
  rw [Rect.mem_set_unit] at h0 h1
  have a := h0 0; have b := h1 0
  have a2 := h0 2; have b2 := h1 2
  replace a : (dx c t.1).val ≤ (i 0).val ∧ (i 0).val < (dx c t.1).val + 1 := a
  replace b : (dx c t'.1).val ≤ (i 0).val ∧ (i 0).val < (dx c t'.1).val + 1 := b
  replace a2 : 128 * t.2.val ≤ (i 2).val ∧ (i 2).val < 128 * t.2.val + 128 := a2
  replace b2 : 128 * t'.2.val ≤ (i 2).val ∧ (i 2).val < 128 * t'.2.val + 128 := b2
  exact h (Prod.ext (dx_inj c _ _ (Fin.ext (by omega))) (Fin.ext (by omega)))
theorem rW_cov (c : Dev nD) (i : S8x4096x256.Idx) : ∃ t : KS, i ∈ (rW (dx c t.1) t.2).set := by
  have h0 : (i 0).val < 8 := (i 0).isLt
  have h1 : (i 1).val < 4096 := (i 1).isLt
  have h2 : (i 2).val < 256 := (i 2).isLt
  obtain ⟨k, hk⟩ := dx_self_mask c ⟨(i 0).val, h0⟩
  refine ⟨(k, ⟨(i 2).val / 128, by omega⟩), ?_⟩
  rw [Rect.mem_set_unit]
  intro a
  match a with
  | 0 => show (dx c k).val ≤ (i 0).val ∧ (i 0).val < (dx c k).val + 1; rw [hk]; exact ⟨le_refl _, Nat.lt_succ_self _⟩
  | 1 => exact ⟨Nat.zero_le _, by show (i 1).val < 0 + 4096; omega⟩
  | 2 => show 128 * ((i 2).val / 128) ≤ (i 2).val ∧ (i 2).val < 128 * ((i 2).val / 128) + 128; omega

theorem rY_disj (c : Dev nD) (t t' : KS) (h : t ≠ t') : Disjoint (rY (dx c t.1) t.2).set (rY (dx c t'.1) t'.2).set := by
  rw [Finset.disjoint_left]
  intro i h0 h1
  rw [Rect.mem_set_unit] at h0 h1
  have a := h0 0; have b := h1 0
  have a2 := h0 2; have b2 := h1 2
  replace a : (dx c t.1).val ≤ (i 0).val ∧ (i 0).val < (dx c t.1).val + 1 := a
  replace b : (dx c t'.1).val ≤ (i 0).val ∧ (i 0).val < (dx c t'.1).val + 1 := b
  replace a2 : 128 * t.2.val ≤ (i 2).val ∧ (i 2).val < 128 * t.2.val + 128 := a2
  replace b2 : 128 * t'.2.val ≤ (i 2).val ∧ (i 2).val < 128 * t'.2.val + 128 := b2
  exact h (Prod.ext (dx_inj c _ _ (Fin.ext (by omega))) (Fin.ext (by omega)))
theorem rY_cov (c : Dev nD) (i : S8x512x256.Idx) : ∃ t : KS, i ∈ (rY (dx c t.1) t.2).set := by
  have h0 : (i 0).val < 8 := (i 0).isLt
  have h1 : (i 1).val < 512 := (i 1).isLt
  have h2 : (i 2).val < 256 := (i 2).isLt
  obtain ⟨k, hk⟩ := dx_self_mask c ⟨(i 0).val, h0⟩
  refine ⟨(k, ⟨(i 2).val / 128, by omega⟩), ?_⟩
  rw [Rect.mem_set_unit]
  intro a
  match a with
  | 0 => show (dx c k).val ≤ (i 0).val ∧ (i 0).val < (dx c k).val + 1; rw [hk]; exact ⟨le_refl _, Nat.lt_succ_self _⟩
  | 1 => exact ⟨Nat.zero_le _, by show (i 1).val < 0 + 512; omega⟩
  | 2 => show 128 * ((i 2).val / 128) ≤ (i 2).val ∧ (i 2).val < 128 * ((i 2).val / 128) + 128; omega

theorem rO_disj (c : Dev nD) (t t' : Fin 8) (h : t ≠ t') : Disjoint (rO (dx c t)).set (rO (dx c t')).set := by
  rw [Finset.disjoint_left]
  intro i h0 h1
  rw [Rect.mem_set_unit] at h0 h1
  have a := h0 0; have b := h1 0
  replace a : 512 * (dx c t).val ≤ (i 0).val ∧ (i 0).val < 512 * (dx c t).val + 512 := a
  replace b : 512 * (dx c t').val ≤ (i 0).val ∧ (i 0).val < 512 * (dx c t').val + 512 := b
  exact h (dx_inj c _ _ (Fin.ext (by omega)))
theorem rO_cov (c : Dev nD) (i : S4096x256.Idx) : ∃ t : Fin 8, i ∈ (rO (dx c t)).set := by
  have h0 : (i 0).val < 4096 := (i 0).isLt
  have h1 : (i 1).val < 256 := (i 1).isLt
  obtain ⟨k, hk⟩ := dx_self_mask c ⟨(i 0).val / 512, by show (i 0).val / 512 < 8; omega⟩
  refine ⟨k, ?_⟩
  rw [Rect.mem_set_unit]
  intro a
  match a with
  | 0 => show 512 * (dx c k).val ≤ (i 0).val ∧ (i 0).val < 512 * (dx c k).val + 512; rw [hk]; show 512 * ((i 0).val / 512) ≤ (i 0).val ∧ (i 0).val < 512 * ((i 0).val / 512) + 512; omega
  | 1 => exact ⟨Nat.zero_le _, by show (i 1).val < 0 + 256; omega⟩

/-! ## Pieces back to whole buffers -/

/-- The copies of a slot that took a share of it. -/
def cuts (k : Fin 8) (s : Fin 2) : ℕ → List Pt
  | 0 => []
  | n + 1 => .wg k s false n :: cuts k s n

theorem wg_join (c : Dev nD) (k : Fin 8) (s : Fin 2) : ∀ n : ℕ, pts m ρ c (.wg k s true n :: cuts k s n) ⊢ ptAt m ρ c (.wg k s true 0)
  | 0 => by unfold cuts pts; rw [sep_cons, bigSepL_nil]; iintro ⟨H, -⟩; iexact H
  | n + 1 => by
    refine BIBase.Entails.trans ?_ (wg_join c k s n)
    rw [show cuts k s (n + 1) = .wg k s false n :: cuts k s n from rfl]
    unfold pts
    rw [sep_cons, sep_cons, sep_cons, wg_split m ρ c k s n]
    iintro ⟨H, H2, H3⟩
    isplitl [H H2]
    · isplitl [H2]; · iexact H2
      iexact H
    iexact H3

/-- How many copies of a slot the device issued. -/
def cnt : KS → ℕ
  | (0, _) => 3
  | (1, 0) => 2
  | (4, 1) => 2
  | (3, _) => 1
  | (2, 0) => 1
  | (7, 1) => 1
  | _ => 0

def wgAll : List Pt := ksL.flatMap fun t => .wg t.1 t.2 true (cnt t) :: cuts t.1 t.2 (cnt t)
def ybAll : List Pt := ksL.map fun t => if t.1 = 0 then .ybe t.1 t.2 else .yb t.1 t.2
def yiAll : List Pt := ksL.map fun t => if t.1 = 0 then .yie 0 t.1 t.2 else .yi t.1 t.2

theorem p38_perm : p38.Perm (.x :: .w :: .xb :: (wgAll ++ (ybAll ++ (yiAll ++ kL.map .of)))) := by decide +kernel

theorem pts_flat (c : Dev nD) {T : Type} (g : T → List Pt) : ∀ l : List T, pts m ρ c (l.flatMap g) = bigSepL l fun t => pts m ρ c (g t)
  | [] => rfl
  | t :: l => by rw [List.flatMap_cons, pts_app, pts_flat c g l, sep_cons]
theorem pts_map (c : Dev nD) {T : Type} (g : T → Pt) (l : List T) : pts m ρ c (l.map g) = bigSepL l fun t => ptAt m ρ c (g t) := bigSepL_map g l _

theorem ptAt_wge0 (c : Dev nD) (k : Fin 8) (s : Fin 2) : ptAt m ρ c (.wge 0 k s)
    = iprop(∃ f : Buf (Elt F) (wgM.view.loc (c : Thread nD τ)), wgM.view.loc (c : Thread nD τ) ↦[(rW (dx c k) s).set]{fullShare} f) := wge_congr (dx_zero c) rfl s
theorem ptAt_yie0 (c : Dev nD) (k : Fin 8) (s : Fin 2) : ptAt m ρ c (.yie 0 k s)
    = iprop(∃ f : Buf (Elt F) (yiM.view.loc (c : Thread nD τ)), yiM.view.loc (c : Thread nD τ) ↦[(rY (dx c k) s).set]{fullShare} f) := yie_congr (dx_zero c) rfl s

/-- A buffer of a device, whole at some contents. -/
abbrev anyB (c : Dev nD) (b : Ref sig .tc) : sProp 𝕄 := iprop(∃ f : Buf (Elt F) ((c : Thread nD τ).loc b), ((c : Thread nD τ).loc b) ↦{fullShare} f)

theorem wg_out (c : Dev nD) : (anyB c cc0_scratch1 : sProp 𝕄) ⊢ pts m ρ c (ksL.map fun t => .wge 0 t.1 t.2) := by
  rw [pts_map, ← ks_list, bigSep_congr fun t _ => ptAt_wge0 m ρ c t.1 t.2]
  exact parts_out (ℓ := wgM.view.loc (c : Thread nD τ)) (fun t : KS => (rW (dx c t.1) t.2).set) (rW_disj c) (rW_cov c)
theorem yb_out (c : Dev nD) : (anyB c cc0_scratch2 : sProp 𝕄) ⊢ pts m ρ c (ksL.map fun t => .ybe t.1 t.2) := by
  rw [pts_map, ← ks_list]
  exact parts_out (ℓ := ybM.view.loc (c : Thread nD τ)) (fun t : KS => (rY (dx c t.1) t.2).set) (rY_disj c) (rY_cov c)
theorem yi_out (c : Dev nD) : (anyB c cc0_scratch3 : sProp 𝕄) ⊢ pts m ρ c (ksL.map fun t => .yie 0 t.1 t.2) := by
  rw [pts_map, ← ks_list, bigSep_congr fun t _ => ptAt_yie0 m ρ c t.1 t.2]
  exact parts_out (ℓ := yiM.view.loc (c : Thread nD τ)) (fun t : KS => (rY (dx c t.1) t.2).set) (rY_disj c) (rY_cov c)
theorem o_out (c : Dev nD) : (anyB c cc0_stg2_0 : sProp 𝕄) ⊢ pts m ρ c (kL.map .oe) := by
  rw [pts_map, ← k_list]
  exact parts_out (ℓ := oM.view.loc (c : Thread nD τ)) (fun t : Fin 8 => (rO (dx c t)).set) (rO_disj c) (rO_cov c)

theorem wg_in (c : Dev nD) : pts m ρ c wgAll ⊢ (anyB c cc0_scratch1 : sProp 𝕄) := by
  unfold wgAll
  rw [pts_flat]
  refine (bigSepL_mono fun t _ => wg_join m ρ c t.1 t.2 (cnt t)).trans ?_
  rw [← ks_list]
  have h := parts_split (ℓ := wgM.view.loc (c : Thread nD τ)) (fun t : KS => (rW (dx c t.1) t.2).set) (rW_disj c) (rW_cov c) (wgF m ρ)
  refine BIBase.Entails.trans (Entails.of_eq h.symm) ?_
  iintro H
  iexists (wgF m ρ); iexact H
theorem yb_in (c : Dev nD) : pts m ρ c ybAll ⊢ (anyB c cc0_scratch2 : sProp 𝕄) := by
  unfold ybAll
  rw [pts_map]
  refine BIBase.Entails.trans ?_ (parts_in (ℓ := ybM.view.loc (c : Thread nD τ)) (fun t : KS => (rY (dx c t.1) t.2).set) (ybF m ρ c) (rY_disj c) (rY_cov c))
  rw [ks_list]
  refine bigSepL_mono fun t _ => ?_
  by_cases h : t.1 = 0
  · rw [if_pos h]; exact .rfl
  · rw [if_neg h]; unfold ptAt
    iintro H; iexists (ybF m ρ c); iexact H
theorem yi_in (c : Dev nD) : pts m ρ c yiAll ⊢ (anyB c cc0_scratch3 : sProp 𝕄) := by
  unfold yiAll
  rw [pts_map]
  refine BIBase.Entails.trans ?_ (parts_in (ℓ := yiM.view.loc (c : Thread nD τ)) (fun t : KS => (rY (dx c t.1) t.2).set) (yiF m ρ c) (rY_disj c) (rY_cov c))
  rw [ks_list]
  refine bigSepL_mono fun t _ => ?_
  by_cases h : t.1 = 0
  · rw [if_pos h, ptAt_yie0]
  · rw [if_neg h]; unfold ptAt
    iintro H; iexists (yiF m ρ c); iexact H
theorem o_in (c : Dev nD) : pts m ρ c (kL.map .of) ⊢ ((c : Thread nD τ).loc cc0_stg2_0 ↦{fullShare} outF m ρ c : sProp 𝕄) := by
  rw [pts_map, ← k_list]
  have h := parts_split (ℓ := oM.view.loc (c : Thread nD τ)) (fun t : Fin 8 => (rO (dx c t)).set) (rO_disj c) (rO_cov c) (outF m ρ c)
  exact Entails.of_eq h.symm

/-- The pieces at the start, from the whole buffers. -/
theorem pts_start (c : Dev nD) :
    iprop(((c : Thread nD τ).loc cc0_stg0_0 ↦{fullShare} xstg m ρ c) ∗ ((c : Thread nD τ).loc cc0_stg1_0 ↦{fullShare} wstg m ρ c) ∗ anyB c cc0_stg2_0 ∗ anyB c cc0_scratch0 ∗ anyB c cc0_scratch1 ∗ anyB c cc0_scratch2 ∗ anyB c cc0_scratch3)
      ⊢ pts m ρ c p0 := by
  have e : p0 = (ksL.map fun t => .wge 0 t.1 t.2) ++ ((ksL.map fun t => .ybe t.1 t.2) ++ ((ksL.map fun t => .yie 0 t.1 t.2) ++ (.x :: .w :: .xe :: kL.map .oe))) := by
    decide +kernel
  rw [e, pts_app, pts_app, pts_app]
  have e2 : pts m ρ c (.x :: .w :: .xe :: kL.map .oe) = iprop(((c : Thread nD τ).loc cc0_stg0_0 ↦{fullShare} xstg m ρ c) ∗ ((c : Thread nD τ).loc cc0_stg1_0 ↦{fullShare} wstg m ρ c) ∗ anyB c cc0_scratch0 ∗ pts m ρ c (kL.map .oe)) := by
    unfold pts; rw [sep_cons, sep_cons, sep_cons]; rfl
  rw [e2]
  iintro ⟨Hx, Hw, Ho, H0, H1, H2, H3⟩
  isplitl [H1]; · iapply (wg_out m ρ c); iexact H1
  isplitl [H2]; · iapply (yb_out m ρ c); iexact H2
  isplitl [H3]; · iapply (yi_out m ρ c); iexact H3
  isplitl [Hx]; · iexact Hx
  isplitl [Hw]; · iexact Hw
  isplitl [H0]; · iexact H0
  iapply (o_out m ρ c); iexact Ho

/-- The whole buffers, from the pieces at the end. -/
theorem pts_end (c : Dev nD) :
    pts m ρ c p38 ⊢ iprop(((c : Thread nD τ).loc cc0_stg0_0 ↦{fullShare} xstg m ρ c) ∗ ((c : Thread nD τ).loc cc0_stg1_0 ↦{fullShare} wstg m ρ c) ∗ ((c : Thread nD τ).loc cc0_stg2_0 ↦{fullShare} outF m ρ c)
      ∗ anyB c cc0_scratch0 ∗ anyB c cc0_scratch1 ∗ anyB c cc0_scratch2 ∗ anyB c cc0_scratch3) := by
  have e : pts m ρ c p38 = iprop(((c : Thread nD τ).loc cc0_stg0_0 ↦{fullShare} xstg m ρ c) ∗ ((c : Thread nD τ).loc cc0_stg1_0 ↦{fullShare} wstg m ρ c) ∗ ((c : Thread nD τ).loc cc0_scratch0 ↦{fullShare} xF m ρ c) ∗ pts m ρ c wgAll ∗ pts m ρ c ybAll ∗ pts m ρ c yiAll ∗ pts m ρ c (kL.map .of)) := by
    rw [← pts_app, ← pts_app, ← pts_app]
    unfold pts
    rw [bigSepL_of_perm p38_perm, sep_cons, sep_cons, sep_cons]; rfl
  rw [e]
  iintro ⟨Hx, Hw, H0, H1, H2, H3, Ho⟩
  isplitl [Hx]; · iexact Hx
  isplitl [Hw]; · iexact Hw
  isplitl [Ho]; · iapply (o_in m ρ c); iexact Ho
  isplitl [H0]; · iexists (xF m ρ c); iexact H0
  isplitl [H1]; · iapply (wg_in m ρ c); iexact H1
  isplitl [H2]; · iapply (yb_in m ρ c); iexact H2
  iapply (yi_in m ρ c); iexact H3

/-! ## All cells of a device -/

theorem ki_all (c : Dev nD) : (Finset.univ : Finset (Fin 61)) = (allCells.map (ki c)).toFinset := by
  revert c; decide +kernel
theorem ki_nodup : ∀ c : Dev nD, (allCells.map (ki c)).Nodup := by decide +kernel
theorem cells_list {M : Type} [URA M] (c : Dev nD) (Φ : Fin 61 → sProp M) : bigSep Finset.univ Φ = bigSepL allCells fun cl => Φ (ki c cl) := by
  rw [bigSep_univ_eq_bigSepL (allCells.map (ki c)) (ki_all c) (ki_nodup c), bigSepL_map]

def s39 : List (Cell × Ph) := (s38.take 57) ++ [(.ys 0 0, .done), (.ys 0 1, .done), (.yr 0 0, .done), (.yr 0 1, .done)]
theorem s39_perm : s39.Perm (allCells.map fun cl => (cl, .done)) := by decide +kernel
theorem s38_app : s38 = s38.take 57 ++ [(.ys 0 0, .idle), (.ys 0 1, .idle), (.yr 0 0, .idle), (.yr 0 1, .idle)] := by decide +kernel

theorem close_idle (c : Dev nD) (cl : Cell) (h : dts cl = ∅) :
    iprop(records m ρ K ∗ semAt c (cl, .idle)) ⊢ (|={Set.univ}=> semAt c (cl, .done) : sProp 𝕄) := by
  have hI := inv_at m ρ K c cl
  rw [semAt_idle, semAt_done]
  iintro ⟨#HR, Ha⟩
  iapply (Rounds.cell_close ER (Rd m ρ) (Set.mem_univ (K (c, ki c cl))) (fun h => h) (R := 0) (g := gcell c cl)
    (fun r _ => match r with
      | 0 => by rw [duties_g, h]
      | r + 1 => duties_later m ρ _ _ (Nat.succ_le_succ (Nat.zero_le r))))
  isplitr; · iapply hI; iexact HR
  iexact Ha

/-- The cells no block was sent through are closed last. -/
theorem sems_end (c : Dev nD) :
    iprop(records m ρ K ∗ bigSepL s38 (semAt c)) ⊢ (|={Set.univ}=> bigSep Finset.univ fun k : Fin 61 => semVal (kcell (c, k)) 0 : sProp 𝕄) := by
  have e : (bigSep Finset.univ fun k : Fin 61 => semVal (kcell (c, k)) 0 : sProp 𝕄) = bigSepL s39 (semAt c) := by
    rw [cells_list c, bigSepL_of_perm s39_perm, bigSepL_map]; rfl
  rw [e, s38_app]
  unfold s39
  rw [bigSepL_append, bigSepL_append, sep_cons, sep_cons, sep_cons, sep_cons, sep_cons, sep_cons, sep_cons, sep_cons]
  iintro ⟨#HR, H, H0, H1, H2, H3, -⟩
  imod (close_idle m ρ K c (.ys 0 0) rfl) $$ [H0] with H0
  · isplitr; · iexact HR
    iexact H0
  imod (close_idle m ρ K c (.ys 0 1) rfl) $$ [H1] with H1
  · isplitr; · iexact HR
    iexact H1
  imod (close_idle m ρ K c (.yr 0 0) rfl) $$ [H2] with H2
  · isplitr; · iexact HR
    iexact H2
  imod (close_idle m ρ K c (.yr 0 1) rfl) $$ [H3] with H3
  · isplitr; · iexact HR
    iexact H3
  imodintro
  isplitl [H]; · iexact H
  isplitl [H0]; · iexact H0
  isplitl [H1]; · iexact H1
  isplitl [H2]; · iexact H2
  isplitl [H3]; · iexact H3
  rw [bigSepL_nil]; iempintro

end Cert.KernelIdeal.Gather

end
-- ==== Proof.Body.lean ====
/-
# The body of the region

From the region's data before its one point to that after it.
-/
module

public import proofs.«01_k».proof.Proof.Finish

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

/-! ## The region's data -/

def O₀ (c : Dev nD) : CellTallies nD τ sig Unit := owedL c allDues

/-- The kernel's own scoped semaphores. -/
abbrev osem : Fin 60 → SemLoc sig := fun k => csem k.succ

/-- Everything but buffers a device starts with. -/
def start (c : Dev nD) : sProp 𝕄 :=
  iprop(∃ K : Dev nD × Fin 61 → ℕ, records m ρ K ∗ levAts L lv ∗ bigSepL allDues (tok c) ∗ bigSepL s0 (semAt c))
/-- The kernel's own buffers. -/
def scr (c : Dev nD) : sProp 𝕄 := iprop(anyB c cc0_scratch0 ∗ anyB c cc0_scratch1 ∗ anyB c cc0_scratch2 ∗ anyB c cc0_scratch3)

def Φ₀ (c : Dev nD) : sProp 𝕄 := iprop(start m ρ c ∗ scr c)
def Φ₁ (c : Dev nD) : sProp 𝕄 := iprop((bigSep Finset.univ fun k : Fin 61 => semVal (kcell (c, k)) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outF m ρ c))

/-- What a device has once its program is through. -/
theorem post_of_end (c : Dev nD) : St m ρ K c [] s38 p38 ⊢ (|={Set.univ}=> bodyPost m ρ c : sProp 𝕄) := by
  unfold St
  iintro ⟨#HR, -, ⟨%W, HO⟩, -, HS, HP⟩
  ihave HP' := (pts_end m ρ c) $$ HP
  icases HP' with ⟨Hx, Hw, Ho, H0, H1, H2, H3⟩
  imod (sems_end m ρ K c) $$ [HS] with Hz
  · isplitr; · iexact HR
    iexact HS
  imodintro
  unfold bodyPost Φ₁ scr Dat.owesAt Pipeline.owesWithin
  rw [show (dats m ρ 0 c).owed t0_0.succ = 0 from rfl, show owedL c [] = 0 from rfl]
  isplitl [Hz H0 H1 H2 H3]
  · isplitl [Hz]; · iexact Hz
    isplitl [H0]; · iexact H0
    isplitl [H1]; · iexact H1
    isplitl [H2]; · iexact H2
    iexact H3
  isplitl [HO]
  · iexists W
    isplitr; · ipureintro; exact fun _ _ => Or.inl trivial
    iexact HO
  isplitl [Hx]
  · iexists (xstg m ρ c); isplitr; · (ipureintro; rfl)
    iexact Hx
  isplitl [Hw]
  · iexists (wstg m ρ c); isplitr; · (ipureintro; rfl)
    iexact Hw
  iexists (outF m ρ c); isplitr; · (ipureintro; rfl)
  iexact Ho

/-- What a device has when its program begins. -/
theorem pre_to_start (c : Dev nD) : bodyPre m ρ c ⊢ iprop(∃ K : Dev nD × Fin 61 → ℕ, St m ρ K c allDues s0 p0) := by
  unfold bodyPre Φ₀ start scr
  iintro ⟨⟨⟨%K, #HR, #HL, HT, HS⟩, H0, H1, H2, H3⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t0_0)]; rfl
  have hw : g1 = wstg m ρ c := by rw [hg1]; unfold Dat.before; rw [if_pos (fetch_1 t0_0)]; rfl
  subst hx hw
  unfold Dat.owesAt Pipeline.owesWithin
  icases Ho with ⟨%W, %hW, HO⟩
  rw [show (dats m ρ 0 c).owed t0_0.castSucc = owedL c allDues from rfl]
  iexists K
  unfold St
  isplitr; · iexact HR
  isplitr; · iexact HL
  isplitl [HO]; · iexists W; iexact HO
  isplitl [HT]; · iexact HT
  isplitl [HS]; · iexact HS
  iapply (pts_start m ρ c)
  isplitl [Hx]; · iexact Hx
  isplitl [Hw]; · iexact Hw
  isplitl [Hout]; · iexists g2; iexact Hout
  isplitl [H0]; · iexact H0
  isplitl [H1]; · iexact H1
  isplitl [H2]; · iexact H2
  iexact H3

attribute [local irreducible] cc0_body

theorem sound_body (c : Dev nD) : bodyPre m ρ c ⊢ Wp c (cc0_body xM (Memref.isWhole_whole _) wM (Memref.isWhole_whole _) oM (Memref.isWhole_whole _)
      xbM (Memref.isWhole_whole _) wgM (Memref.isWhole_whole _) ybM (Memref.isWhole_whole _) yiM (Memref.isWhole_whole _) cc0_scratch4 cc0_scratch5 cc0_scratch6 cc0_scratch7)
      (fun _ => bodyPost m ρ c) := by
  refine (pre_to_start m ρ c).trans ?_
  iintro ⟨%K, H⟩
  have key := (body_run m ρ K (c := c)).trans ((wp_mono _ _ _ (fun _ => post_of_end m ρ K c)).trans (wp_fupd _ _ _ _ _))
  iapply key; iexact H

set_option maxRecDepth 8000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]

  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7) (fun _ => bodyPost m ρ c)
  exact sound_body m ρ c

end Cert.KernelIdeal.Gather

end
-- ==== Proof.Launch.lean ====
/-
# The launch

Tokens, credits and invariants dealt to the devices, and the run of the whole program.
-/
module

public import proofs.«01_k».proof.Proof.Body
public import Idealize.ShloMosaic.Lib.Pipeline.CollectiveSegs

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 61 → ℕ)

/-! ## Semaphores and tokens -/

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × Fin 61 → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def ringCells : Finset (GSem nD τ sig) := Finset.univ.map ⟨kcell, kcell_injective⟩

/-- The tokens a due needs, as minted. -/
def tokL (c : Dev nD) (d : Due) : List (GSem nD τ sig × ℕ × Fin 3) :=
  match d.own with
  | none => [(d.g c, 0, d.duty)]
  | some cl => [(d.g c, 0, d.duty), (gcell c cl, 0, 0)]
def devL : List (Dev nD) := [0, 1, 2, 3, 4, 5, 6, 7]
def allToks : List (GSem nD τ sig × ℕ × Fin 3) := devL.flatMap fun c => allDues.flatMap (tokL c)

set_option backward.proofsInPublic true in
/-- A number for a token. -/
def tokNo (x : GSem nD τ sig × ℕ × Fin 3) : ℕ :=
  (x.1.1.1.val * 61 + (match rowOf x.1.2 with | some k => k.val | none => 0)) * 3 + x.2.2.val
theorem allToks_nodup : allToks.Nodup := by
  have h : (allToks.map tokNo).Nodup := by decide +kernel
  exact List.Nodup.of_map _ h
def ringToks : Finset (GSem nD τ sig × ℕ × Fin 3) := allToks.toFinset

theorem dev_list {M : Type} [URA M] (Φ : Dev nD → sProp M) : bigSep Finset.univ Φ = bigSepL devL Φ := bigSep_univ_eq_bigSepL devL (by decide +kernel) (by decide +kernel) Φ

theorem bigSepL_flat {M : Type} [URA M] {I J : Type} (g : I → List J) (Φ : J → sProp M) : ∀ l : List I, bigSepL (l.flatMap g) Φ = bigSepL l fun i => bigSepL (g i) Φ
  | [] => rfl
  | i :: l => by rw [List.flatMap_cons, bigSepL_append, bigSepL_flat g Φ l, bigSepL_cons']

omit [FloatOps F] in
theorem tokL_eq (c : Dev nD) (d : Due) : bigSepL (tokL c d) (fun x => (dutyTok ER x.1 x.2.1 x.2.2 : sProp 𝕄)) = tok c d := by
  cases d with
  | sg d => unfold tokL tok; exact bigSepL_singleton _ _
  | w s i => show bigSepL [_, _] _ = iprop(_ ∗ _); rw [sep_cons, bigSepL_singleton]
  | y s i => show bigSepL [_, _] _ = iprop(_ ∗ _); rw [sep_cons, bigSepL_singleton]

omit [FloatOps F] in
theorem toks_eq : bigSep ringToks (fun x => (dutyTok ER x.1 x.2.1 x.2.2 : sProp 𝕄)) = bigSep Finset.univ fun c : Dev nD => bigSepL allDues (tok c) := by
  unfold ringToks
  rw [bigSep_eq_bigSepL_of_eq allToks rfl allToks_nodup, dev_list]
  unfold allToks
  rw [bigSepL_flat]
  congr 1; funext c
  rw [bigSepL_flat]
  congr 1; funext d
  exact tokL_eq c d

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : Fin 61 => roundState ER (Rd m ρ) (kcell (c, k)) 0)
    ∗ (bigSep Finset.univ fun k : Fin 61 => iprop(atPos ER (kcell (c, k)) 0 ∅ 0 ∗ reached ER (kcell (c, k)) 0)) ∗ bigSepL allDues (tok c))

/-- What the global step makes of it. -/
def G' (c : Dev nD) : sProp 𝕄 :=
  iprop(∃ K : Dev nD × Fin 61 → ℕ, records m ρ K ∗ (bigSep Finset.univ fun k : Fin 61 => atPos ER (kcell (c, k)) 0 ∅ 0) ∗ bigSepL allDues (tok c))

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 61 => Φ (kcell (c, k)) := by
    unfold ringCells; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

omit [FloatOps F] in
/-- The kernel's own semaphores and the barrier are the sixty-one. -/
theorem sems_eq (c : Dev nD) : (bigSep Finset.univ fun k : Fin 61 => semVal (kcell (c, k)) 0 : sProp 𝕄)
    = iprop(unscopedSems0 c ∗ Pipeline.ownSems0 (Ix := Unit) (Name := ℕ) (U := UU) (Lvl := ℕ) (Val := Elt F) (τ := τ) osem c) := by
  have hu : (unscopedSems0 c : sProp 𝕄) = semVal (kcell (c, 0)) 0 := by
    unfold unscopedSems0; rw [bigSep_eq_bigSepL_of_eq [SemLoc.reg barS] (by decide +kernel) (by decide +kernel)]; rfl
  rw [hu, Pipeline.ownSems0_eq_of_list c osem (List.finRange 60) (by decide +kernel) (by decide +kernel),
    bigSep_univ_eq_bigSepL ((0 : Fin 61) :: (List.finRange 60).map Fin.succ) (by decide +kernel) (by decide +kernel), sep_cons, bigSepL_map]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ bigSepL allDues (tok c)) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 61 => semVal (kcell (c, k)) 0) ∗ bigSep Finset.univ fun k : Fin 61 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ bigSepL allDues (tok c)) : sProp 𝕄)
      ⊢ bigSep Finset.univ (G' m ρ) := by
  rw [bigSep_sep', bigSep_sep', ← bigSep_univ_prod (fun ck : Dev nD × Fin 61 => iprop(∃ κ : ℕ, cellInv ER (Rd m ρ) κ (kcell ck))),
    bigSep_congr (s := Finset.univ) (fun (c : Dev nD) _ => bigSep_sep' Finset.univ (fun k : Fin 61 => (atPos ER (kcell (c, k)) 0 ∅ 0 : sProp 𝕄)) (fun k => reached ER (kcell (c, k)) 0)),
    bigSep_sep', ← bigSep_univ_prod (fun ck : Dev nD × Fin 61 => (reached ER (kcell ck) 0 : sProp 𝕄))]
  iintro ⟨HI, ⟨Hat, #HR⟩, Htok⟩
  ihave HK := (BI.bigSep_exists_pi Finset.univ (fun (ck : Dev nD × Fin 61) (κ : ℕ) => (cellInv ER (Rd m ρ) κ (kcell ck) : sProp 𝕄))) $$ HI
  icases HK with ⟨%K, #HI⟩
  have hk : ∀ c ∈ (Finset.univ : Finset (Dev nD)),
      iprop(records m ρ K ∗ ((bigSep Finset.univ fun k : Fin 61 => (atPos ER (kcell (c, k)) 0 ∅ 0 : sProp 𝕄)) ∗ bigSepL allDues (tok c))) ⊢ G' m ρ c := fun c _ => by
    unfold G'
    iintro ⟨#HR, Ha, Ht⟩
    iexists K
    isplitr; · iexact HR
    isplitl [Ha]; · iexact Ha
    iexact Ht
  iapply (beside (R := records m ρ K) hk)
  isplitr
  · unfold records; isplitl; · iexact HI
    iexact HR
  · iapply (Entails.of_eq (bigSep_sep' Finset.univ (fun c : Dev nD => bigSep Finset.univ fun k : Fin 61 => (atPos ER (kcell (c, k)) 0 ∅ 0 : sProp 𝕄)) (fun c => bigSepL allDues (tok c))).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The phase a cell starts in. -/
def ph0 : Cell → Ph
  | .bar => .armed | .ws .. => .idle | .wr .. => .armed | .ys .. => .idle | .yr k _ => if k = 0 then .idle else .armed
def armedL : List Cell := allCells.filter fun cl => ph0 cl = .armed
theorem s0_eq : s0 = allCells.map fun cl => (cl, ph0 cl) := by decide +kernel

theorem gcell_inj {c c' : Dev nD} {cl cl' : Cell} (h : gcell c cl = gcell c' cl') : c = c' ∧ cl = cl' := by
  have h1 : c = c' := congrArg (fun g : GSem nD τ sig => g.1.1) h
  have h2 := congrArg dec h
  rw [dec_gcell, dec_gcell] at h2
  exact ⟨h1, Option.some.inj h2⟩

/-- How often a list of dues of device `d` pays cell `cl` of device `c`. -/
def times (c : Dev nD) (cl : Cell) (d : Dev nD) : List Due → ℕ
  | [] => 0
  | u :: l => times c cl d l + if dx d u.to = c ∧ u.cell = cl then 1 else 0

theorem owedL_at (c : Dev nD) (cl : Cell) (d : Dev nD) : ∀ l : List Due, owedL d l (gcell c cl) () = amt cl * times c cl d l
  | [] => rfl
  | u :: l => by
    unfold owedL times
    rw [Pi.add_apply, Finsupp.add_apply, owedL_at c cl d l, tallyAt_apply, Nat.mul_add]
    congr 1
    by_cases h : dx d u.to = c ∧ u.cell = cl
    · obtain ⟨rfl, rfl⟩ := h
      rw [if_pos ⟨rfl, rfl⟩, if_pos ⟨rfl, rfl⟩, Nat.mul_one]
    · rw [if_neg h, if_neg fun hg => h ⟨(gcell_inj hg.1).1.symm, (gcell_inj hg.1).2.symm⟩, Nat.mul_zero]

def totalTimes (c : Dev nD) (cl : Cell) : ℕ := ∑ d : Dev nD, times c cl d allDues
theorem times_wr : ∀ (c : Dev nD) (s : Fin 2) (i : Fin 7), totalTimes c (.wr s i) = 1 := by decide +kernel
theorem times_bar : ∀ (c : Dev nD), totalTimes c .bar = 3 := by decide +kernel
theorem times_yr : ∀ (c : Dev nD) (k : Fin 8) (s : Fin 2), k ≠ 0 → totalTimes c (.yr k s) = 1 := by decide +kernel

theorem amt_times (c : Dev nD) (cl : Cell) (h : ph0 cl = .armed) : amt cl * totalTimes c cl = total cl := by
  cases cl with
  | bar => rw [times_bar]; rfl
  | ws s i => cases h
  | wr s i => rw [times_wr]; exact Nat.mul_one _
  | ys k s => cases h
  | yr k s => rw [times_yr c k s (fun hk => by subst hk; cases h)]; exact Nat.mul_one _

theorem launch_cell (c : Dev nD) (cl : Cell) (h : ph0 cl = .armed) :
    tallyOn (gcell c cl) (launchCredit (Pipeline.owing O₀) 0 (gcell c cl)) = (tallyAt (gcell c cl) () (total cl) : CellTallies nD τ sig Unit) := by
  have hsum : (∑ d : Dev nD, O₀ d (gcell c cl) PUnit.unit) = ∑ d : Dev nD, amt cl * times c cl d allDues := Finset.sum_congr rfl fun d _ => owedL_at c cl d allDues
  unfold tallyAt; refine congrArg _ (Finsupp.ext fun u => ?_); cases u
  rw [Pipeline.launchCredit_owing, Finsupp.single_eq_same, hsum, ← Finset.mul_sum]
  exact amt_times c cl h

theorem armed_nodup : ∀ c : Dev nD, (armedL.map (ki c)).Nodup := by decide +kernel

theorem armed_locs (c : Dev nD) : (armedL.map (cloc c)).Nodup := by
  have : armedL.map (cloc c) = (armedL.map (ki c)).map csem := by rw [List.map_map]; rfl
  rw [this]
  exact List.Nodup.map (fun a b h => csem_inj h) (armed_nodup c)

omit [FloatOps F] in
theorem armed_of_all (c : Dev nD) (Φ : SemLoc sig → sProp 𝕄) : bigSep Finset.univ Φ ⊢ bigSepL armedL fun cl => Φ (cloc c cl) := by
  have e : bigSep (armedL.map (cloc c)).toFinset Φ = bigSepL armedL fun cl => Φ (cloc c cl) := by
    rw [bigSep_eq_bigSepL_of_eq (armedL.map (cloc c)) rfl (armed_locs c), bigSepL_map]
  rw [← e]
  exact BI.bigSep_subset (Finset.subset_univ _)

omit [FloatOps F] in
theorem creds (c : Dev nD) : (Pipeline.launchCred O₀ c : sProp 𝕄) ⊢ bigSepL armedL fun cl => cred (tallyAt (gcell c cl) () (total cl)) := by
  unfold Pipeline.launchCred
  refine (armed_of_all c _).trans (bigSepL_mono fun cl hcl => ?_)
  have h : ph0 cl = .armed := of_decide_eq_true (List.mem_filter.mp hcl).2
  have e := launch_cell c cl h
  show (cred (tallyOn (gcell c cl) (launchCredit (Pipeline.owing O₀) 0 (gcell c cl))) : sProp 𝕄) ⊢ _
  rw [e]

omit [FloatOps F] in
theorem arm (c : Dev nD) : ∀ l : List Cell,
    iprop((bigSepL l fun cl => (atPos ER (gcell c cl) 0 ∅ 0 : sProp 𝕄)) ∗ bigSepL (l.filter fun cl => ph0 cl = .armed) fun cl => cred (tallyAt (gcell c cl) () (total cl)))
      ⊢ bigSepL (l.map fun cl => (cl, ph0 cl)) (semAt c)
  | [] => by iintro ⟨H, -⟩; iexact H
  | cl :: l => by
    have ih := arm c l
    by_cases h : ph0 cl = .armed
    · rw [List.filter_cons_of_pos (by rw [h]; rfl), List.map_cons, sep_cons, sep_cons, sep_cons, h, semAt_armed]
      iintro ⟨⟨Ha, HA⟩, Hc, HC⟩
      isplitl [Ha Hc]
      · isplitl [Ha]; · iexact Ha
        iexact Hc
      iapply ih
      isplitl [HA]; · iexact HA
      iexact HC
    · have hi : ph0 cl = .idle := by
        cases cl with
        | bar => exact (h rfl).elim
        | ws s i => rfl
        | wr s i => exact (h rfl).elim
        | ys k s => rfl
        | yr k s => unfold ph0 at h ⊢; dsimp only at h ⊢; split at h <;> simp_all
      rw [List.filter_cons_of_neg (by rw [hi]; decide), List.map_cons, sep_cons, sep_cons, hi, semAt_idle]
      iintro ⟨⟨Ha, HA⟩, HC⟩
      isplitl [Ha]; · iexact Ha
      iapply ih
      isplitl [HA]; · iexact HA
      iexact HC

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, ⟨%K, #HR, Ha, Ht⟩⟩
  ihave Hc := (creds (F := F) c) $$ Hcr
  ihave Ha' := (Entails.of_eq (cells_list c (fun k => (atPos ER (kcell (c, k)) 0 ∅ 0 : sProp 𝕄)))) $$ Ha
  imodintro
  unfold start
  isplitl
  · iexists K
    isplitr; · iexact HR
    isplitl [Hlev]; · iexact Hlev
    isplitl [Ht]; · iexact Ht
    rw [s0_eq]
    iapply (arm (F := F) c allCells)
    isplitl [Ha']; · iexact Ha'
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems_eq]
  iintro ⟨⟨Hu, Ho⟩, Hr⟩
  isplitl [Hu]; · iexact Hu
  isplitl [Ho]; · iexact Ho
  iexact Hr

theorem dues_pos : ∀ d ∈ allDues, 0 < lvC d.cell := by decide +kernel
theorem stage_lv (c : Dev nD) (q : DmaSem sig) (hq : q.val < 3) : lv ((c : Thread nD τ), .dma q) () = 0 := by
  have : rowOf (SemLoc.dma q) = none := if_neg (by omega)
  unfold lv dec
  rw [show ((c : Thread nD τ), SemLoc.dma q).2 = SemLoc.dma q from rfl, this]
  rfl

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · exact mayWait_of c (.dma q) 0 (le_of_eq (stage_lv c q hq)) allDues dues_pos
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body

set_option maxRecDepth 8000 in
/-- Every weakly fair execution of the eight devices terminates, with the computed result, the arguments
    unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gather

end
-- ==== Proof.Frames.lean ====
/-
# The arrays after the run

The two arguments keep what the launch found in them, and the result holds `outF`.
-/
module

public import proofs.«01_k».proof.Defs
public import proofs.«01_k».proof.Proof.Launch

@[expose] public section

noncomputable section

namespace Cert.KernelIdeal.Gather

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem kept_x (c : Dev nD) : finalA m ρ c (0 : Fin 3) = m (c.tc.loc main_arg0) :=
  (dats (F := F) m ρ 0 c).arrAt_in (0 : Fin 3) rfl _

theorem kept_w (c : Dev nD) : finalA m ρ c (1 : Fin 3) = m (c.tc.loc main_arg1) :=
  (dats (F := F) m ρ 0 c).arrAt_in (1 : Fin 3) rfl _

/-- The one write-back of the result window puts the whole staged result in the array. -/
theorem final_out (c : Dev nD) : finalA m ρ c (2 : Fin 3) = outF m ρ c := by
  unfold finalA
  refine (dats (F := F) m ρ 0 c).arrAt_eq_of_after_last (2 : Fin 3) t0_0 (by decide +kernel) _ (fun j => ?_)
  rfl

/-- Every run ends, with the arguments kept and every counter at zero. -/
theorem run_kept : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun _ h => ⟨fun c => ⟨(h.1 c (0 : Fin 3)).trans (kept_x m ρ c), (h.1 c (1 : Fin 3)).trans (kept_w m ρ c)⟩, h.2⟩)
    (run_main m ρ)

/-- What a device stages of `x` is its whole argument, and -/
theorem xstg_eq (c : Dev nD) : xstg m ρ c = m (c.tc.loc main_arg0) := by
  funext j
  show m (c.tc.loc main_arg0) _ = _
  congr 1
  funext a
  apply Fin.ext
  fin_cases a <;> simp [Pipeline.Window.blk] <;> rfl

/-- so is what it stages of `w`. -/
theorem wstg_eq (c : Dev nD) : wstg m ρ c = m (c.tc.loc main_arg1) := by
  funext j
  show m (c.tc.loc main_arg1) _ = _
  congr 1
  funext a
  apply Fin.ext
  fin_cases a <;> simp [Pipeline.Window.blk] <;> rfl

end Cert.KernelIdeal.Gather

end
-- ==== Proof.Value.lean ====
/-
# The result in exact arithmetic

Element `(r, l)` of device `c`'s result is `silu` of the product of row `r` of the whole `x` and column `l` of the
weights of device `c`; the reference computes the same.
-/
module

public import proofs.«01_k».proof.Proof.Frames
public import proofs.«01_k».proof.Proof.Gen.ReferenceIdeal.Run
public import Idealize.ShloMosaic.Lib.Pointwise
public import Idealize.ShloMosaic.Lib.Layout

@[expose] public section

noncomputable section

namespace Cert.KernelIdeal.Gather

open Cert.KernelIdeal Cert.KernelIdeal.Gen
open Idealize.ShloMosaic
open Idealize.ShloMosaic.TcCoe
open Idealize.SL.Sem

/-! ## The payloads, element by element -/

/-- `silu`, as the reference writes it. -/
def sil (y : EReal) : EReal := Ideal.div y (1 + Ideal.exp (-y))

theorem den_ne (y : EReal) : 1 + Ideal.exp y ≠ 0 := by
  induction y using EReal.rec with
  | bot => simp
  | top => rw [Ideal.exp_top, EReal.add_top_of_ne_bot (by decide)]; exact EReal.top_ne_zero
  | coe r =>
    rw [Ideal.exp_coe, ← EReal.coe_one, ← EReal.coe_add, ← EReal.coe_zero, Ne, EReal.coe_eq_coe_iff]
    have := Real.exp_pos r
    linarith

/-- The kernel multiplies by the reciprocal of the denominator. -/
theorem sil_recip (y : EReal) : y * Ideal.div 1 (1 + Ideal.exp (0 - y)) = sil y := by
  rw [sil, zero_sub, Ideal.div, Ideal.div, if_neg (den_ne _), if_neg (den_ne _), one_mul]

theorem pay1_apply (v : Vec Ideal S4096x128 .bf16) (k : Fin 4096) (l : Fin 128) :
    k0_pay1 (F := Ideal) v (ix3 0 k l) = v (ix2 k l) := by
  pointwise [k0_pay1]

theorem pay3_apply (v : Vec Ideal S512x4096 .bf16) (r : Fin 512) (k : Fin 4096) :
    k0_pay3 (F := Ideal) v (ix2 r k) = v (ix2 r k) := by
  pointwise [k0_pay3]

theorem pay4_apply (x : Vec Ideal S512x4096 .bf16) (w : Vec Ideal S1x4096x256 .bf16) (r : Fin 512) (l : Fin 256) :
    k0_pay4 (F := Ideal) x w (ix2 r l) = sil (∑ k : Fin 4096, x (ix2 r k) * w (ix3 0 k l)) := by
  rw [← sil_recip]
  pointwise [k0_pay4]

theorem pay5_apply (x : Vec Ideal S512x4096 .bf16) (w : Vec Ideal S1x4096x128 .bf16) (r : Fin 512) (l : Fin 128) :
    k0_pay5 (F := Ideal) x w (ix3 0 r l) = sil (∑ k : Fin 4096, x (ix2 r k) * w (ix3 0 k l)) := by
  rw [← sil_recip]
  pointwise [k0_pay5]

theorem pay30_apply (v : Vec Ideal S1x512x256 .bf16) (r : Fin 512) (l : Fin 256) :
    k0_pay30 (F := Ideal) v (ix2 r l) = v (ix3 0 r l) := by
  pointwise [k0_pay30]

/-! ## The buffers, element by element -/

variable (m : (ℓ : Loc nD τ sig) → Buf (Elt Ideal) ℓ) (ρ : Dev nD → PrngReg)

/-- A device's arguments, as matrices. -/
def xOf (c : Dev nD) (r : Fin 512) (k : Fin 4096) : EReal := m (c.tc.loc main_arg0) (ix2 r k)
def wOf (c : Dev nD) (k : Fin 4096) (l : Fin 256) : EReal := m (c.tc.loc main_arg1) (ix2 k l)

theorem xF_apply (c : Dev nD) (r : Fin 512) (k : Fin 4096) : xF m ρ c (ix2 r k) = xOf m c r k := by
  rw [xF, pay3_apply, xstg_eq]; rfl

theorem dvOf_val (o : Dev nD) : dvOf o.val = o := Fin.ext (Nat.mod_eq_of_lt o.isLt)

theorem wgF_apply (o : Dev nD) (k : Fin 4096) (l : Fin 256) : wgF m ρ (ix3 o k l) = wOf m o k l := by
  show wh m ρ (dvOf o.val) (hfOf l.val) (inW (ix3 o k l)) = _
  have e : inW (ix3 o k l) = ix3 0 k ⟨l.val % 128, Nat.mod_lt _ (by decide)⟩ := by
    funext a; fin_cases a <;> rfl
  rw [e, wh, pay1_apply, wstg_eq, dvOf_val, wOf]
  congr 1
  funext a
  apply Fin.ext
  rw [ValueKit.rect_emb_unit_val]
  have hl := l.isLt
  fin_cases a
  · show 0 + k.val = k.val; omega
  · show 128 * (l.val / 128 % 2) + l.val % 128 = l.val; omega

/-- A device's kept block: its own rows and its own weights. -/
theorem own_apply (c : Dev nD) (r : Fin 512) (l : Fin 256) :
    k0_pay4 (xF m ρ c) (fun j => wgF m ρ ((rWw c).emb j)) (ix2 r l) = sil (∑ k : Fin 4096, xOf m c r k * wOf m c k l) := by
  rw [pay4_apply]
  congr 1
  refine Finset.sum_congr rfl fun k _ => ?_
  rw [xF_apply]
  congr 1
  rw [← wgF_apply m ρ c k l]
  congr 1
  funext a
  apply Fin.ext
  rw [ValueKit.rect_emb_unit_val]
  fin_cases a
  · show c.val + 0 = c.val; omega
  · show 0 + k.val = k.val; omega
  · show 0 + l.val = l.val; omega

/-- Half `s` of the block device `c` computes for device `o`. -/
theorem yv_apply (c o : Dev nD) (s : Fin 2) (r : Fin 512) (l : Fin 128) (l' : Fin 256) (hl : l'.val = 128 * s.val + l.val) :
    yv m ρ c o s (ix3 0 r l) = sil (∑ k : Fin 4096, xOf m c r k * wOf m o k l') := by
  rw [yv, pay5_apply]
  congr 1
  refine Finset.sum_congr rfl fun k _ => ?_
  rw [xF_apply]
  congr 1
  rw [← wgF_apply m ρ o k l']
  congr 1
  funext a
  apply Fin.ext
  rw [ValueKit.rect_emb_unit_val]
  fin_cases a
  · show o.val + 0 = o.val; omega
  · show 0 + k.val = k.val; omega
  · show 128 * s.val + l.val = l'.val; omega

/-- What device `c` gets from device `d`. -/
theorem got_apply (c d : Dev nD) (r : Fin 512) (l : Fin 256) :
    k0_pay30 (fun j => yiF m ρ c ((rYw d).emb j)) (ix2 r l) = sil (∑ k : Fin 4096, xOf m d r k * wOf m c k l) := by
  rw [pay30_apply]
  have e : (rYw d).emb (ix3 0 r l) = ix3 d r l := by
    funext a
    apply Fin.ext
    rw [ValueKit.rect_emb_unit_val]
    fin_cases a
    · show d.val + 0 = d.val; omega
    · show 0 + r.val = r.val; omega
    · show 0 + l.val = l.val; omega
  rw [e]
  show yv m ρ (dvOf d.val) c (hfOf l.val) (inY (ix3 d r l)) = _
  have e' : inY (ix3 d r l) = ix3 0 r ⟨l.val % 128, Nat.mod_lt _ (by decide)⟩ := by
    funext a; fin_cases a <;> rfl
  rw [e', dvOf_val]
  refine yv_apply m ρ d c _ r _ l ?_
  have hl := l.isLt
  show l.val = 128 * (l.val / 128 % 2) + l.val % 128
  omega

/-- The whole result of a device: row `r` is computed from the rows of `x` on device `r / 512`. -/
theorem outF_apply (c : Dev nD) (r : Fin 4096) (l : Fin 256) :
    outF m ρ c (ix2 r l)
      = sil (∑ k : Fin 4096, xOf m (dvOf (r.val / 512)) ⟨r.val % 512, Nat.mod_lt _ (by decide)⟩ k * wOf m c k l) := by
  have e : inO (ix2 r l) = ix2 ⟨r.val % 512, Nat.mod_lt _ (by decide)⟩ l := by
    funext a; fin_cases a <;> rfl
  unfold outF
  rw [e]
  show (if dvOf (r.val / 512) = c then _ else _) = _
  split
  · rename_i h; rw [own_apply, h]
  · exact got_apply m ρ c _ _ l

/-! ## The reference -/

/-- The reference's result from its two arguments. -/
def refOut (X : FVec Ideal ReferenceIdeal.S4096x4096 .bf16) (W : FVec Ideal ReferenceIdeal.S4096x2048 .bf16) :
    FVec Ideal ReferenceIdeal.S4096x2048 .f32 :=
  have y : FVec Ideal ReferenceIdeal.S4096x2048 .f32 := extf .f32 (truncf .bf16
    (Host.dotGeneral ReferenceIdeal.dot_S4096x4096_S4096x2048_S4096x2048_1_0_0_1_n_n none X W)
    ReferenceIdeal.Facts₀.bitsLt_bf16_f32) ReferenceIdeal.Facts₀.bitsLt_bf16_f32
  Host.divf y (addf (broadcastInDim ReferenceIdeal.S4096x2048 ![] ReferenceIdeal.Facts₀.bcast_S_S4096x2048
    (constant (F := Ideal) ReferenceIdeal.S_ .f32 0x3F800000#32)) (Host.exp (Host.negf y)))

theorem refOut_apply (X : FVec Ideal ReferenceIdeal.S4096x4096 .bf16) (W : FVec Ideal ReferenceIdeal.S4096x2048 .bf16)
    (r : Fin 4096) (l : Fin 2048) :
    refOut X W (ix2 r l) = sil (∑ k : Fin 4096, X (ix2 r k) * W (ix2 k l)) := by
  unfold sil
  pointwise [refOut]

/-- A device's result is its block of columns of the reference's. -/
theorem outF_block (X : FVec Ideal ReferenceIdeal.S4096x4096 .bf16) (W : FVec Ideal ReferenceIdeal.S4096x2048 .bf16)
    (hx : ∀ c : Dev nD, m (c.tc.loc main_arg0) = Layout.block ⟨2, ![512, 4096]⟩ ⟨2, ![4096, 4096]⟩ 0 8 c X)
    (hw : ∀ c : Dev nD, m (c.tc.loc main_arg1) = Layout.block ⟨2, ![4096, 256]⟩ ⟨2, ![4096, 2048]⟩ 1 8 c W) (c : Dev nD) :
    outF m ρ c = Layout.block ⟨2, ![4096, 256]⟩ ⟨2, ![4096, 2048]⟩ 1 8 c (refOut X W) := by
  funext i
  have hr : (i 0).val < 4096 := (i 0).isLt
  have hl : (i 1).val < 256 := (i 1).isLt
  have hc : c.val < 8 := c.isLt
  have ei : i = ix2 (⟨(i 0).val, hr⟩ : Fin 4096) (⟨(i 1).val, hl⟩ : Fin 256) := by
    funext a; fin_cases a <;> rfl
  generalize (⟨(i 0).val, hr⟩ : Fin 4096) = r at ei
  generalize (⟨(i 1).val, hl⟩ : Fin 256) = l at ei
  subst ei
  rw [outF_apply, Layout.block_apply]
  have e : (Layout.Tiles.idx (by decide : Layout.Tiles ⟨2, ![4096, 256]⟩ ⟨2, ![4096, 2048]⟩ 1 8) c (ix2 r l))
      = ix2 r (⟨c.val * 256 + l.val, by have := l.isLt; omega⟩ : Fin 2048) := by
    funext a; fin_cases a <;> rfl
  rw [e, refOut_apply]
  congr 1
  refine Finset.sum_congr rfl fun k _ => ?_
  congr 1
  · rw [xOf, hx, Layout.block_apply]
    congr 1
    funext a
    apply Fin.ext
    have := r.isLt
    fin_cases a
    · show (r.val / 512 % 8) * 512 + r.val % 512 = r.val; omega
    · rfl
  · rw [wOf, hw, Layout.block_apply]
    congr 1
    funext a; fin_cases a <;> rfl

end Cert.KernelIdeal.Gather

end
-- ==== Proof.Same.lean ====
/-
# The two kernels are one text

The kernel printed for exact arithmetic has the same bodies and the same body table as the kernel printed for the
machine's floats, whatever the floats are.
-/
module

public import proofs.«01_k».proof.Proof.Frames
public import proofs.«01_k».proof.Proof.Gen.Kernel

@[expose] public section

noncomputable section

namespace Cert.Proof

open Idealize.ShloMosaic Idealize.ShloMosaic.TcCoe Idealize.SL.Sem

variable {F : FTy → Type} [FloatOps F]

theorem body_same : Cert.Kernel.cc0_body (F := F) = Cert.KernelIdeal.cc0_body (F := F) := rfl

attribute [local irreducible] Cert.Kernel.cc0_body Cert.KernelIdeal.cc0_body

theorem table_same : Cert.Kernel.defs₀ (F := F) = Cert.KernelIdeal.defs₀ (F := F) := by
  unfold Cert.Kernel.defs₀ Cert.KernelIdeal.defs₀
  refine congrArg (Defs.onTc (Λ := Cert.Kernel.Λ₀)) (funext fun l => funext fun x => ?_)
  match l, x with
  | 0, (t, s) =>
    show Cert.Kernel.cc0_body (F := F) _ _ _ _ _ _ _ _ _ _ _ _ _ _ _ _ _ _ = _
    rw [body_same]

theorem defs_same : Cert.Kernel.defs (F := F) = Cert.KernelIdeal.defs (F := F) := by
  unfold Cert.Kernel.defs Cert.KernelIdeal.defs
  exact congrArg (Pipeline.defs Cert.Kernel.pcfgs) table_same

/-- The kernel at the machine's own floats: every run ends, with the arguments kept and every counter at zero. -/
theorem frame_kernel : Cert.quiescent_Kernel := by
  intro m ρ _
  have e := Cert.KernelIdeal.Gather.run_kept (F := Bits) m ρ
  rw [← defs_same] at e
  exact e

end Cert.Proof

end
-- ==== Proof.Guard.lean ====
/-
# The overflow guard

reference.py cuts the product to `[-60, 60]` before the exponential. Where the product lies in that interval the cut
changes nothing, and the guarded result is the one without guard.
-/
module

public import proofs.«01_k».proof.Proof.Value
public import proofs.«01_k».proof.Proof.Gen.GuardedIdeal.Run
public import proofs.«01_k».proof.Proof.Gen.On_unguarded

@[expose] public section

noncomputable section

namespace Cert.KernelIdeal.Gather

open Idealize.ShloMosaic
open Idealize.ShloMosaic.TcCoe
open Idealize.SL.Sem

/-- The guarded reference's result from its two arguments. -/
def guardOut (X : FVec Ideal GuardedIdeal.S4096x4096 .bf16) (W : FVec Ideal GuardedIdeal.S4096x2048 .bf16) :
    FVec Ideal GuardedIdeal.S4096x2048 .f32 :=
  have y : FVec Ideal GuardedIdeal.S4096x2048 .f32 := extf .f32 (truncf .bf16
    (Host.dotGeneral GuardedIdeal.dot_S4096x4096_S4096x2048_S4096x2048_1_0_0_1_n_n none X W)
    GuardedIdeal.Facts₀.bitsLt_bf16_f32) GuardedIdeal.Facts₀.bitsLt_bf16_f32
  Host.divf y (addf (broadcastInDim GuardedIdeal.S4096x2048 ![] GuardedIdeal.Facts₀.bcast_S_S4096x2048
    (constant (F := Ideal) GuardedIdeal.S_ .f32 0x3F800000#32))
    (Host.exp (Host.negf (minimumf (broadcastInDim GuardedIdeal.S4096x2048 ![] GuardedIdeal.Facts₀.bcast_S_S4096x2048
      (id (constant (F := Ideal) GuardedIdeal.S_ .f32 0x42700000#32)))
      (maximumf (broadcastInDim GuardedIdeal.S4096x2048 ![] GuardedIdeal.Facts₀.bcast_S_S4096x2048
        (id (constant (F := Ideal) GuardedIdeal.S_ .f32 0xC2700000#32))) y)))))

variable (X : FVec Ideal GuardedIdeal.S4096x4096 .bf16) (W : FVec Ideal GuardedIdeal.S4096x2048 .bf16)

/-- The upper bound. -/
theorem upper_eq : Ideal.ofBits .f32 0x42700000#32 = ((60 : ℝ) : EReal) := by
  simp [Ideal.ofBits, Ideal.ieee, -EReal.coe_mul]
  norm_num

/-- The lower bound. -/
theorem lower_eq : Ideal.ofBits .f32 0xC2700000#32 = ((-60 : ℝ) : EReal) := by
  simp [Ideal.ofBits, Ideal.ieee, -EReal.coe_mul]
  norm_num

theorem guardOut_apply (r : Fin 4096) (l : Fin 2048) :
    guardOut X W (ix2 r l) = Ideal.div (∑ k : Fin 4096, X (ix2 r k) * W (ix2 k l))
      (1 + Ideal.exp (-(min ((60 : ℝ) : EReal)
        (max ((-60 : ℝ) : EReal) (∑ k : Fin 4096, X (ix2 r k) * W (ix2 k l)))))) := by
  rw [← upper_eq, ← lower_eq]
  pointwise [guardOut]
  rfl

theorem mask_apply (r : Fin 4096) (l : Fin 2048) :
    On_unguarded.fn (F := Ideal) X W (ix2 r l) = BitVec.ofBool (decide
      (max (∑ k : Fin 4096, X (ix2 r k) * W (ix2 k l)) (-∑ k : Fin 4096, X (ix2 r k) * W (ix2 k l))
        ≤ ((60 : ℝ) : EReal))) := by
  rw [← upper_eq]
  pointwise [On_unguarded.fn]
  rfl

/-- An element within the bounds is not cut. -/
theorem cut_id {y : EReal} (h : BitVec.ofBool (decide (max y (-y) ≤ ((60 : ℝ) : EReal))) = 1#1) :
    min ((60 : ℝ) : EReal) (max ((-60 : ℝ) : EReal) y) = y := by
  have h' : max y (-y) ≤ ((60 : ℝ) : EReal) := by
    by_contra hn
    rw [decide_eq_false hn] at h
    exact absurd h (by decide)
  have h1 : y ≤ ((60 : ℝ) : EReal) := (le_max_left _ _).trans h'
  have h2 : ((-60 : ℝ) : EReal) ≤ y := by
    rw [EReal.coe_neg]
    exact EReal.neg_le.mp ((le_max_right _ _).trans h')
  rw [max_eq_right h2, min_eq_right h1]

/-- Where the mask selects, the guard changes nothing. -/
theorem guard_eq (j : GuardedIdeal.S4096x2048.Idx) (h : On_unguarded.fn (F := Ideal) X W j = 1#1) :
    refOut X W j = guardOut X W j := by
  have hr : (j 0).val < 4096 := (j 0).isLt
  have hl : (j 1).val < 2048 := (j 1).isLt
  have ej : j = ix2 (⟨(j 0).val, hr⟩ : Fin 4096) (⟨(j 1).val, hl⟩ : Fin 2048) := by
    funext a; fin_cases a <;> rfl
  generalize (⟨(j 0).val, hr⟩ : Fin 4096) = r at ej
  generalize (⟨(j 1).val, hl⟩ : Fin 2048) = l at ej
  subst ej
  rw [mask_apply] at h
  rw [refOut_apply, guardOut_apply, cut_id h, sil]

end Cert.KernelIdeal.Gather

end
-- ==== Proof.lean ====
/-
# The claims

Each frame is read off its program's run; the value claim compares the kernel's result with the reference's, block by
block, in exact arithmetic.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.GuardedIdeal
public import proofs.«01_k».proof.Proof.Gen.GuardedIdeal.Run
public import proofs.«01_k».proof.Proof.Gen.On_unguarded
public import proofs.«01_k».proof.Proof.Value
public import proofs.«01_k».proof.Proof.Same
public import proofs.«01_k».proof.Proof.Guard
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal.Gather (run_main run_kept kept_x kept_w final_out outF refOut outF_block guardOut guard_eq)

/-- The kernel in exact arithmetic: every run ends, with the arguments kept and every counter at zero. -/
theorem frame_kernelIdeal : Cert.quiescent_KernelIdeal := fun m ρ _ => run_kept (F := Ideal) m ρ

/-- The reference declares no semaphore, and writes neither argument. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two programs are one text. -/
theorem preserves : Cert.preserves_Kernel_KernelIdeal := trivial

/-- From arguments cut into blocks, every device ends with its block of the reference's result. -/
theorem algebraic : Cert.algebraic_KernelIdeal_ReferenceIdeal := by
  intro m ρ m' ρ' _ hag
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c (2 : Fin 3)).trans ?_,
      (h.1 c (0 : Fin 3)).trans (kept_x m ρ c), (h.1 c (1 : Fin 3)).trans (kept_w m ρ c)⟩) (run_main (F := Ideal) m ρ)
    rw [final_out]
    exact outF_block m ρ _ _ (fun d => (hag d).1) (fun d => (hag d).2) c
  · exact (θ_run Cert.ReferenceIdeal.defs _ _).mono (fun _ h => ⟨(h 0).1, (h 0).2⟩)
      (Cert.ReferenceIdeal.Value.run (F := Ideal) m' ρ')

/-- The guarded reference declares no semaphore, and writes neither argument. -/
theorem frame_guarded : Cert.quiescent_GuardedIdeal := fun m ρ _ =>
  (θ_run Cert.GuardedIdeal.defs _ _).mono
    (fun r h => ⟨fun c => (h c).2, Idealize.ShloMosaic.sem_eq_zero_of_no_sems (by decide) r.2⟩)
    (Cert.GuardedIdeal.Value.run (F := Ideal) m ρ)

/-- Against the guarded reference, at the elements that the guard leaves as they are. -/
theorem algebraic_guarded : Cert.algebraic_KernelIdeal_GuardedIdeal_on_unguarded := by
  intro m ρ m' ρ' _ hag
  refine ⟨guardOut (m' (((0 : Dev Cert.GuardedIdeal.nD).tc : Thread _ Cert.GuardedIdeal.τ).loc Cert.GuardedIdeal.main_arg0))
    (m' (((0 : Dev Cert.GuardedIdeal.nD).tc : Thread _ Cert.GuardedIdeal.τ).loc Cert.GuardedIdeal.main_arg1)), ?_, ?_⟩
  · refine (θ_run Cert.KernelIdeal.defs _ _).mono (fun _ h c => ⟨fun i hi => (congrFun (h.1 c (2 : Fin 3)) i).trans ?_,
      (h.1 c (0 : Fin 3)).trans (kept_x m ρ c), (h.1 c (1 : Fin 3)).trans (kept_w m ρ c)⟩) (run_main (F := Ideal) m ρ)
    rw [final_out]
    exact (congrFun (outF_block m ρ _ _ (fun d => (hag d).1) (fun d => (hag d).2) c) i).trans (guard_eq _ _ _ hi)
  · exact (θ_run Cert.GuardedIdeal.defs _ _).mono (fun _ h => ⟨fun i _ => congrFun (h 0).1 i, (h 0).2⟩)
      (Cert.GuardedIdeal.Value.run (F := Ideal) m' ρ')

theorem claim : Cert.Claim := ⟨Cert.Kernel.Gen.facts, Cert.KernelIdeal.Gen.facts, Cert.ReferenceIdeal.Gen.facts,
  Cert.GuardedIdeal.Gen.facts, Cert.On_unguarded.Gen.facts,
  frame_kernel, frame_kernelIdeal, frame_reference, frame_guarded, preserves, algebraic, algebraic_guarded⟩

end Cert.Proof

end
